-- ==== Defs.lean ====
def Pre_Kernel [hPre_indices_ok : Cert.Pre_indices_ok.Facts] (m : (ℓ : Loc Cert.Kernel.nD Cert.Kernel.τ Cert.Kernel.sig) → Buf (Elt Bits) ℓ) : Prop :=
  ∀ c : Dev Cert.Kernel.nD,
    (Cert.Pre_indices_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_indices_ok : Cert.Pre_indices_ok.Facts] (m : (ℓ : Loc Cert.KernelIdeal.nD Cert.KernelIdeal.τ Cert.KernelIdeal.sig) → Buf (Elt Ideal) ℓ) : Prop :=
  ∀ c : Dev Cert.KernelIdeal.nD,
    (Cert.Pre_indices_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_indices_ok : Cert.Pre_indices_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_indices_ok : Cert.Pre_indices_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_indices_ok : Cert.Pre_indices_ok.Facts) (hPre_inputs_ok : Cert.Pre_inputs_ok.Facts),
    quiescent_Kernel (hKernel := hKernel) (hPre_indices_ok := hPre_indices_ok)
    ∧ quiescent_KernelIdeal (hKernelIdeal := hKernelIdeal) (hPre_indices_ok := hPre_indices_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_indices_ok.lean ====
abbrev S16384x256 : Shape := ⟨2, ![16384, 256]⟩
abbrev S256x512 : Shape := ⟨2, ![256, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S512x64 : Shape := ⟨2, ![512, 64]⟩
abbrev S64 : Shape := ⟨1, ![64]⟩
abbrev S512x1 : Shape := ⟨2, ![512, 1]⟩
abbrev S1 : Shape := ⟨1, ![1]⟩
abbrev S16384 : Shape := ⟨1, ![16384]⟩
abbrev S8192 : Shape := ⟨1, ![8192]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_arg14 : IVec S8192 32) (main_v12 : IVec S_ 1) (main_v14 : IVec S8192 1) (main_v15 : IVec S8192 32) : IVec S_ 1 :=
  let main_v16 : IVec S8192 1 := cmpi .slt main_arg14 main_v15
  let main_v17 : IVec S8192 1 := andi main_v14 main_v16
  let main_c_7 : IVec S_ 1 := constantI S_ 1 1#1
  let main_v18 : IVec S_ 1 := (fun x v => Host.reduce IntOp.andi x v reducesTo_S8192_S_d0 h_S_) main_v17 main_c_7
  let main_v19 : IVec S_ 1 := andi main_v12 main_v18
  main_v19

def fn {F : FTy → Type} [FloatOps F] (main_arg0 : FVec F S16384x256 .f32) (main_arg1 : FVec F S256x512 .f32) (main_arg2 : FVec F S512 .f32) (main_arg3 : FVec F S512x2048 .f32) (main_arg4 : FVec F S2048 .f32) (main_arg5 : FVec F S2048x512 .f32) (main_arg6 : FVec F S512 .f32) (main_arg7 : FVec F S512x64 .f32) (main_arg8 : FVec F S64 .f32) (main_arg9 : FVec F S512x1 .f32) (main_arg10 : FVec F S1 .f32) (main_arg11 : IVec S16384 32) (main_arg12 : IVec S16384 32) (main_arg13 : IVec S8192 32) (main_arg14 : IVec S8192 32) : IVec S_ 1 :=
  let main_c : IVec S_ 32 := constantI S_ 32 0#32
  let main_v0 : IVec S16384 32 := broadcastInDim S16384 ![] bcast_S_S16384 main_c
  let main_v1 : IVec S16384 1 := cmpi .sge main_arg12 main_v0
  let main_c_0 : IVec S_ 32 := constantI S_ 32 16384#32
  let main_v2 : IVec S16384 32 := broadcastInDim S16384 ![] bcast_S_S16384 main_c_0
  let main_v3 : IVec S16384 1 := cmpi .slt main_arg12 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S8192 32 := broadcastInDim S8192 ![] bcast_S_S8192 main_c_2
  let main_v7 : IVec S8192 1 := cmpi .sge main_arg13 main_v6
  let main_c_3 : IVec S_ 32 := constantI S_ 32 16384#32
  let main_v8 : IVec S8192 32 := broadcastInDim S8192 ![] bcast_S_S8192 main_c_3
  let main_v9 : IVec S8192 1 := cmpi .slt main_arg13 main_v8
  let main_v10 : IVec S8192 1 := andi main_v7 main_v9
  let main_c_4 : IVec S_ 1 := constantI S_ 1 1#1
  let main_v11 : IVec S_ 1 := (fun x v => Host.reduce IntOp.andi x v reducesTo_S8192_S_d0 h_S_) main_v10 main_c_4
  let main_v12 : IVec S_ 1 := andi main_v5 main_v11
  let main_c_5 : IVec S_ 32 := constantI S_ 32 0#32
  let main_v13 : IVec S8192 32 := broadcastInDim S8192 ![] bcast_S_S8192 main_c_5
  let main_v14 : IVec S8192 1 := cmpi .sge main_arg14 main_v13
  let main_c_6 : IVec S_ 32 := constantI S_ 32 64#32
  let main_v15 : IVec S8192 32 := broadcastInDim S8192 ![] bcast_S_S8192 main_c_6
  fn_part1 (F := F) main_arg14 main_v12 main_v14 main_v15
-- ==== Pre_inputs_ok.lean ====
abbrev S16384x256 : Shape := ⟨2, ![16384, 256]⟩
abbrev S256x512 : Shape := ⟨2, ![256, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S512x64 : Shape := ⟨2, ![512, 64]⟩
abbrev S64 : Shape := ⟨1, ![64]⟩
abbrev S512x1 : Shape := ⟨2, ![512, 1]⟩
abbrev S1 : Shape := ⟨1, ![1]⟩
abbrev S16384 : Shape := ⟨1, ![16384]⟩
abbrev S8192 : Shape := ⟨1, ![8192]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S8192 : S_.BroadcastsInDim S8192 (![] : Fin 0 → Fin S8192.rank)
  reducesTo_S8192_S_d0 : S8192.ReducesTo [0] S_
  bcast_S_S512 : S_.BroadcastsInDim S512 (![] : Fin 0 → Fin S512.rank)
  reducesTo_S512_S_d0 : S512.ReducesTo [0] S_
  bcast_S_S2048 : S_.BroadcastsInDim S2048 (![] : Fin 0 → Fin S2048.rank)
  reducesTo_S2048_S_d0 : S2048.ReducesTo [0] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S16384x256 : S_.BroadcastsInDim S16384x256 (![] : Fin 0 → Fin S16384x256.rank)
  reducesTo_S16384x256_S_d0_1 : S16384x256.ReducesTo [0, 1] S_
  bcast_S_S256x512 : S_.BroadcastsInDim S256x512 (![] : Fin 0 → Fin S256x512.rank)
  reducesTo_S256x512_S_d0_1 : S256x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S512x64 : S_.BroadcastsInDim S512x64 (![] : Fin 0 → Fin S512x64.rank)
  reducesTo_S512x64_S_d0_1 : S512x64.ReducesTo [0, 1] S_

variable [Facts]

def fn_part3 {F : FTy → Type} [FloatOps F] (main_arg3 : FVec F S512x2048 .f32) (main_arg5 : FVec F S2048x512 .f32) (main_arg7 : FVec F S512x64 .f32) (main_v44 : IVec S_ 1) (main_v48 : IVec S_ 1) : IVec S_ 1 :=
  let main_v49 : IVec S_ 1 := andi main_v44 main_v48
  let main_v50 : FVec F S512x2048 .f32 := Host.absf main_arg3
  let main_cst_21 : FVec F S_ .f32 := constant S_ .f32 0x7F800000#32
  let main_v51 : FVec F S512x2048 .f32 := broadcastInDim S512x2048 ![] bcast_S_S512x2048 main_cst_21
  let main_v52 : IVec S512x2048 1 := cmpf .olt main_v50 main_v51
  let main_c_22 : IVec S_ 1 := constantI S_ 1 1#1
  let main_v53 : IVec S_ 1 := (fun x v => Host.reduce IntOp.andi x v reducesTo_S512x2048_S_d0_1 h_S_) main_v52 main_c_22
  let main_v54 : IVec S_ 1 := andi main_v49 main_v53
  let main_v55 : FVec F S2048x512 .f32 := Host.absf main_arg5
  let main_cst_23 : FVec F S_ .f32 := constant S_ .f32 0x7F800000#32
  let main_v56 : FVec F S2048x512 .f32 := broadcastInDim S2048x512 ![] bcast_S_S2048x512 main_cst_23
  let main_v57 : IVec S2048x512 1 := cmpf .olt main_v55 main_v56
  let main_c_24 : IVec S_ 1 := constantI S_ 1 1#1
  let main_v58 : IVec S_ 1 := (fun x v => Host.reduce IntOp.andi x v reducesTo_S2048x512_S_d0_1 h_S_) main_v57 main_c_24
  let main_v59 : IVec S_ 1 := andi main_v54 main_v58
  let main_v60 : FVec F S512x64 .f32 := Host.absf main_arg7
  let main_cst_25 : FVec F S_ .f32 := constant S_ .f32 0x7F800000#32
  let main_v61 : FVec F S512x64 .f32 := broadcastInDim S512x64 ![] bcast_S_S512x64 main_cst_25
  let main_v62 : IVec S512x64 1 := cmpf .olt main_v60 main_v61
  let main_c_26 : IVec S_ 1 := constantI S_ 1 1#1
  let main_v63 : IVec S_ 1 := (fun x v => Host.reduce IntOp.andi x v reducesTo_S512x64_S_d0_1 h_S_) main_v62 main_c_26
  let main_v64 : IVec S_ 1 := andi main_v59 main_v63
  main_v64

def fn_part2 {F : FTy → Type} [FloatOps F] (main_arg0 : FVec F S16384x256 .f32) (main_arg1 : FVec F S256x512 .f32) (main_arg3 : FVec F S512x2048 .f32) (main_arg5 : FVec F S2048x512 .f32) (main_arg7 : FVec F S512x64 .f32) (main_arg8 : FVec F S64 .f32) (main_arg10 : FVec F S1 .f32) (main_v31 : IVec S_ 1) (main_cst_13 : FVec F S_ .f32) : IVec S_ 1 :=
  let main_v32 : FVec F S64 .f32 := broadcastInDim S64 ![] bcast_S_S64 main_cst_13
  let main_v33 : IVec S64 1 := cmpf .oeq main_arg8 main_v32
  let main_c_14 : IVec S_ 1 := constantI S_ 1 1#1
  let main_v34 : IVec S_ 1 := (fun x v => Host.reduce IntOp.andi x v reducesTo_S64_S_d0 h_S_) main_v33 main_c_14
  let main_v35 : IVec S_ 1 := andi main_v31 main_v34
  let main_cst_15 : FVec F S_ .f32 := constant S_ .f32 0x00000000#32
  let main_v36 : FVec F S1 .f32 := broadcastInDim S1 ![] bcast_S_S1 main_cst_15
  let main_v37 : IVec S1 1 := cmpf .oeq main_arg10 main_v36
  let main_c_16 : IVec S_ 1 := constantI S_ 1 1#1
  let main_v38 : IVec S_ 1 := (fun x v => Host.reduce IntOp.andi x v reducesTo_S1_S_d0 h_S_) main_v37 main_c_16
  let main_v39 : IVec S_ 1 := andi main_v35 main_v38
  let main_v40 : FVec F S16384x256 .f32 := Host.absf main_arg0
  let main_cst_17 : FVec F S_ .f32 := constant S_ .f32 0x7F800000#32
  let main_v41 : FVec F S16384x256 .f32 := broadcastInDim S16384x256 ![] bcast_S_S16384x256 main_cst_17
  let main_v42 : IVec S16384x256 1 := cmpf .olt main_v40 main_v41
  let main_c_18 : IVec S_ 1 := constantI S_ 1 1#1
  let main_v43 : IVec S_ 1 := (fun x v => Host.reduce IntOp.andi x v reducesTo_S16384x256_S_d0_1 h_S_) main_v42 main_c_18
  let main_v44 : IVec S_ 1 := andi main_v39 main_v43
  let main_v45 : FVec F S256x512 .f32 := Host.absf main_arg1
  let main_cst_19 : FVec F S_ .f32 := constant S_ .f32 0x7F800000#32
  let main_v46 : FVec F S256x512 .f32 := broadcastInDim S256x512 ![] bcast_S_S256x512 main_cst_19
  let main_v47 : IVec S256x512 1 := cmpf .olt main_v45 main_v46
  let main_c_20 : IVec S_ 1 := constantI S_ 1 1#1
  let main_v48 : IVec S_ 1 := (fun x v => Host.reduce IntOp.andi x v reducesTo_S256x512_S_d0_1 h_S_) main_v47 main_c_20
  fn_part3 (F := F) main_arg3 main_arg5 main_arg7 main_v44 main_v48

def fn_part1 {F : FTy → Type} [FloatOps F] (main_arg0 : FVec F S16384x256 .f32) (main_arg1 : FVec F S256x512 .f32) (main_arg2 : FVec F S512 .f32) (main_arg3 : FVec F S512x2048 .f32) (main_arg4 : FVec F S2048 .f32) (main_arg5 : FVec F S2048x512 .f32) (main_arg6 : FVec F S512 .f32) (main_arg7 : FVec F S512x64 .f32) (main_arg8 : FVec F S64 .f32) (main_arg10 : FVec F S1 .f32) (main_arg14 : IVec S8192 32) (main_v12 : IVec S_ 1) (main_v14 : IVec S8192 1) (main_v15 : IVec S8192 32) : IVec S_ 1 :=
  let main_v16 : IVec S8192 1 := cmpi .slt main_arg14 main_v15
  let main_v17 : IVec S8192 1 := andi main_v14 main_v16
  let main_c_7 : IVec S_ 1 := constantI S_ 1 1#1
  let main_v18 : IVec S_ 1 := (fun x v => Host.reduce IntOp.andi x v reducesTo_S8192_S_d0 h_S_) main_v17 main_c_7
  let main_v19 : IVec S_ 1 := andi main_v12 main_v18
  let main_cst : FVec F S_ .f32 := constant S_ .f32 0x00000000#32
  let main_v20 : FVec F S512 .f32 := broadcastInDim S512 ![] bcast_S_S512 main_cst
  let main_v21 : IVec S512 1 := cmpf .oeq main_arg2 main_v20
  let main_c_8 : IVec S_ 1 := constantI S_ 1 1#1
  let main_v22 : IVec S_ 1 := (fun x v => Host.reduce IntOp.andi x v reducesTo_S512_S_d0 h_S_) main_v21 main_c_8
  let main_v23 : IVec S_ 1 := andi main_v19 main_v22
  let main_cst_9 : FVec F S_ .f32 := constant S_ .f32 0x00000000#32
  let main_v24 : FVec F S2048 .f32 := broadcastInDim S2048 ![] bcast_S_S2048 main_cst_9
  let main_v25 : IVec S2048 1 := cmpf .oeq main_arg4 main_v24
  let main_c_10 : IVec S_ 1 := constantI S_ 1 1#1
  let main_v26 : IVec S_ 1 := (fun x v => Host.reduce IntOp.andi x v reducesTo_S2048_S_d0 h_S_) main_v25 main_c_10
  let main_v27 : IVec S_ 1 := andi main_v23 main_v26
  let main_cst_11 : FVec F S_ .f32 := constant S_ .f32 0x00000000#32
  let main_v28 : FVec F S512 .f32 := broadcastInDim S512 ![] bcast_S_S512 main_cst_11
  let main_v29 : IVec S512 1 := cmpf .oeq main_arg6 main_v28
  let main_c_12 : IVec S_ 1 := constantI S_ 1 1#1
  let main_v30 : IVec S_ 1 := (fun x v => Host.reduce IntOp.andi x v reducesTo_S512_S_d0 h_S_) main_v29 main_c_12
  let main_v31 : IVec S_ 1 := andi main_v27 main_v30
  let main_cst_13 : FVec F S_ .f32 := constant S_ .f32 0x00000000#32
  fn_part2 (F := F) main_arg0 main_arg1 main_arg3 main_arg5 main_arg7 main_arg8 main_arg10 main_v31 main_cst_13

def fn {F : FTy → Type} [FloatOps F] (main_arg0 : FVec F S16384x256 .f32) (main_arg1 : FVec F S256x512 .f32) (main_arg2 : FVec F S512 .f32) (main_arg3 : FVec F S512x2048 .f32) (main_arg4 : FVec F S2048 .f32) (main_arg5 : FVec F S2048x512 .f32) (main_arg6 : FVec F S512 .f32) (main_arg7 : FVec F S512x64 .f32) (main_arg8 : FVec F S64 .f32) (main_arg9 : FVec F S512x1 .f32) (main_arg10 : FVec F S1 .f32) (main_arg11 : IVec S16384 32) (main_arg12 : IVec S16384 32) (main_arg13 : IVec S8192 32) (main_arg14 : IVec S8192 32) : IVec S_ 1 :=
  let main_c : IVec S_ 32 := constantI S_ 32 0#32
  let main_v0 : IVec S16384 32 := broadcastInDim S16384 ![] bcast_S_S16384 main_c
  let main_v1 : IVec S16384 1 := cmpi .sge main_arg12 main_v0
  let main_c_0 : IVec S_ 32 := constantI S_ 32 16384#32
  let main_v2 : IVec S16384 32 := broadcastInDim S16384 ![] bcast_S_S16384 main_c_0
  let main_v3 : IVec S16384 1 := cmpi .slt main_arg12 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S8192 32 := broadcastInDim S8192 ![] bcast_S_S8192 main_c_2
  let main_v7 : IVec S8192 1 := cmpi .sge main_arg13 main_v6
  let main_c_3 : IVec S_ 32 := constantI S_ 32 16384#32
  let main_v8 : IVec S8192 32 := broadcastInDim S8192 ![] bcast_S_S8192 main_c_3
  let main_v9 : IVec S8192 1 := cmpi .slt main_arg13 main_v8
  let main_v10 : IVec S8192 1 := andi main_v7 main_v9
  let main_c_4 : IVec S_ 1 := constantI S_ 1 1#1
  let main_v11 : IVec S_ 1 := (fun x v => Host.reduce IntOp.andi x v reducesTo_S8192_S_d0 h_S_) main_v10 main_c_4
  let main_v12 : IVec S_ 1 := andi main_v5 main_v11
  let main_c_5 : IVec S_ 32 := constantI S_ 32 0#32
  let main_v13 : IVec S8192 32 := broadcastInDim S8192 ![] bcast_S_S8192 main_c_5
  let main_v14 : IVec S8192 1 := cmpi .sge main_arg14 main_v13
  let main_c_6 : IVec S_ 32 := constantI S_ 32 64#32
  let main_v15 : IVec S8192 32 := broadcastInDim S8192 ![] bcast_S_S8192 main_c_6
  fn_part1 (F := F) main_arg0 main_arg1 main_arg2 main_arg3 main_arg4 main_arg5 main_arg6 main_arg7 main_arg8 main_arg10 main_arg14 main_v12 main_v14 main_v15
-- ==== Kernel.lean ====
abbrev S16384x256 : Shape := ⟨2, ![16384, 256]⟩
abbrev S256x512 : Shape := ⟨2, ![256, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S512x64 : Shape := ⟨2, ![512, 64]⟩
abbrev S64 : Shape := ⟨1, ![64]⟩
abbrev S512x1 : Shape := ⟨2, ![512, 1]⟩
abbrev S1 : Shape := ⟨1, ![1]⟩
abbrev S16384 : Shape := ⟨1, ![16384]⟩
abbrev S8192 : Shape := ⟨1, ![8192]⟩
abbrev S16384x128 : Shape := ⟨2, ![16384, 128]⟩
abbrev S16x1 : Shape := ⟨2, ![16, 1]⟩
abbrev S2048x256 : Shape := ⟨2, ![2048, 256]⟩
abbrev S2048x128 : Shape := ⟨2, ![2048, 128]⟩
abbrev S16x512 : Shape := ⟨2, ![16, 512]⟩
abbrev S2048x2048 : Shape := ⟨2, ![2048, 2048]⟩
abbrev S2048x64 : Shape := ⟨2, ![2048, 64]⟩
abbrev S1x2048 : Shape := ⟨2, ![1, 2048]⟩
abbrev S16x2048 : Shape := ⟨2, ![16, 2048]⟩
abbrev S2048x1 : Shape := ⟨2, ![2048, 1]⟩
abbrev S8192x128 : Shape := ⟨2, ![8192, 128]⟩
abbrev S256 : Shape := ⟨1, ![256]⟩
abbrev S128 : Shape := ⟨1, ![128]⟩
abbrev S128x128 : Shape := ⟨2, ![128, 128]⟩
abbrev S_ : Shape := ⟨0, ![]⟩
abbrev S16 : Shape := ⟨1, ![16]⟩
abbrev S1024x128 : Shape := ⟨2, ![1024, 128]⟩
abbrev S1024 : Shape := ⟨1, ![1024]⟩
abbrev S1024x64 : Shape := ⟨2, ![1024, 64]⟩
abbrev S1024x1 : Shape := ⟨2, ![1024, 1]⟩

abbrev nBuf : Table → Nat
  | .hbm => 20
  | .local .tc .vmem => 20
  | .local .scVector .vmem => 7
  | _ => 0

abbrev bufTy : (tb : Table) → Fin (nBuf tb) → BufTy
  | .hbm, ⟨0, _⟩ => ⟨S16384x256, .f32⟩
  | .hbm, ⟨1, _⟩ => ⟨S256x512, .f32⟩
  | .hbm, ⟨2, _⟩ => ⟨S512, .f32⟩
  | .hbm, ⟨3, _⟩ => ⟨S512x2048, .f32⟩
  | .hbm, ⟨4, _⟩ => ⟨S2048, .f32⟩
  | .hbm, ⟨5, _⟩ => ⟨S2048x512, .f32⟩
  | .hbm, ⟨6, _⟩ => ⟨S512, .f32⟩
  | .hbm, ⟨7, _⟩ => ⟨S512x64, .f32⟩
  | .hbm, ⟨8, _⟩ => ⟨S64, .f32⟩
  | .hbm, ⟨9, _⟩ => ⟨S512x1, .f32⟩
  | .hbm, ⟨10, _⟩ => ⟨S1, .f32⟩
  | .hbm, ⟨11, _⟩ => ⟨S16384, .i32⟩
  | .hbm, ⟨12, _⟩ => ⟨S16384, .i32⟩
  | .hbm, ⟨13, _⟩ => ⟨S8192, .i32⟩
  | .hbm, ⟨14, _⟩ => ⟨S8192, .i32⟩
  | .hbm, ⟨15, _⟩ => ⟨S16384x128, .f32⟩
  | .hbm, ⟨16, _⟩ => ⟨S16x1, .f32⟩
  | .hbm, ⟨17, _⟩ => ⟨S8192x128, .f32⟩
  | .hbm, ⟨18, _⟩ => ⟨S8192, .f32⟩
  | .hbm, ⟨19, _⟩ => ⟨S8192, .f32⟩
  | .local .tc .vmem, ⟨0, _⟩ => ⟨S2048x256, .f32⟩
  | .local .tc .vmem, ⟨1, _⟩ => ⟨S2048x256, .f32⟩
  | .local .tc .vmem, ⟨2, _⟩ => ⟨S2048, .i32⟩
  | .local .tc .vmem, ⟨3, _⟩ => ⟨S2048, .i32⟩
  | .local .tc .vmem, ⟨4, _⟩ => ⟨S256x512, .f32⟩
  | .local .tc .vmem, ⟨5, _⟩ => ⟨S512x2048, .f32⟩
  | .local .tc .vmem, ⟨6, _⟩ => ⟨S2048x512, .f32⟩
  | .local .tc .vmem, ⟨7, _⟩ => ⟨S512x64, .f32⟩
  | .local .tc .vmem, ⟨8, _⟩ => ⟨S512x1, .f32⟩
  | .local .tc .vmem, ⟨9, _⟩ => ⟨S2048x128, .f32⟩
  | .local .tc .vmem, ⟨10, _⟩ => ⟨S2048x128, .f32⟩
  | .local .tc .vmem, ⟨11, _⟩ => ⟨S16x1, .f32⟩
  | .local .tc .vmem, ⟨12, _⟩ => ⟨S16x512, .f32⟩
  | .local .tc .vmem, ⟨13, _⟩ => ⟨S16x1, .f32⟩
  | .local .tc .vmem, ⟨14, _⟩ => ⟨S1024x128, .f32⟩
  | .local .tc .vmem, ⟨15, _⟩ => ⟨S1024x128, .f32⟩
  | .local .tc .vmem, ⟨16, _⟩ => ⟨S1024, .f32⟩
  | .local .tc .vmem, ⟨17, _⟩ => ⟨S1024, .f32⟩
  | .local .tc .vmem, ⟨18, _⟩ => ⟨S1024, .f32⟩
  | .local .tc .vmem, ⟨19, _⟩ => ⟨S1024, .f32⟩
  | .local .scVector .vmem, ⟨0, _⟩ => ⟨S16384, .i32⟩
  | .local .scVector .vmem, ⟨1, _⟩ => ⟨S256, .i32⟩
  | .local .scVector .vmem, ⟨2, _⟩ => ⟨S256, .i32⟩
  | .local .scVector .vmem, ⟨3, _⟩ => ⟨S128, .i32⟩
  | .local .scVector .vmem, ⟨4, _⟩ => ⟨S128, .i32⟩
  | .local .scVector .vmem, ⟨5, _⟩ => ⟨S128x128, .f32⟩
  | .local .scVector .vmem, ⟨6, _⟩ => ⟨S128x128, .f32⟩
  | _, _ => ⟨S16384x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v1 : Ref sig .tc := ⟨.hbm, 17, rfl⟩
abbrev main_v2_0 : Ref sig .tc := ⟨.hbm, 18, rfl⟩
abbrev main_v2_1 : Ref sig .tc := ⟨.hbm, 19, rfl⟩
abbrev main_v0_0_scv : Ref sig .scVector := ⟨.hbm, 15, rfl⟩
abbrev main_arg12_scv : Ref sig .scVector := ⟨.hbm, 12, rfl⟩
abbrev main_arg13_scv : Ref sig .scVector := ⟨.hbm, 13, rfl⟩
abbrev main_arg14_scv : Ref sig .scVector := ⟨.hbm, 14, rfl⟩
abbrev main_v1_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_23 : BitVec 32 := 0#32
  let v34 : BitVec 1 := Scalar.cmpi .ne v33 c0_i32_23
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]

def k1_chk1 (v9 : IVec S16 32) : Prop :=
  (∀ a x, ((![v9] : Fin 1 → IVec S16 32) a x).toNat < S16384.size a)
theorem k1_idx1_inb : ∀ (v9 : IVec S16 32) (k1_hw1 : k1_chk1 v9), ∀ a x, ((![v9] : Fin 1 → IVec S16 32) a x).toNat < S16384.size a := fun v9 k1_hw1 => k1_hw1

def k1_chk2 (v12 : IVec S16 32) : Prop :=
  (∀ a x, ((![v12] : Fin 1 → IVec S16 32) a x).toNat < S16384.size a)
theorem k1_idx2_inb : ∀ (v12 : IVec S16 32) (k1_hw2 : k1_chk2 v12), ∀ a x, ((![v12] : Fin 1 → IVec S16 32) a x).toNat < S16384.size a := fun v12 k1_hw2 => k1_hw2

def k1_chk3 (v15 : IVec S16 32) : Prop :=
  (∀ a x, ((![v15] : Fin 1 → IVec S16 32) a x).toNat < S16384.size a)
theorem k1_idx3_inb : ∀ (v15 : IVec S16 32) (k1_hw3 : k1_chk3 v15), ∀ a x, ((![v15] : Fin 1 → IVec S16 32) a x).toNat < S16384.size a := fun v15 k1_hw3 => k1_hw3

def k1_chk4 (v18 : IVec S16 32) : Prop :=
  (∀ a x, ((![v18] : Fin 1 → IVec S16 32) a x).toNat < S16384.size a)
theorem k1_idx4_inb : ∀ (v18 : IVec S16 32) (k1_hw4 : k1_chk4 v18), ∀ a x, ((![v18] : Fin 1 → IVec S16 32) a x).toNat < S16384.size a := fun v18 k1_hw4 => k1_hw4

def k1_chk5 (v21 : IVec S16 32) : Prop :=
  (∀ a x, ((![v21] : Fin 1 → IVec S16 32) a x).toNat < S16384.size a)
theorem k1_idx5_inb : ∀ (v21 : IVec S16 32) (k1_hw5 : k1_chk5 v21), ∀ a x, ((![v21] : Fin 1 → IVec S16 32) a x).toNat < S16384.size a := fun v21 k1_hw5 => k1_hw5

def k1_chk6 (v24 : IVec S16 32) : Prop :=
  (∀ a x, ((![v24] : Fin 1 → IVec S16 32) a x).toNat < S16384.size a)
theorem k1_idx6_inb : ∀ (v24 : IVec S16 32) (k1_hw6 : k1_chk6 v24), ∀ a x, ((![v24] : Fin 1 → IVec S16 32) a x).toNat < S16384.size a := fun v24 k1_hw6 => k1_hw6

def k1_chk7 (v27 : IVec S16 32) : Prop :=
  (∀ a x, ((![v27] : Fin 1 → IVec S16 32) a x).toNat < S16384.size a)
theorem k1_idx7_inb : ∀ (v27 : IVec S16 32) (k1_hw7 : k1_chk7 v27), ∀ a x, ((![v27] : Fin 1 → IVec S16 32) a x).toNat < S16384.size a := fun v27 k1_hw7 => k1_hw7

def k1_chk8 (v30 : IVec S16 32) : Prop :=
  (∀ a x, ((![v30] : Fin 1 → IVec S16 32) a x).toNat < S16384.size a)
theorem k1_idx8_inb : ∀ (v30 : IVec S16 32) (k1_hw8 : k1_chk8 v30), ∀ a x, ((![v30] : Fin 1 → IVec S16 32) a x).toNat < S16384.size a := fun v30 k1_hw8 => k1_hw8

def k1_chk9 (v34 : IVec S16 32) : Prop :=
  (∀ a x, ((![v34] : Fin 1 → IVec S16 32) a x).toNat < S16384.size a)
theorem k1_idx9_inb : ∀ (v34 : IVec S16 32) (k1_hw9 : k1_chk9 v34), ∀ a x, ((![v34] : Fin 1 → IVec S16 32) a x).toNat < S16384.size a := fun v34 k1_hw9 => k1_hw9

def k1_chk10 (v37 : IVec S16 32) : Prop :=
  (∀ a x, ((![v37] : Fin 1 → IVec S16 32) a x).toNat < S16384.size a)
theorem k1_idx10_inb : ∀ (v37 : IVec S16 32) (k1_hw10 : k1_chk10 v37), ∀ a x, ((![v37] : Fin 1 → IVec S16 32) a x).toNat < S16384.size a := fun v37 k1_hw10 => k1_hw10

def k1_chk11 (v40 : IVec S16 32) : Prop :=
  (∀ a x, ((![v40] : Fin 1 → IVec S16 32) a x).toNat < S16384.size a)
theorem k1_idx11_inb : ∀ (v40 : IVec S16 32) (k1_hw11 : k1_chk11 v40), ∀ a x, ((![v40] : Fin 1 → IVec S16 32) a x).toNat < S16384.size a := fun v40 k1_hw11 => k1_hw11

def k1_chk12 (v43 : IVec S16 32) : Prop :=
  (∀ a x, ((![v43] : Fin 1 → IVec S16 32) a x).toNat < S16384.size a)
theorem k1_idx12_inb : ∀ (v43 : IVec S16 32) (k1_hw12 : k1_chk12 v43), ∀ a x, ((![v43] : Fin 1 → IVec S16 32) a x).toNat < S16384.size a := fun v43 k1_hw12 => k1_hw12

def k1_chk13 (v46 : IVec S16 32) : Prop :=
  (∀ a x, ((![v46] : Fin 1 → IVec S16 32) a x).toNat < S16384.size a)
theorem k1_idx13_inb : ∀ (v46 : IVec S16 32) (k1_hw13 : k1_chk13 v46), ∀ a x, ((![v46] : Fin 1 → IVec S16 32) a x).toNat < S16384.size a := fun v46 k1_hw13 => k1_hw13

def k1_chk14 (v49 : IVec S16 32) : Prop :=
  (∀ a x, ((![v49] : Fin 1 → IVec S16 32) a x).toNat < S16384.size a)
theorem k1_idx14_inb : ∀ (v49 : IVec S16 32) (k1_hw14 : k1_chk14 v49), ∀ a x, ((![v49] : Fin 1 → IVec S16 32) a x).toNat < S16384.size a := fun v49 k1_hw14 => k1_hw14

def k1_chk15 (v52 : IVec S16 32) : Prop :=
  (∀ a x, ((![v52] : Fin 1 → IVec S16 32) a x).toNat < S16384.size a)
theorem k1_idx15_inb : ∀ (v52 : IVec S16 32) (k1_hw15 : k1_chk15 v52), ∀ a x, ((![v52] : Fin 1 → IVec S16 32) a x).toNat < S16384.size a := fun v52 k1_hw15 => k1_hw15

def k1_chk16 (v55 : IVec S16 32) : Prop :=
  (∀ a x, ((![v55] : Fin 1 → IVec S16 32) a x).toNat < S16384.size a)
theorem k1_idx16_inb : ∀ (v55 : IVec S16 32) (k1_hw16 : k1_chk16 v55), ∀ a x, ((![v55] : Fin 1 → IVec S16 32) a x).toNat < S16384.size a := fun v55 k1_hw16 => k1_hw16
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]

def k1_chk17 (v65 : IVec S16 32) (v66 : IVec S16 32) : Prop :=
  (∀ a x, ((![v65, v66] : Fin 2 → IVec S16 32) a x).toNat < S128x128.size a)
theorem k1_idx17_inb : ∀ (v65 : IVec S16 32) (v66 : IVec S16 32) (k1_hw17 : k1_chk17 v65 v66), ∀ a x, ((![v65, v66] : Fin 2 → IVec S16 32) a x).toNat < S128x128.size a := fun v65 v66 k1_hw17 => k1_hw17

def k1_chk18 (v61 : IVec S16 32) (v65 : IVec S16 32) : Prop :=
  (∀ a x, ((![v65, v61] : Fin 2 → IVec S16 32) a x).toNat < S128x128.size a)
theorem k1_idx18_inb : ∀ (v61 : IVec S16 32) (v65 : IVec S16 32) (k1_hw18 : k1_chk18 v61 v65), ∀ a x, ((![v65, v61] : Fin 2 → IVec S16 32) a x).toNat < S128x128.size a := fun v61 v65 k1_hw18 => k1_hw18

def k1_chk19 (v70 : IVec S16 32) (v71 : IVec S16 32) : Prop :=
  (∀ a x, ((![v70, v71] : Fin 2 → IVec S16 32) a x).toNat < S128x128.size a)
theorem k1_idx19_inb : ∀ (v70 : IVec S16 32) (v71 : IVec S16 32) (k1_hw19 : k1_chk19 v70 v71), ∀ a x, ((![v70, v71] : Fin 2 → IVec S16 32) a x).toNat < S128x128.size a := fun v70 v71 k1_hw19 => k1_hw19

def k1_chk20 (v61 : IVec S16 32) (v70 : IVec S16 32) : Prop :=
  (∀ a x, ((![v70, v61] : Fin 2 → IVec S16 32) a x).toNat < S128x128.size a)
theorem k1_idx20_inb : ∀ (v61 : IVec S16 32) (v70 : IVec S16 32) (k1_hw20 : k1_chk20 v61 v70), ∀ a x, ((![v70, v61] : Fin 2 → IVec S16 32) a x).toNat < S128x128.size a := fun v61 v70 k1_hw20 => k1_hw20

def k1_chk21 (v75 : IVec S16 32) (v76 : IVec S16 32) : Prop :=
  (∀ a x, ((![v75, v76] : Fin 2 → IVec S16 32) a x).toNat < S128x128.size a)
theorem k1_idx21_inb : ∀ (v75 : IVec S16 32) (v76 : IVec S16 32) (k1_hw21 : k1_chk21 v75 v76), ∀ a x, ((![v75, v76] : Fin 2 → IVec S16 32) a x).toNat < S128x128.size a := fun v75 v76 k1_hw21 => k1_hw21

def k1_chk22 (v61 : IVec S16 32) (v75 : IVec S16 32) : Prop :=
  (∀ a x, ((![v75, v61] : Fin 2 → IVec S16 32) a x).toNat < S128x128.size a)
theorem k1_idx22_inb : ∀ (v61 : IVec S16 32) (v75 : IVec S16 32) (k1_hw22 : k1_chk22 v61 v75), ∀ a x, ((![v75, v61] : Fin 2 → IVec S16 32) a x).toNat < S128x128.size a := fun v61 v75 k1_hw22 => k1_hw22

def k1_chk23 (v80 : IVec S16 32) (v81 : IVec S16 32) : Prop :=
  (∀ a x, ((![v80, v81] : Fin 2 → IVec S16 32) a x).toNat < S128x128.size a)
theorem k1_idx23_inb : ∀ (v80 : IVec S16 32) (v81 : IVec S16 32) (k1_hw23 : k1_chk23 v80 v81), ∀ a x, ((![v80, v81] : Fin 2 → IVec S16 32) a x).toNat < S128x128.size a := fun v80 v81 k1_hw23 => k1_hw23

def k1_chk24 (v61 : IVec S16 32) (v80 : IVec S16 32) : Prop :=
  (∀ a x, ((![v80, v61] : Fin 2 → IVec S16 32) a x).toNat < S128x128.size a)
theorem k1_idx24_inb : ∀ (v61 : IVec S16 32) (v80 : IVec S16 32) (k1_hw24 : k1_chk24 v61 v80), ∀ a x, ((![v80, v61] : Fin 2 → IVec S16 32) a x).toNat < S128x128.size a := fun v61 v80 k1_hw24 => k1_hw24

def k1_chk25 (v85 : IVec S16 32) (v86 : IVec S16 32) : Prop :=
  (∀ a x, ((![v85, v86] : Fin 2 → IVec S16 32) a x).toNat < S128x128.size a)
theorem k1_idx25_inb : ∀ (v85 : IVec S16 32) (v86 : IVec S16 32) (k1_hw25 : k1_chk25 v85 v86), ∀ a x, ((![v85, v86] : Fin 2 → IVec S16 32) a x).toNat < S128x128.size a := fun v85 v86 k1_hw25 => k1_hw25

def k1_chk26 (v61 : IVec S16 32) (v85 : IVec S16 32) : Prop :=
  (∀ a x, ((![v85, v61] : Fin 2 → IVec S16 32) a x).toNat < S128x128.size a)
theorem k1_idx26_inb : ∀ (v61 : IVec S16 32) (v85 : IVec S16 32) (k1_hw26 : k1_chk26 v61 v85), ∀ a x, ((![v85, v61] : Fin 2 → IVec S16 32) a x).toNat < S128x128.size a := fun v61 v85 k1_hw26 => k1_hw26

def k1_chk27 (v90 : IVec S16 32) (v91 : IVec S16 32) : Prop :=
  (∀ a x, ((![v90, v91] : Fin 2 → IVec S16 32) a x).toNat < S128x128.size a)
theorem k1_idx27_inb : ∀ (v90 : IVec S16 32) (v91 : IVec S16 32) (k1_hw27 : k1_chk27 v90 v91), ∀ a x, ((![v90, v91] : Fin 2 → IVec S16 32) a x).toNat < S128x128.size a := fun v90 v91 k1_hw27 => k1_hw27

def k1_chk28 (v61 : IVec S16 32) (v90 : IVec S16 32) : Prop :=
  (∀ a x, ((![v90, v61] : Fin 2 → IVec S16 32) a x).toNat < S128x128.size a)
theorem k1_idx28_inb : ∀ (v61 : IVec S16 32) (v90 : IVec S16 32) (k1_hw28 : k1_chk28 v61 v90), ∀ a x, ((![v90, v61] : Fin 2 → IVec S16 32) a x).toNat < S128x128.size a := fun v61 v90 k1_hw28 => k1_hw28

def k1_chk29 (v95 : IVec S16 32) (v96 : IVec S16 32) : Prop :=
  (∀ a x, ((![v95, v96] : Fin 2 → IVec S16 32) a x).toNat < S128x128.size a)
theorem k1_idx29_inb : ∀ (v95 : IVec S16 32) (v96 : IVec S16 32) (k1_hw29 : k1_chk29 v95 v96), ∀ a x, ((![v95, v96] : Fin 2 → IVec S16 32) a x).toNat < S128x128.size a := fun v95 v96 k1_hw29 => k1_hw29

def k1_chk30 (v61 : IVec S16 32) (v95 : IVec S16 32) : Prop :=
  (∀ a x, ((![v95, v61] : Fin 2 → IVec S16 32) a x).toNat < S128x128.size a)
theorem k1_idx30_inb : ∀ (v61 : IVec S16 32) (v95 : IVec S16 32) (k1_hw30 : k1_chk30 v61 v95), ∀ a x, ((![v95, v61] : Fin 2 → IVec S16 32) a x).toNat < S128x128.size a := fun v61 v95 k1_hw30 => k1_hw30

def k1_chk31 (v100 : IVec S16 32) (v101 : IVec S16 32) : Prop :=
  (∀ a x, ((![v100, v101] : Fin 2 → IVec S16 32) a x).toNat < S128x128.size a)
theorem k1_idx31_inb : ∀ (v100 : IVec S16 32) (v101 : IVec S16 32) (k1_hw31 : k1_chk31 v100 v101), ∀ a x, ((![v100, v101] : Fin 2 → IVec S16 32) a x).toNat < S128x128.size a := fun v100 v101 k1_hw31 => k1_hw31

def k1_chk32 (v61 : IVec S16 32) (v100 : IVec S16 32) : Prop :=
  (∀ a x, ((![v100, v61] : Fin 2 → IVec S16 32) a x).toNat < S128x128.size a)
theorem k1_idx32_inb : ∀ (v61 : IVec S16 32) (v100 : IVec S16 32) (k1_hw32 : k1_chk32 v61 v100), ∀ a x, ((![v100, v61] : Fin 2 → IVec S16 32) a x).toNat < S128x128.size a := fun v61 v100 k1_hw32 => k1_hw32
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_31 : BitVec 32 := 0#32
  ![v2.toNat, 0]

def k1_chk33 (v108 : IVec S16 32) (v109 : IVec S16 32) : Prop :=
  (∀ a x, ((![v108, v109] : Fin 2 → IVec S16 32) a x).toNat < S128x128.size a)
theorem k1_idx33_inb : ∀ (v108 : IVec S16 32) (v109 : IVec S16 32) (k1_hw33 : k1_chk33 v108 v109), ∀ a x, ((![v108, v109] : Fin 2 → IVec S16 32) a x).toNat < S128x128.size a := fun v108 v109 k1_hw33 => k1_hw33

def k1_chk34 (v61 : IVec S16 32) (v108 : IVec S16 32) : Prop :=
  (∀ a x, ((![v108, v61] : Fin 2 → IVec S16 32) a x).toNat < S128x128.size a)
theorem k1_idx34_inb : ∀ (v61 : IVec S16 32) (v108 : IVec S16 32) (k1_hw34 : k1_chk34 v61 v108), ∀ a x, ((![v108, v61] : Fin 2 → IVec S16 32) a x).toNat < S128x128.size a := fun v61 v108 k1_hw34 => k1_hw34

def k1_chk35 (v113 : IVec S16 32) (v114 : IVec S16 32) : Prop :=
  (∀ a x, ((![v113, v114] : Fin 2 → IVec S16 32) a x).toNat < S128x128.size a)
theorem k1_idx35_inb : ∀ (v113 : IVec S16 32) (v114 : IVec S16 32) (k1_hw35 : k1_chk35 v113 v114), ∀ a x, ((![v113, v114] : Fin 2 → IVec S16 32) a x).toNat < S128x128.size a := fun v113 v114 k1_hw35 => k1_hw35

def k1_chk36 (v61 : IVec S16 32) (v113 : IVec S16 32) : Prop :=
  (∀ a x, ((![v113, v61] : Fin 2 → IVec S16 32) a x).toNat < S128x128.size a)
theorem k1_idx36_inb : ∀ (v61 : IVec S16 32) (v113 : IVec S16 32) (k1_hw36 : k1_chk36 v61 v113), ∀ a x, ((![v113, v61] : Fin 2 → IVec S16 32) a x).toNat < S128x128.size a := fun v61 v113 k1_hw36 => k1_hw36

def k1_chk37 (v118 : IVec S16 32) (v119 : IVec S16 32) : Prop :=
  (∀ a x, ((![v118, v119] : Fin 2 → IVec S16 32) a x).toNat < S128x128.size a)
theorem k1_idx37_inb : ∀ (v118 : IVec S16 32) (v119 : IVec S16 32) (k1_hw37 : k1_chk37 v118 v119), ∀ a x, ((![v118, v119] : Fin 2 → IVec S16 32) a x).toNat < S128x128.size a := fun v118 v119 k1_hw37 => k1_hw37

def k1_chk38 (v61 : IVec S16 32) (v118 : IVec S16 32) : Prop :=
  (∀ a x, ((![v118, v61] : Fin 2 → IVec S16 32) a x).toNat < S128x128.size a)
theorem k1_idx38_inb : ∀ (v61 : IVec S16 32) (v118 : IVec S16 32) (k1_hw38 : k1_chk38 v61 v118), ∀ a x, ((![v118, v61] : Fin 2 → IVec S16 32) a x).toNat < S128x128.size a := fun v61 v118 k1_hw38 => k1_hw38

def k1_chk39 (v123 : IVec S16 32) (v124 : IVec S16 32) : Prop :=
  (∀ a x, ((![v123, v124] : Fin 2 → IVec S16 32) a x).toNat < S128x128.size a)
theorem k1_idx39_inb : ∀ (v123 : IVec S16 32) (v124 : IVec S16 32) (k1_hw39 : k1_chk39 v123 v124), ∀ a x, ((![v123, v124] : Fin 2 → IVec S16 32) a x).toNat < S128x128.size a := fun v123 v124 k1_hw39 => k1_hw39

def k1_chk40 (v61 : IVec S16 32) (v123 : IVec S16 32) : Prop :=
  (∀ a x, ((![v123, v61] : Fin 2 → IVec S16 32) a x).toNat < S128x128.size a)
theorem k1_idx40_inb : ∀ (v61 : IVec S16 32) (v123 : IVec S16 32) (k1_hw40 : k1_chk40 v61 v123), ∀ a x, ((![v123, v61] : Fin 2 → IVec S16 32) a x).toNat < S128x128.size a := fun v61 v123 k1_hw40 => k1_hw40

def k1_chk41 (v128 : IVec S16 32) (v129 : IVec S16 32) : Prop :=
  (∀ a x, ((![v128, v129] : Fin 2 → IVec S16 32) a x).toNat < S128x128.size a)
theorem k1_idx41_inb : ∀ (v128 : IVec S16 32) (v129 : IVec S16 32) (k1_hw41 : k1_chk41 v128 v129), ∀ a x, ((![v128, v129] : Fin 2 → IVec S16 32) a x).toNat < S128x128.size a := fun v128 v129 k1_hw41 => k1_hw41

def k1_chk42 (v61 : IVec S16 32) (v128 : IVec S16 32) : Prop :=
  (∀ a x, ((![v128, v61] : Fin 2 → IVec S16 32) a x).toNat < S128x128.size a)
theorem k1_idx42_inb : ∀ (v61 : IVec S16 32) (v128 : IVec S16 32) (k1_hw42 : k1_chk42 v61 v128), ∀ a x, ((![v128, v61] : Fin 2 → IVec S16 32) a x).toNat < S128x128.size a := fun v61 v128 k1_hw42 => k1_hw42

def k1_chk43 (v133 : IVec S16 32) (v134 : IVec S16 32) : Prop :=
  (∀ a x, ((![v133, v134] : Fin 2 → IVec S16 32) a x).toNat < S128x128.size a)
theorem k1_idx43_inb : ∀ (v133 : IVec S16 32) (v134 : IVec S16 32) (k1_hw43 : k1_chk43 v133 v134), ∀ a x, ((![v133, v134] : Fin 2 → IVec S16 32) a x).toNat < S128x128.size a := fun v133 v134 k1_hw43 => k1_hw43

def k1_chk44 (v61 : IVec S16 32) (v133 : IVec S16 32) : Prop :=
  (∀ a x, ((![v133, v61] : Fin 2 → IVec S16 32) a x).toNat < S128x128.size a)
theorem k1_idx44_inb : ∀ (v61 : IVec S16 32) (v133 : IVec S16 32) (k1_hw44 : k1_chk44 v61 v133), ∀ a x, ((![v133, v61] : Fin 2 → IVec S16 32) a x).toNat < S128x128.size a := fun v61 v133 k1_hw44 => k1_hw44

def k1_chk45 (v138 : IVec S16 32) (v139 : IVec S16 32) : Prop :=
  (∀ a x, ((![v138, v139] : Fin 2 → IVec S16 32) a x).toNat < S128x128.size a)
theorem k1_idx45_inb : ∀ (v138 : IVec S16 32) (v139 : IVec S16 32) (k1_hw45 : k1_chk45 v138 v139), ∀ a x, ((![v138, v139] : Fin 2 → IVec S16 32) a x).toNat < S128x128.size a := fun v138 v139 k1_hw45 => k1_hw45

def k1_chk46 (v61 : IVec S16 32) (v138 : IVec S16 32) : Prop :=
  (∀ a x, ((![v138, v61] : Fin 2 → IVec S16 32) a x).toNat < S128x128.size a)
theorem k1_idx46_inb : ∀ (v61 : IVec S16 32) (v138 : IVec S16 32) (k1_hw46 : k1_chk46 v61 v138), ∀ a x, ((![v138, v61] : Fin 2 → IVec S16 32) a x).toNat < S128x128.size a := fun v61 v138 k1_hw46 => k1_hw46

def k1_chk47 (v143 : IVec S16 32) (v144 : IVec S16 32) : Prop :=
  (∀ a x, ((![v143, v144] : Fin 2 → IVec S16 32) a x).toNat < S128x128.size a)
theorem k1_idx47_inb : ∀ (v143 : IVec S16 32) (v144 : IVec S16 32) (k1_hw47 : k1_chk47 v143 v144), ∀ a x, ((![v143, v144] : Fin 2 → IVec S16 32) a x).toNat < S128x128.size a := fun v143 v144 k1_hw47 => k1_hw47

def k1_chk48 (v61 : IVec S16 32) (v143 : IVec S16 32) : Prop :=
  (∀ a x, ((![v143, v61] : Fin 2 → IVec S16 32) a x).toNat < S128x128.size a)
theorem k1_idx48_inb : ∀ (v61 : IVec S16 32) (v143 : IVec S16 32) (k1_hw48 : k1_chk48 v61 v143), ∀ a x, ((![v143, v61] : Fin 2 → IVec S16 32) a x).toNat < S128x128.size a := fun v61 v143 k1_hw48 => k1_hw48
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v146 : BitVec 32 := Scalar.addi v2 c128_i32
  let c0_i32_51 : BitVec 32 := 0#32
  ![v146.toNat, 0]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_53 : BitVec 32 := 0#32
  ![v2.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x256 : Shape := ⟨2, ![16384, 256]⟩
abbrev S256x512 : Shape := ⟨2, ![256, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S512x64 : Shape := ⟨2, ![512, 64]⟩
abbrev S64 : Shape := ⟨1, ![64]⟩
abbrev S512x1 : Shape := ⟨2, ![512, 1]⟩
abbrev S1 : Shape := ⟨1, ![1]⟩
abbrev S16384 : Shape := ⟨1, ![16384]⟩
abbrev S8192 : Shape := ⟨1, ![8192]⟩
abbrev S16384x512 : Shape := ⟨2, ![16384, 512]⟩
abbrev S1x512 : Shape := ⟨2, ![1, 512]⟩
abbrev S16384x2048 : Shape := ⟨2, ![16384, 2048]⟩
abbrev S1x2048 : Shape := ⟨2, ![1, 2048]⟩
abbrev S_ : Shape := ⟨0, ![]⟩
abbrev S8192x1 : Shape := ⟨2, ![8192, 1]⟩
abbrev S8192x512 : Shape := ⟨2, ![8192, 512]⟩
abbrev S8192x64 : Shape := ⟨2, ![8192, 64]⟩
abbrev S1x64 : Shape := ⟨2, ![1, 64]⟩
abbrev S8192x1x1 : Shape := ⟨3, ![8192, 1, 1]⟩
abbrev S1x1x1 : Shape := ⟨3, ![1, 1, 1]⟩
abbrev S16x512 : Shape := ⟨2, ![16, 512]⟩
abbrev S16384x1 : Shape := ⟨2, ![16384, 1]⟩
abbrev S16 : Shape := ⟨1, ![16]⟩
abbrev S16x1 : Shape := ⟨2, ![16, 1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x512, .f32⟩
  | .hbm, ⟨2, _⟩ => ⟨S512, .f32⟩
  | .hbm, ⟨3, _⟩ => ⟨S512x2048, .f32⟩
  | .hbm, ⟨4, _⟩ => ⟨S2048, .f32⟩
  | .hbm, ⟨5, _⟩ => ⟨S2048x512, .f32⟩
  | .hbm, ⟨6, _⟩ => ⟨S512, .f32⟩
  | .hbm, ⟨7, _⟩ => ⟨S512x64, .f32⟩
  | .hbm, ⟨8, _⟩ => ⟨S64, .f32⟩
  | .hbm, ⟨9, _⟩ => ⟨S512x1, .f32⟩
  | .hbm, ⟨10, _⟩ => ⟨S1, .f32⟩
  | .hbm, ⟨11, _⟩ => ⟨S16384, .i32⟩
  | .hbm, ⟨12, _⟩ => ⟨S16384, .i32⟩
  | .hbm, ⟨13, _⟩ => ⟨S8192, .i32⟩
  | .hbm, ⟨14, _⟩ => ⟨S8192, .i32⟩
  | .hbm, ⟨15, _⟩ => ⟨S16384x512, .f32⟩
  | .hbm, ⟨16, _⟩ => ⟨S1x512, .f32⟩
  | .hbm, ⟨17, _⟩ => ⟨S16384x512, .f32⟩
  | .hbm, ⟨18, _⟩ => ⟨S16384x512, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x512, .f32⟩
  | .hbm, ⟨27, _⟩ => ⟨S1x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S8192x512, .f32⟩
  | .hbm, ⟨49, _⟩ => ⟨S8192x64, .f32⟩
  | .hbm, ⟨50, _⟩ => ⟨S1x64, .f32⟩
  | .hbm, ⟨51, _⟩ => ⟨S8192x64, .f32⟩
  | .hbm, ⟨52, _⟩ => ⟨S8192x64, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192x1, .f32⟩
  | .hbm, ⟨59, _⟩ => ⟨S8192x64, .f32⟩
  | .hbm, ⟨60, _⟩ => ⟨S8192x64, .f32⟩
  | .hbm, ⟨61, _⟩ => ⟨S8192x64, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1, .f32⟩
  | .hbm, ⟨66, _⟩ => ⟨S8192x64, .f32⟩
  | .hbm, ⟨67, _⟩ => ⟨S8192x64, .f32⟩
  | .hbm, ⟨68, _⟩ => ⟨S8192x1, .i32⟩
  | .hbm, ⟨69, _⟩ => ⟨S_, .i32⟩
  | .hbm, ⟨70, _⟩ => ⟨S8192x1, .i32⟩
  | .hbm, ⟨71, _⟩ => ⟨S8192x1, .i1⟩
  | .hbm, ⟨72, _⟩ => ⟨S_, .i32⟩
  | .hbm, ⟨73, _⟩ => ⟨S8192x1, .i32⟩
  | .hbm, ⟨74, _⟩ => ⟨S8192x1, .i32⟩
  | .hbm, ⟨75, _⟩ => ⟨S8192x1, .i32⟩
  | .hbm, ⟨76, _⟩ => ⟨S8192x1x1, .i32⟩
  | .hbm, ⟨77, _⟩ => ⟨S1, .i32⟩
  | .hbm, ⟨78, _⟩ => ⟨S_, .i32⟩
  | .hbm, ⟨79, _⟩ => ⟨S8192x1x1, .i32⟩
  | .hbm, ⟨80, _⟩ => ⟨S8192x1x1, .i1⟩
  | .hbm, ⟨81, _⟩ => ⟨S1x1x1, .i32⟩
  | .hbm, ⟨82, _⟩ => ⟨S8192x1x1, .i32⟩
  | .hbm, ⟨83, _⟩ => ⟨S8192x1x1, .i1⟩
  | .hbm, ⟨84, _⟩ => ⟨S8192x1x1, .i1⟩
  | .hbm, ⟨85, _⟩ => ⟨S_, .i1⟩
  | .hbm, ⟨86, _⟩ => ⟨S8192x1, .i1⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S8192, .f32⟩
  | .hbm, ⟨92, _⟩ => ⟨S8192x64, .f32⟩
  | .hbm, ⟨93, _⟩ => ⟨S8192x64, .f32⟩
  | .hbm, ⟨94, _⟩ => ⟨S_, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S16x512, .f32⟩
  | .hbm, ⟨99, _⟩ => ⟨S16384x1, .i32⟩
  | .hbm, ⟨100, _⟩ => ⟨S16x512, .f32⟩
  | .hbm, ⟨101, _⟩ => ⟨S_, .f32⟩
  | .hbm, ⟨102, _⟩ => ⟨S16384, .f32⟩
  | .hbm, ⟨103, _⟩ => ⟨S_, .f32⟩
  | .hbm, ⟨104, _⟩ => ⟨S16, .f32⟩
  | .hbm, ⟨105, _⟩ => ⟨S16384x1, .i32⟩
  | .hbm, ⟨106, _⟩ => ⟨S16, .f32⟩
  | .hbm, ⟨107, _⟩ => ⟨S_, .f32⟩
  | .hbm, ⟨108, _⟩ => ⟨S_, .f32⟩
  | .hbm, ⟨109, _⟩ => ⟨S16, .f32⟩
  | .hbm, ⟨110, _⟩ => ⟨S16, .f32⟩
  | .hbm, ⟨111, _⟩ => ⟨S16x1, .f32⟩
  | .hbm, ⟨112, _⟩ => ⟨S16x512, .f32⟩
  | .hbm, ⟨113, _⟩ => ⟨S16x512, .f32⟩
  | .hbm, ⟨114, _⟩ => ⟨S16x1, .f32⟩
  | .hbm, ⟨115, _⟩ => ⟨S1x1, .f32⟩
  | .hbm, ⟨116, _⟩ => ⟨S16x1, .f32⟩
  | .hbm, ⟨117, _⟩ => ⟨S16x1, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call1_cst : Ref sig .tc := ⟨.hbm, 53, rfl⟩
abbrev main_call1_v0 : Ref sig .tc := ⟨.hbm, 54, rfl⟩
abbrev main_call1_cst_0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_cst_1 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_v32 : Ref sig .tc := ⟨.hbm, 67, rfl⟩
abbrev main_v33 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_cst : Ref sig .tc := ⟨.hbm, 88, rfl⟩
abbrev main_call2_v14 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_cst : Ref sig .tc := ⟨.hbm, 94, rfl⟩
abbrev main_v38 : Ref sig .tc := ⟨.hbm, 95, rfl⟩
abbrev main_v39 : Ref sig .tc := ⟨.hbm, 96, rfl⟩
abbrev main_cst_3 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_cst_4 : Ref sig .tc := ⟨.hbm, 101, rfl⟩
abbrev main_v43 : Ref sig .tc := ⟨.hbm, 102, rfl⟩
abbrev main_cst_5 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_cst_6 : Ref sig .tc := ⟨.hbm, 107, rfl⟩
abbrev main_call3_v0 : Ref sig .tc := ⟨.hbm, 108, rfl⟩
abbrev main_call3_v1 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩

abbrev nD : Nat := 1
abbrev τ : Topo := Topo.v7x

variable {F : FTy → Type} [FloatOps F]
-- ==== Proof.Setup.lean ====
/-
  What every module about a run of the kernel shares: the program as the SparseCore launch theorem sees it, the resource
  algebra (the launch handshakes' rounds, the pipelines' rounds, the transfers' counters), the places of the arrays, and
  the assertion `held` ("this memref's buffer is held at this share and reads as this array").
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Writes
public import Idealize.ShloMosaic.Lib.WritesUnit
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
/-- The call's SparseCores and the tiles of each. -/
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are four different ones, none of them scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The launch handshakes' rounds, and the pipelines'. -/
abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP (F := F)).LandsIn (upEmb : UEmb _ 𝕄) := by
  unfold EP; infer_instance

/-! ## The arrays -/

abbrev entLoc (d : Dev nD) : Loc nD τ sig := (SparseCore.T d).loc main_arg0
abbrev zLoc (d : Dev nD) : Loc nD τ sig := (SparseCore.T d).loc main_v0_0
abbrev auxLoc (d : Dev nD) : Loc nD τ sig := (SparseCore.T d).loc main_v0_1
abbrev imLoc (d : Dev nD) : Loc nD τ sig := (SparseCore.T d).loc main_arg12
abbrev acLoc (d : Dev nD) : Loc nD τ sig := (SparseCore.T d).loc main_arg13
abbrev atLoc (d : Dev nD) : Loc nD τ sig := (SparseCore.T d).loc main_arg14
abbrev oLoc (d : Dev nD) : Loc nD τ sig := (SparseCore.T d).loc main_v1

/-! ## Holding a memref at the array it reads -/

/-- `m`'s buffer is held whole at share `q`, and `m` reads `X` of it. -/
def held (thr : Thread nD τ) {sp : Space} {s : Shape} {e : EltTy} (m : Memref sig thr.2.kind sp s e)
    (q : PosShare TreeShare) (X : s.Idx → Elt F e) : sProp 𝕄 :=
  iprop(∃ f : Buf (Elt F) (m.view.loc thr), ⌜m.view.read (Elt F) f = X⌝ ∗ m.view.loc thr ↦{q} f)

end Cert.Proof.KI

end
-- ==== Proof.Whole.lean ====
/-
  Loads and stores of a whole memref, as rules over what the memref reads.
-/
module

public import proofs.«01_k».proof.Proof.Setup

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F]

local notation "𝕄" => MT nD τ sig (HIx 1) (Elt F) ℕ UU ℕ

/-- The rectangle that starts at the origin and is as large as the array is the whole array. -/
theorem unit_emb_zero {s : Shape} {off : Fin s.rank → ℕ} (h : off = fun _ => 0) (inb : ∀ a, off a + s.size a ≤ s.size a) (y : s.Idx) :
    (Rect.unit (s := s) off s.size inb).emb y = y := by
  subst h
  funext a
  apply Fin.ext
  show 0 + 1 * (y a).val = (y a).val
  omega

/-- A load through it reads what the memref reads. -/
theorem readAt_all {κ : Kind} {sp : Space} {s : Shape} {e : EltTy} (v : View sig κ sp s e) (f : v.ty.Contents (Elt F)) {off : Fin s.rank → ℕ}
    (h : off = fun _ => 0) (inb : ∀ a, off a + s.size a ≤ s.size a) :
    v.readAt (Elt F) (Rect.unit (s := s) off s.size inb).toLoadRect f = v.read (Elt F) f := by
  subst h
  funext y
  refine (View.readAt_apply _ _ _).trans (congrArg (v.read (Elt F) f) ?_)
  funext a
  apply Fin.ext
  show 0 + 1 * (y a).val = (y a).val
  omega

/-- A store through it leaves its payload. -/
theorem read_write_all {κ : Kind} {sp : Space} {s : Shape} {e : EltTy} (m : Memref sig κ sp s e) (f : m.view.ty.Contents (Elt F)) {off : Fin s.rank → ℕ}
    (h : off = fun _ => 0) (inb : ∀ a, off a + s.size a ≤ s.size a) (w : s.Idx → Elt F e) :
    m.view.read (Elt F) ((m.access (Rect.unit (s := s) off s.size inb)).write (Elt F) f w Finset.univ) = w := by
  funext y
  have h' := View.read_writes_cons_emb m.view f (Rect.unit (s := s) off s.size inb) w [] y
  rw [unit_emb_zero h inb y] at h'
  exact h'

variable {thr : Thread nD τ} {bd : Option (𝒱₀).V} {α : Type} {E : Set ℕ}

/-- A LOAD OF THE WHOLE MEMREF continues at what it reads. -/
theorem wp_loadAll {Q : α → sProp 𝕄} {cs : CoreSpace} {s : Shape} {e : EltTy} {m : Memref sig thr.2.kind cs s e} {off : Fin s.rank → ℕ}
    {inb : ∀ a, off a + s.size a ≤ s.size a} {hl : m.view.LoadsAt (Rect.unit (s := s) off s.size inb).toLoadRect}
    {k : (s.Idx → Elt F e) → Prog (TpuEff nD τ sig (Elt F) Λ₀ thr.2) α} {q : PosShare TreeShare} {X : s.Idx → Elt F e} (h : off = fun _ => 0) :
    held thr m q X
      ⊢ iprop((held thr m q X -∗ wp frame (wpE (defs₀ (F := F)) 𝒱₀ thr bd) E (k X) Q)
        -∗ wp frame (wpE (defs₀ (F := F)) 𝒱₀ thr bd) E (.op (.load m (Rect.unit (s := s) off s.size inb).toLoadRect hl) k) Q) := by
  unfold held
  iintro ⟨%f, %hf, H⟩ Hk
  iapply (wp_load (Q := Q) 𝒱₀ thr bd E (Finset.subset_univ _)) $$ H
  iintro H
  have hv : X = m.view.readAt (Elt F) (Rect.unit (s := s) off s.size inb).toLoadRect f := hf.symm.trans (readAt_all m.view f h inb).symm
  subst hv
  iapply Hk
  iexists f; iframe H; ipureintro; exact hf

/-- A STORE OF THE WHOLE MEMREF leaves its payload. -/
theorem wp_storeAll {Q : α → sProp 𝕄} {cs : CoreSpace} {s : Shape} {e : EltTy} {m : Memref sig thr.2.kind cs s e} {off : Fin s.rank → ℕ}
    {inb : ∀ a, off a + s.size a ≤ s.size a} {w : s.Idx → Elt F e} {hx : (m.access (Rect.unit (s := s) off s.size inb)).Stores Finset.univ}
    {hm : (Finset.univ : Finset s.Idx) = Finset.univ ∨ ∀ a, (Rect.unit (s := s) off s.size inb).stride a = 1}
    {k : PUnit → Prog (TpuEff nD τ sig (Elt F) Λ₀ thr.2) α} {X : s.Idx → Elt F e} (h : off = fun _ => 0) :
    held thr m fullShare X
      ⊢ iprop((held thr m fullShare w -∗ wp frame (wpE (defs₀ (F := F)) 𝒱₀ thr bd) E (k ⟨⟩) Q)
        -∗ wp frame (wpE (defs₀ (F := F)) 𝒱₀ thr bd) E (.op (.store m (Rect.unit (s := s) off s.size inb) w Finset.univ hx hm) k) Q) := by
  unfold held
  iintro ⟨%f, %hf, H⟩ Hk
  iapply (wp_store (Q := Q) (m := m) (r := Rect.unit (s := s) off s.size inb) (f := f) 𝒱₀ thr bd E (Finset.subset_univ _)) $$ H
  iintro H
  iapply Hk
  iexists _; iframe H; ipureintro; exact read_write_all m f h inb w

/-- A whole memref owned is its buffer held at what it reads. -/
theorem owns_held {sp : Space} {s : Shape} {e : EltTy} {m : Memref sig thr.2.kind sp s e} (hm : m.IsWhole) (X : s.Idx → Elt F e) :
    (owns thr m fullShare X : sProp 𝕄) = held thr m fullShare X := by
  unfold owns held
  rw [hm.set_eq_univ]

end Cert.Proof.KI

end
-- ==== Proof.Region.lean ====
/-
  A TensorCore region of the program, over the thread's unscoped buffers at a valuation and the core owing the
  SparseCore call what it owes at that place: stated once for both regions, from the proof data of either.
-/
module

public import proofs.«01_k».proof.Proof.Whole
public import Idealize.ShloMosaic.Lib.Pipeline.RegionsLoop
public import Idealize.ShloMosaic.Lib.Pipeline.RegionArrays

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F]

local notation "𝕄" => MT nD τ sig (HIx 1) (Elt F) ℕ UU ℕ

/-- The pipelines read no table, so there is one way to pin them. -/
abbrev adm (p : Fin 2) : (pcfgs (F := F) p).Adm := (cfgs p).toPCfg_adm

/-- The waits the TensorCore may have recorded before call `n`. -/
def below (d : Dev nD) (b : ℕ) : Set (SemLoc sig × HIx 1) := fun p => (K (F := F)).lev (SparseCore.T d, p.1) p.2 ≤ b

/-- What the TensorCore owes before call `n`, its recorded waits bounded. -/
def owesTc (d : Dev nD) (n : ℕ) : sProp 𝕄 :=
  iprop(∃ W, ⌜(K (F := F)).WBelow (SparseCore.T d) W (8 * n)⌝ ∗ owes (SparseCore.T d) ((K (F := F)).Otc d n) W)

/-- The TensorCore owes nothing of its own kernels' index. -/
theorem Otc_none (d : Dev nD) (n : ℕ) (g : GSem nD τ sig) : (K (F := F)).Otc (N := 1) d n g none = 0 := by
  by_cases hn : n = 0
  · simp [SparseCore.Cfg.Otc, hn, tallyAt_apply]
  · simp [SparseCore.Cfg.Otc, hn]

/-- Contents of every buffer of every device's TensorCore. -/
abbrev Vals (F : FTy → Type) : Type := (c : Dev nD) → (b : Ref sig .tc) → Buf (Elt F) ((SparseCore.T c : Thread nD τ).loc b)

/-- The proof data of both pipelines. -/
abbrev PD (F : FTy → Type) [FloatOps F] : Type := (p : Fin 2) → (c : Dev nD) → Dat τ (Elt F) (HIx 1) ℕ UU ℕ (Pipeline.pin (pcfgs (F := F)) adm p) c

set_option backward.isDefEq.respectTransparency.types false in
/-- A REGION from the unscoped buffers at `V` to the unscoped buffers at `Vp`, which has the windows' arrays as the
    write-backs leave them and agrees with `V` elsewhere. -/
def reg (p : Fin 2) (launch : Pipeline.LaunchFacts (nD := nD) (τ := τ) cfgs p) (pdats : PD F) (n : ℕ)
    (V Vp : Vals F)
    (hA : ∀ c w, (pdats p c).A w = V c (Pipeline.arrRef (Pipeline.pin (pcfgs (F := F)) adm p).spec w)) (hq : ∀ c w, (pdats p c).q w = fullShare)
    (howed : ∀ c t, (pdats p c).owed t = (K (F := F)).Otc c n) (hrec : ∀ c t, (pdats p c).recorded t = below (F := F) c (8 * n))
    (hbody : ∀ c, Pipeline.BodyObligation (pdats p c) (defs₀ (F := F)) 𝒱₀ none Set.univ)
    (hin : ∀ c, (Pipeline.scopedRest (Pipeline.pin (pcfgs (F := F)) adm p).spec c : sProp 𝕄) ⊢ (pdats p c).Φ 0)
    (hout : ∀ c, (pdats p c).Φ (Fin.last _) ⊢ (Pipeline.scopedRest (Pipeline.pin (pcfgs (F := F)) adm p).spec c : sProp 𝕄))
    (hVp : ∀ c w, (pdats p c).arrAt w (Pipeline.pin (pcfgs (F := F)) adm p).N = Vp c (Pipeline.arrRef (Pipeline.pin (pcfgs (F := F)) adm p).spec w))
    (hVne : ∀ c b, b ∉ Finset.univ.image (Pipeline.arrRef (Pipeline.pin (pcfgs (F := F)) adm p).spec) → Vp c b = V c b) :
    Pipeline.RegionSeg (pcfgs (F := F)) adm pdats none defs₀ 𝒱₀ (K (F := F)).L (K (F := F)).lev p where
  win := launch.win.to₀
  block_pos := launch.block_pos
  stage_whole := launch.stage_whole
  K := PEmpty
  osem k := k.elim
  ho := Pipeline.OwnSemFacts.none _
  hbody c := (hbody c).loose
  hwaits c := Pipeline.cellsWaits_intro _ _ _ _ c fun w s t => by
    rw [howed c t]
    exact (K (F := F)).mayWait_none _ (Otc_none c n)
  pre c := iprop(unscopedBufs c (V c) ∗ owesTc (F := F) c n)
  post c := iprop(unscopedBufs c (Vp c) ∗ owesTc (F := F) c n)
  X _ := BI.emp
  Y _ := BI.emp
  Z c := Pipeline.unscopedRest (Ix := HIx 1) (Name := ℕ) (U := UU) (Lvl := ℕ) (Pipeline.pin (pcfgs (F := F)) adm p).spec c (V c)
  hentry c := by
    rw [Pipeline.ownSems0_none, Pipeline.prefHeld_of_none _ rfl]
    have hsplit := Pipeline.arrays_of_unscopedBufs (p := p) (pcfgs (F := F)) adm pdats launch.win launch.arr_whole c
      ((pdats p c).share_full (hq c)) (V c) (hA c)
    unfold owesTc
    iintro ⟨⟨Hub, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin Pipeline.Dat.bound
      rw [howed c 0, hrec c 0]
      icases HO with ⟨%W, %hW, HO⟩; iexists W; isplitr
      · ipureintro; exact fun x hx => Or.inl (hW x hx)
      iexact HO
    isplitr; · iempintro
    iexact Hrest
  hin c := by
    rw [Pipeline.prefHeld_of_none _ rfl]
    iintro ⟨-, -, Hr⟩
    iapply (hin c); iexact Hr
  hout c := by
    rw [Pipeline.ownSems0_none]
    iintro H
    isplitr; · iempintro
    isplitr; · iempintro
    iapply (hout c); iexact H
  hexit c := by
    have hjoin := Pipeline.unscopedBufs_of_arrays (p := p) (pcfgs (F := F)) adm (Ix := HIx 1) (Name := ℕ) (U := UU) (Lvl := ℕ) launch.win launch.arr_whole c
      pdats ((pdats p c).share_full (hq c)) (V c) (Vp c) ((pdats p c).arrAt · (Pipeline.pin (pcfgs (F := F)) adm p).N) (hVp c) (hVne c)
    unfold owesTc
    iintro ⟨Ha, HO, -, Hrest⟩
    imodintro
    isplitl [Ha Hrest]
    · iapply hjoin; isplitl [Ha] <;> iassumption
    unfold Pipeline.Dat.owesAt Pipeline.owesWithin Pipeline.Dat.bound
    rw [howed c, hrec c]
    icases HO with ⟨%W, %hW, HO⟩; iexists W; isplitr
    · ipureintro
      intro x hx
      rcases hW hx with h | ⟨w, s, h⟩
      · exact h
      · subst h; exact Nat.zero_le _
    iexact HO

end Cert.Proof.KI

end
-- ==== Proof.Region2.lean ====
/-
  The second TensorCore region (the log-probabilities and entropies of the gathered rows), one block of 1024 rows at a
  point: the kernel's run, its proof data at an entry valuation, and the body obligation.
-/
module

public import proofs.«01_k».proof.Proof.Region

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F]

local notation "𝕄" => MT nD τ sig (HIx 1) (Elt F) ℕ UU ℕ

theorem off_zero1 : (![0] : Fin 1 → ℕ) = fun _ => 0 := by funext a; fin_cases a; rfl
theorem off_zero2 : (![0, 0] : Fin 2 → ℕ) = fun _ => 0 := by funext a; fin_cases a <;> rfl

/-- THE HEAD KERNEL on a block `X` of gathered rows leaves the block, its log-probabilities and its entropies. -/
theorem head_run (c : Dev nD) (i : grid2.Coords) (M1 : Memref sig .tc .vmem S1024x128 .f32) (h1 : M1.IsWhole) (M2 : Memref sig .tc .vmem S1024 .f32) (h2 : M2.IsWhole)
    (M3 : Memref sig .tc .vmem S1024 .f32) (h3 : M3.IsWhole) (X : S1024x128.Idx → Elt F .f32) (Y2 Y3 : S1024.Idx → Elt F .f32) (Q : PUnit → sProp 𝕄) :
    iprop(held (SparseCore.T c) M1 fullShare X ∗ held (SparseCore.T c) M2 fullShare Y2 ∗ held (SparseCore.T c) M3 fullShare Y3
        ∗ (iprop(held (SparseCore.T c) M1 fullShare X ∗ held (SparseCore.T c) M2 fullShare (k2_pay7 X) ∗ held (SparseCore.T c) M3 fullShare (k2_pay8 X)) -∗ Q ⟨⟩))
      ⊢ wp frame (wpE (defs₀ (F := F)) 𝒱₀ (SparseCore.T c) none) Set.univ (cc2__head_body i M1 h1 M2 h2 M3 h3) Q := by
  rw [cc2__head_body_eq_skeleton]
  unfold cc2__head_body_skel
  simp only [Prog.lift, Prog.bind_op, Prog.bind_ret, bind_assoc, pure_bind]
  iintro ⟨H1, H2, H3, Hk⟩
  iapply (wp_loadAll (Q := Q) (thr := SparseCore.T c) (m := M1) (q := fullShare) (X := X) off_zero2) $$ H1
  iintro H1
  iapply (wp_loadAll (Q := Q) (thr := SparseCore.T c) (m := M2) (q := fullShare) (X := Y2) off_zero1) $$ H2
  iintro H2
  iapply (wp_storeAll (Q := Q) (thr := SparseCore.T c) (m := M2) (X := Y2) off_zero1) $$ H2
  iintro H2
  iapply (wp_loadAll (Q := Q) (thr := SparseCore.T c) (m := M3) (q := fullShare) (X := Y3) off_zero1) $$ H3
  iintro H3
  iapply (wp_storeAll (Q := Q) (thr := SparseCore.T c) (m := M3) (X := Y3) off_zero1) $$ H3
  iintro H3
  dsimp only [Prog.bind]
  rw [wp_pure]
  imodintro
  iapply Hk
  iframe H1 H2 H3

/-! ## The proof data, at an entry valuation -/

variable (V : Vals F)

/-- The block of gathered rows fetched at point `t`. -/
def rows2 (c : Dev nD) (t : Fin cfg2.N) : S1024x128.Idx → Elt F .f32 := ((cfg2.win 0).blk t).view.read (Elt F) (V c main_v1)

/-- The region's proof data: the arrays at `V`; a point leaves the block it fetched, its log-probabilities and its
    entropies; the TensorCore's debts and waits as they are before call 1. -/
def dat2 (c : Dev nD) : Dat τ (Elt F) (HIx 1) ℕ UU ℕ cfg2 c where
  A w := V c (Pipeline.arrRef spec2 w)
  after w t := match w with
    | ⟨0, _⟩ => rows2 V c t
    | ⟨1, _⟩ => k2_pay7 (rows2 V c t)
    | ⟨2, _⟩ => k2_pay8 (rows2 V c t)
  Φ _ := Pipeline.scopedRest (Ix := HIx 1) (Name := ℕ) (U := UU) (Lvl := ℕ) (Val := Elt F) spec2 c
  q _ := fullShare
  owed _ := (K (F := F)).Otc c 1
  recorded _ := below (F := F) c 8

/-- The fetched window's buffer holds its block when the body runs. -/
theorem before2_0 (c : Dev nD) (t : Fin cfg2.N) (d : (cfg2.win 0).block.Idx → Elt F (cfg2.win 0).elt) : (dat2 V c).before 0 t d = rows2 V c t := by
  unfold Pipeline.Dat.before
  rw [if_pos (fetch2_0 t)]
  rfl

theorem body2 (c : Dev nD) : Pipeline.BodyObligation (dat2 V c) (defs₀ (F := F)) 𝒱₀ none Set.univ := fun t => by
  rw [bigSep_W2, bigSep_W2]
  rw [show (dat2 V c).Φ t.succ = (dat2 V c).Φ t.castSucc from rfl, show (dat2 V c).owesAt none t.succ = (dat2 V c).owesAt none t.castSucc from rfl]
  iintro ⟨HΦ, Howes, ⟨%d0, H0⟩, ⟨%d1, H1⟩, ⟨%d2, H2⟩⟩
  rw [before2_0]
  have e0 := owns_held (F := F) (thr := SparseCore.T c) (m := st2_0 t) (hstage2_0 _)
  have e1 := owns_held (F := F) (thr := SparseCore.T c) (m := st2_1 t) (hstage2_1 _)
  have e2 := owns_held (F := F) (thr := SparseCore.T c) (m := st2_2 t) (hstage2_2 _)
  iapply (head_run c (grid2.coords t) (st2_0 t) (hstage2_0 _) (st2_1 t) (hstage2_1 _) (st2_2 t) (hstage2_2 _) (rows2 V c t) ((dat2 V c).before 1 t d1) ((dat2 V c).before 2 t d2))
  isplitl [H0]; · rw [← e0]; iexact H0
  isplitl [H1]; · rw [← e1]; iexact H1
  isplitl [H2]; · rw [← e2]; iexact H2
  rw [← e0, ← e1, ← e2]
  iintro ⟨H0, H1, H2⟩
  isplitl [HΦ]; · iexact HΦ
  isplitl [Howes]; · iexact Howes
  isplitl [H0]; · iexact H0
  isplitl [H1]; · iexact H1
  iexact H2

end Cert.Proof.KI

end
-- ==== Proof.Body0.lean ====
/-
  The first TensorCore region's kernel on one block of entities: what it stores, and what it does to the two
  accumulators it carries from block to block.
-/
module

public import proofs.«01_k».proof.Proof.Region2

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F]

local notation "𝕄" => MT nD τ sig (HIx 1) (Elt F) ℕ UU ℕ

/-! ## The kernel's three conditions -/

theorem cond_first (i : grid0.Coords) : Scalar.cmpi .ne (Scalar.extui (Scalar.cmpi .eq (BitVec.ofNat 32 (i 0).val) 0#32) : BitVec 32) 0#32 = 1#1 ↔ (i 0).val = 0 :=
  (show ∀ n : Fin 8, Scalar.cmpi .ne (Scalar.extui (Scalar.cmpi .eq (BitVec.ofNat 32 n.val) 0#32) : BitVec 32) 0#32 = 1#1 ↔ n.val = 0 by decide) (i 0)
theorem cond_later (i : grid0.Coords) : Scalar.cmpi .ne (Scalar.extui (Scalar.cmpi .sgt (BitVec.ofNat 32 (i 0).val) 0#32) : BitVec 32) 0#32 = 1#1 ↔ (i 0).val ≠ 0 :=
  (show ∀ n : Fin 8, Scalar.cmpi .ne (Scalar.extui (Scalar.cmpi .sgt (BitVec.ofNat 32 n.val) 0#32) : BitVec 32) 0#32 = 1#1 ↔ n.val ≠ 0 by decide) (i 0)
theorem cond_last (i : grid0.Coords) : k0_cond3 i = 1#1 ↔ (i 0).val = 7 :=
  (show ∀ n : Fin 8, Scalar.cmpi .ne (Scalar.extui (Scalar.cmpi .eq (BitVec.ofNat 32 n.val) 7#32) : BitVec 32) 0#32 = 1#1 ↔ n.val = 7 by decide) (i 0)

/-- The segment sums after a point, from those before it. -/
def segNew (n : ℕ) (x : S2048x256.Idx → Elt F .f32) (b : S2048.Idx → Elt F .i32) (w1 : S256x512.Idx → Elt F .f32) (w2 : S512x2048.Idx → Elt F .f32) (w3 : S2048x512.Idx → Elt F .f32)
    (s : S16x512.Idx → Elt F .f32) : S16x512.Idx → Elt F .f32 :=
  if n = 0 then k0_pay9 x w1 w2 w3 b else k0_pay1 (k0_pay7 x w1 w2 w3 b) s
/-- The segment counts after a point, from those before it. -/
def cntNew (n : ℕ) (b : S2048.Idx → Elt F .i32) (k : S16x1.Idx → Elt F .f32) : S16x1.Idx → Elt F .f32 :=
  if n = 0 then k0_pay10 b else k0_pay2 (k0_pay8 b) k
/-- The second result's buffer after a point: written at the last only. -/
def auxNew (n : ℕ) (s : S16x512.Idx → Elt F .f32) (k : S16x1.Idx → Elt F .f32) (w : S512x1.Idx → Elt F .f32) (y : S16x1.Idx → Elt F .f32) : S16x1.Idx → Elt F .f32 :=
  if n = 7 then k0_pay3 s k w else y

variable {E : Set ℕ}

set_option maxRecDepth 20000 in
/-- THE BODY KERNEL on a block: the rows' logits stored, the two accumulators advanced, the second result stored at the
    last point. -/
theorem main_run (c : Dev nD) (i : grid0.Coords) (M1 : Memref sig .tc .vmem S2048x256 .f32) (h1 : M1.IsWhole) (M2 : Memref sig .tc .vmem S2048 .i32) (h2 : M2.IsWhole) (M3 : Memref sig .tc .vmem S256x512 .f32) (h3 : M3.IsWhole) (M4 : Memref sig .tc .vmem S512x2048 .f32) (h4 : M4.IsWhole) (M5 : Memref sig .tc .vmem S2048x512 .f32) (h5 : M5.IsWhole) (M6 : Memref sig .tc .vmem S512x64 .f32) (h6 : M6.IsWhole) (M7 : Memref sig .tc .vmem S512x1 .f32) (h7 : M7.IsWhole) (M8 : Memref sig .tc .vmem S2048x128 .f32) (h8 : M8.IsWhole) (M9 : Memref sig .tc .vmem S16x1 .f32) (h9 : M9.IsWhole) (M10 : Memref sig .tc .vmem S16x512 .f32) (h10 : M10.IsWhole) (M11 : Memref sig .tc .vmem S16x1 .f32) (h11 : M11.IsWhole)
    (x : S2048x256.Idx → Elt F .f32) (b : S2048.Idx → Elt F .i32) (w1 : S256x512.Idx → Elt F .f32) (w2 : S512x2048.Idx → Elt F .f32) (w3 : S2048x512.Idx → Elt F .f32)
    (w4 : S512x64.Idx → Elt F .f32) (w5 : S512x1.Idx → Elt F .f32) (y8 : S2048x128.Idx → Elt F .f32) (y9 : S16x1.Idx → Elt F .f32) (s : S16x512.Idx → Elt F .f32) (k : S16x1.Idx → Elt F .f32)
    (Q : PUnit → sProp 𝕄) :
    iprop(held (SparseCore.T c) M1 fullShare x ∗ held (SparseCore.T c) M2 fullShare b ∗ held (SparseCore.T c) M3 fullShare w1 ∗ held (SparseCore.T c) M4 fullShare w2
        ∗ held (SparseCore.T c) M5 fullShare w3 ∗ held (SparseCore.T c) M6 fullShare w4 ∗ held (SparseCore.T c) M7 fullShare w5 ∗ held (SparseCore.T c) M8 fullShare y8
        ∗ held (SparseCore.T c) M9 fullShare y9 ∗ held (SparseCore.T c) M10 fullShare s ∗ held (SparseCore.T c) M11 fullShare k
        ∗ (iprop(held (SparseCore.T c) M1 fullShare x ∗ held (SparseCore.T c) M2 fullShare b ∗ held (SparseCore.T c) M3 fullShare w1 ∗ held (SparseCore.T c) M4 fullShare w2
            ∗ held (SparseCore.T c) M5 fullShare w3 ∗ held (SparseCore.T c) M6 fullShare w4 ∗ held (SparseCore.T c) M7 fullShare w5
            ∗ held (SparseCore.T c) M8 fullShare (k0_pay5 x w1 w2 w3 w4)
            ∗ held (SparseCore.T c) M9 fullShare (auxNew (i 0).val (segNew (i 0).val x b w1 w2 w3 s) (cntNew (i 0).val b k) w5 y9)
            ∗ held (SparseCore.T c) M10 fullShare (segNew (i 0).val x b w1 w2 w3 s) ∗ held (SparseCore.T c) M11 fullShare (cntNew (i 0).val b k)) -∗ Q ⟨⟩))
      ⊢ wp frame (wpE (defs₀ (F := F)) 𝒱₀ (SparseCore.T c) none) E (cc0__main_body i M1 h1 M2 h2 M3 h3 M4 h4 M5 h5 M6 h6 M7 h7 M8 h8 M9 h9 M10 h10 M11 h11) Q := by
  rw [cc0__main_body_eq_skeleton]
  unfold cc0__main_body_skel
  rw [k0_part1_eq_skeleton]
  unfold k0_part1_skel
  have hi : (i 0).val < 8 := (i 0).isLt
  simp only [Prog.lift, Prog.bind_op, Prog.bind_ret, bind_assoc, pure_bind]
  iintro ⟨H1, H2, H3, H4, H5, H6, H7, H8, H9, H10, H11, Hk⟩
  iapply (wp_loadAll (Q := Q) (thr := SparseCore.T c) (m := M1) (q := fullShare) (X := x) off_zero2) $$ H1
  iintro H1
  iapply (wp_loadAll (Q := Q) (thr := SparseCore.T c) (m := M3) (q := fullShare) (X := w1) off_zero2) $$ H3
  iintro H3
  iapply (wp_loadAll (Q := Q) (thr := SparseCore.T c) (m := M4) (q := fullShare) (X := w2) off_zero2) $$ H4
  iintro H4
  iapply (wp_loadAll (Q := Q) (thr := SparseCore.T c) (m := M5) (q := fullShare) (X := w3) off_zero2) $$ H5
  iintro H5
  iapply (wp_loadAll (Q := Q) (thr := SparseCore.T c) (m := M6) (q := fullShare) (X := w4) off_zero2) $$ H6
  iintro H6
  iapply (wp_loadAll (Q := Q) (thr := SparseCore.T c) (m := M8) (q := fullShare) (X := y8) off_zero2) $$ H8
  iintro H8
  iapply (wp_storeAll (Q := Q) (thr := SparseCore.T c) (m := M8) (X := y8) off_zero2) $$ H8
  iintro H8
  iapply (wp_loadAll (Q := Q) (thr := SparseCore.T c) (m := M2) (q := fullShare) (X := b) off_zero1) $$ H2
  iintro H2
  by_cases h0 : (i 0).val = 0
  · rw [dif_pos ((cond_first i).2 h0)]
    simp only [Prog.lift, Prog.bind_op, Prog.bind_ret, bind_assoc, pure_bind]
    iapply (wp_loadAll (Q := Q) (thr := SparseCore.T c) (m := M10) (q := fullShare) (X := s) off_zero2) $$ H10
    iintro H10
    iapply (wp_storeAll (Q := Q) (thr := SparseCore.T c) (m := M10) (X := s) off_zero2) $$ H10
    iintro H10
    iapply (wp_loadAll (Q := Q) (thr := SparseCore.T c) (m := M11) (q := fullShare) (X := k) off_zero2) $$ H11
    iintro H11
    iapply (wp_storeAll (Q := Q) (thr := SparseCore.T c) (m := M11) (X := k) off_zero2) $$ H11
    iintro H11
    rw [dif_neg (fun h => (cond_later i).1 h h0), dif_neg (fun h => absurd ((cond_last i).1 h) (by omega))]
    dsimp only [Prog.bind]
    rw [wp_pure]
    imodintro
    iapply Hk
    simp only [segNew, cntNew, auxNew, if_pos h0, if_neg (show ¬ (i 0).val = 7 by omega)]
    iframe
  · rw [dif_neg (fun h => h0 ((cond_first i).1 h))]
    simp only [Prog.lift, Prog.bind_op, Prog.bind_ret, bind_assoc, pure_bind]
    rw [dif_pos ((cond_later i).2 h0)]
    iapply (wp_loadAll (Q := Q) (thr := SparseCore.T c) (m := M10) (q := fullShare) (X := s) off_zero2) $$ H10
    iintro H10
    iapply (wp_loadAll (Q := Q) (thr := SparseCore.T c) (m := M10) (q := fullShare) (X := s) off_zero2) $$ H10
    iintro H10
    iapply (wp_storeAll (Q := Q) (thr := SparseCore.T c) (m := M10) (X := s) off_zero2) $$ H10
    iintro H10
    iapply (wp_loadAll (Q := Q) (thr := SparseCore.T c) (m := M11) (q := fullShare) (X := k) off_zero2) $$ H11
    iintro H11
    iapply (wp_loadAll (Q := Q) (thr := SparseCore.T c) (m := M11) (q := fullShare) (X := k) off_zero2) $$ H11
    iintro H11
    iapply (wp_storeAll (Q := Q) (thr := SparseCore.T c) (m := M11) (X := k) off_zero2) $$ H11
    iintro H11
    by_cases h7 : (i 0).val = 7
    · rw [dif_pos ((cond_last i).2 h7)]
      simp only [Prog.lift, Prog.bind_op, Prog.bind_ret, bind_assoc, pure_bind]
      iapply (wp_loadAll (Q := Q) (thr := SparseCore.T c) (m := M10) (q := fullShare) (X := _) off_zero2) $$ H10
      iintro H10
      iapply (wp_loadAll (Q := Q) (thr := SparseCore.T c) (m := M11) (q := fullShare) (X := _) off_zero2) $$ H11
      iintro H11
      iapply (wp_loadAll (Q := Q) (thr := SparseCore.T c) (m := M7) (q := fullShare) (X := w5) off_zero2) $$ H7
      iintro H7
      iapply (wp_loadAll (Q := Q) (thr := SparseCore.T c) (m := M9) (q := fullShare) (X := y9) off_zero2) $$ H9
      iintro H9
      iapply (wp_storeAll (Q := Q) (thr := SparseCore.T c) (m := M9) (X := y9) off_zero2) $$ H9
      iintro H9
      dsimp only [Prog.bind]
      rw [wp_pure]
      imodintro
      iapply Hk
      simp only [segNew, cntNew, auxNew, if_neg h0, if_pos h7]
      iframe
    · rw [dif_neg (fun h => h7 ((cond_last i).1 h))]
      dsimp only [Prog.bind]
      rw [wp_pure]
      imodintro
      iapply Hk
      simp only [segNew, cntNew, auxNew, if_neg h0, if_neg h7]
      iframe

end Cert.Proof.KI

end
-- ==== Proof.Region0.lean ====
/-
  The first TensorCore region: its proof data, with the two accumulators carried in the loop's invariant, and the body's
  obligation.
-/
module

public import proofs.«01_k».proof.Proof.Body0
public import Idealize.ShloMosaic.Lib.Pipeline.FrameBody

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F]

local notation "𝕄" => MT nD τ sig (HIx 1) (Elt F) ℕ UU ℕ

variable (V : Vals F)

/-- A whole buffer held is the buffer at what it reads. -/
theorem held_of_pts (c : Dev nD) (b : Ref sig .tc) (X : Buf (Elt F) ((SparseCore.T c : Thread nD τ).loc b)) :
    (((SparseCore.T c : Thread nD τ).loc b) ↦{fullShare} X : sProp 𝕄) ⊢ held (SparseCore.T c) (Memref.whole b) fullShare X := by
  unfold held
  iintro H
  iexists X
  isplitr; · ipureintro; rfl
  iexact H
theorem pts_of_held (c : Dev nD) (b : Ref sig .tc) (X : Buf (Elt F) ((SparseCore.T c : Thread nD τ).loc b)) :
    held (SparseCore.T c) (Memref.whole b) fullShare X ⊢ (((SparseCore.T c : Thread nD τ).loc b) ↦{fullShare} X : sProp 𝕄) := by
  unfold held
  iintro ⟨%f, %hf, H⟩
  have h : f = X := hf
  subst h
  iexact H

/-! ## The blocks the region reads -/

/-- The block of `main_arg0` at point `t`. -/
def in0_0 (c : Dev nD) (t : Fin cfg0.N) : S2048x256.Idx → Elt F .f32 := ((cfg0.win 0).blk t).view.read (Elt F) (V c main_arg0)
/-- The block of `main_arg11` at point `t`. -/
def in0_1 (c : Dev nD) (t : Fin cfg0.N) : S2048.Idx → Elt F .i32 := ((cfg0.win 1).blk t).view.read (Elt F) (V c main_arg11)
/-- The block of `main_arg1` at point `t`. -/
def in0_2 (c : Dev nD) (t : Fin cfg0.N) : S256x512.Idx → Elt F .f32 := ((cfg0.win 2).blk t).view.read (Elt F) (V c main_arg1)
/-- The block of `main_arg3` at point `t`. -/
def in0_3 (c : Dev nD) (t : Fin cfg0.N) : S512x2048.Idx → Elt F .f32 := ((cfg0.win 3).blk t).view.read (Elt F) (V c main_arg3)
/-- The block of `main_arg5` at point `t`. -/
def in0_4 (c : Dev nD) (t : Fin cfg0.N) : S2048x512.Idx → Elt F .f32 := ((cfg0.win 4).blk t).view.read (Elt F) (V c main_arg5)
/-- The block of `main_arg7` at point `t`. -/
def in0_5 (c : Dev nD) (t : Fin cfg0.N) : S512x64.Idx → Elt F .f32 := ((cfg0.win 5).blk t).view.read (Elt F) (V c main_arg7)
/-- The block of `main_arg9` at point `t`. -/
def in0_6 (c : Dev nD) (t : Fin cfg0.N) : S512x1.Idx → Elt F .f32 := ((cfg0.win 6).blk t).view.read (Elt F) (V c main_arg9)

/-- The grid point of number `n`. -/
def pt0 (n : ℕ) : Fin cfg0.N := ⟨n % 8, by have := N_0; rw [show cfg0.N = 8 from N_0]; omega⟩
theorem pt0_val (t : Fin cfg0.N) : pt0 t.val = t := by
  have h : t.val < 8 := lt_of_lt_of_eq t.isLt N_0
  exact Fin.ext (Nat.mod_eq_of_lt h)
theorem coord0 (t : Fin cfg0.N) : (grid0.coords t 0).val = t.val :=
  (show ∀ t : Fin grid0.N, (grid0.coords t 0).val = t.val by decide) t

/-- The segment sums after point `n`. -/
def segAt (c : Dev nD) : ℕ → S16x512.Idx → Elt F .f32
  | 0 => k0_pay9 (in0_0 V c (pt0 0)) (in0_2 V c (pt0 0)) (in0_3 V c (pt0 0)) (in0_4 V c (pt0 0)) (in0_1 V c (pt0 0))
  | n + 1 => k0_pay1 (k0_pay7 (in0_0 V c (pt0 (n + 1))) (in0_2 V c (pt0 (n + 1))) (in0_3 V c (pt0 (n + 1))) (in0_4 V c (pt0 (n + 1))) (in0_1 V c (pt0 (n + 1)))) (segAt c n)
/-- The segment counts after point `n`. -/
def cntAt (c : Dev nD) : ℕ → S16x1.Idx → Elt F .f32
  | 0 => k0_pay10 (in0_1 V c (pt0 0))
  | n + 1 => k0_pay2 (k0_pay8 (in0_1 V c (pt0 (n + 1)))) (cntAt c n)

theorem segAt_step (c : Dev nD) (t : Fin cfg0.N) (s : S16x512.Idx → Elt F .f32) (hs : t.val ≠ 0 → s = segAt V c (t.val - 1)) :
    segNew t.val (in0_0 V c t) (in0_1 V c t) (in0_2 V c t) (in0_3 V c t) (in0_4 V c t) s = segAt V c t.val := by
  obtain ⟨n, rfl⟩ : ∃ n, t = pt0 n := ⟨t.val, (pt0_val t).symm⟩
  have hn := pt0_val (pt0 n)
  generalize (pt0 n).val = m at *
  rw [← hn]
  cases m with
  | zero => unfold segNew segAt; rw [if_pos rfl]
  | succ m => rw [hs (Nat.succ_ne_zero m)]; unfold segNew; rw [if_neg (Nat.succ_ne_zero m)]; rfl
theorem cntAt_step (c : Dev nD) (t : Fin cfg0.N) (s : S16x1.Idx → Elt F .f32) (hs : t.val ≠ 0 → s = cntAt V c (t.val - 1)) :
    cntNew t.val (in0_1 V c t) s = cntAt V c t.val := by
  obtain ⟨n, rfl⟩ : ∃ n, t = pt0 n := ⟨t.val, (pt0_val t).symm⟩
  have hn := pt0_val (pt0 n)
  generalize (pt0 n).val = m at *
  rw [← hn]
  cases m with
  | zero => unfold cntNew cntAt; rw [if_pos rfl]
  | succ m => rw [hs (Nat.succ_ne_zero m)]; unfold cntNew; rw [if_neg (Nat.succ_ne_zero m)]; rfl

/-- A scoped buffer of the core, whole at some contents. -/
abbrev someBuf (c : Dev nD) (b : Ref sig .tc) : sProp 𝕄 := iprop(∃ f : Buf (Elt F) ((SparseCore.T c : Thread nD τ).loc b), ((SparseCore.T c : Thread nD τ).loc b) ↦{fullShare} f)
/-- The other region's staging buffers. -/
def rest0 (c : Dev nD) : sProp 𝕄 := iprop(someBuf c cc2_stg0_0 ∗ someBuf c cc2_stg0_1 ∗ someBuf c cc2_stg1_0 ∗ someBuf c cc2_stg1_1 ∗ someBuf c cc2_stg2_0 ∗ someBuf c cc2_stg2_1)
/-- THE LOOP'S INVARIANT before point `n`: the accumulators hold what point `n - 1` left (anything before the first). -/
def inv0 (c : Dev nD) (n : ℕ) : sProp 𝕄 :=
  iprop((∃ s, ⌜n ≠ 0 → s = segAt V c (n - 1)⌝ ∗ ((SparseCore.T c : Thread nD τ).loc cc0_scratch0) ↦{fullShare} s)
    ∗ (∃ k, ⌜n ≠ 0 → k = cntAt V c (n - 1)⌝ ∗ ((SparseCore.T c : Thread nD τ).loc cc0_scratch1) ↦{fullShare} k) ∗ rest0 c)

theorem inv0_of_scoped (c : Dev nD) : (Pipeline.scopedRest (Ix := HIx 1) (Name := ℕ) (U := UU) (Lvl := ℕ) (Val := Elt F) spec0 c) ⊢ inv0 V c 0 := by
  rw [scopedRest0_eq]
  unfold inv0 rest0
  iintro ⟨⟨%s, Hs⟩, ⟨%k, Hk⟩, H⟩
  isplitl [Hs]
  · iexists s; isplitr; · ipureintro; exact fun h => absurd rfl h
    iexact Hs
  isplitl [Hk]
  · iexists k; isplitr; · ipureintro; exact fun h => absurd rfl h
    iexact Hk
  iexact H
theorem scoped_of_inv0 (c : Dev nD) (n : ℕ) : inv0 V c n ⊢ (Pipeline.scopedRest (Ix := HIx 1) (Name := ℕ) (U := UU) (Lvl := ℕ) (Val := Elt F) spec0 c) := by
  rw [scopedRest0_eq]
  unfold inv0 rest0
  iintro ⟨⟨%s, %_, Hs⟩, ⟨%k, %_, Hk⟩, H⟩
  isplitl [Hs]; · iexists s; iexact Hs
  isplitl [Hk]; · iexists k; iexact Hk
  iexact H

/-- The region's proof data: the arrays at `V`; a point leaves the blocks it fetched, its block's logits and — at the
    last — the second result; the TensorCore's debts and waits as they are before call 0. -/
def dat0 (c : Dev nD) : Dat τ (Elt F) (HIx 1) ℕ UU ℕ cfg0 c where
  A w := V c (Pipeline.arrRef spec0 w)
  after w t := match w with
    | ⟨0, _⟩ => in0_0 V c t
    | ⟨1, _⟩ => in0_1 V c t
    | ⟨2, _⟩ => in0_2 V c t
    | ⟨3, _⟩ => in0_3 V c t
    | ⟨4, _⟩ => in0_4 V c t
    | ⟨5, _⟩ => in0_5 V c t
    | ⟨6, _⟩ => in0_6 V c t
    | ⟨7, _⟩ => k0_pay5 (in0_0 V c t) (in0_2 V c t) (in0_3 V c t) (in0_4 V c t) (in0_5 V c t)
    | ⟨8, _⟩ => k0_pay3 (segAt V c t.val) (cntAt V c t.val) (in0_6 V c t)
  Φ t := inv0 V c t.val
  q _ := fullShare
  owed _ := (K (F := F)).Otc c 0
  recorded _ := below (F := F) c 0

theorem before0_0 (c : Dev nD) (t : Fin cfg0.N) (d : (cfg0.win 0).block.Idx → Elt F (cfg0.win 0).elt) : (dat0 V c).before 0 t d = in0_0 V c t :=
  (dat0 V c).before_in_eq_fetched 0 rfl (fun _ => rfl) (fun _ _ _ => rfl) (fun _ => rfl) t d
theorem before0_1 (c : Dev nD) (t : Fin cfg0.N) (d : (cfg0.win 1).block.Idx → Elt F (cfg0.win 1).elt) : (dat0 V c).before 1 t d = in0_1 V c t :=
  (dat0 V c).before_in_eq_fetched 1 rfl (fun _ => rfl) (fun _ _ _ => rfl) (fun _ => rfl) t d
theorem before0_2 (c : Dev nD) (t : Fin cfg0.N) (d : (cfg0.win 2).block.Idx → Elt F (cfg0.win 2).elt) : (dat0 V c).before 2 t d = in0_2 V c t :=
  (dat0 V c).before_in_eq_fetched 2 rfl (fun _ => rfl) (fun _ _ _ => rfl) (fun _ => rfl) t d
theorem before0_3 (c : Dev nD) (t : Fin cfg0.N) (d : (cfg0.win 3).block.Idx → Elt F (cfg0.win 3).elt) : (dat0 V c).before 3 t d = in0_3 V c t :=
  (dat0 V c).before_in_eq_fetched 3 rfl (fun _ => rfl) (fun _ _ _ => rfl) (fun _ => rfl) t d
theorem before0_4 (c : Dev nD) (t : Fin cfg0.N) (d : (cfg0.win 4).block.Idx → Elt F (cfg0.win 4).elt) : (dat0 V c).before 4 t d = in0_4 V c t :=
  (dat0 V c).before_in_eq_fetched 4 rfl (fun _ => rfl) (fun _ _ _ => rfl) (fun _ => rfl) t d
theorem before0_5 (c : Dev nD) (t : Fin cfg0.N) (d : (cfg0.win 5).block.Idx → Elt F (cfg0.win 5).elt) : (dat0 V c).before 5 t d = in0_5 V c t :=
  (dat0 V c).before_in_eq_fetched 5 rfl (fun _ => rfl) (fun _ _ _ => rfl) (fun _ => rfl) t d
theorem before0_6 (c : Dev nD) (t : Fin cfg0.N) (d : (cfg0.win 6).block.Idx → Elt F (cfg0.win 6).elt) : (dat0 V c).before 6 t d = in0_6 V c t :=
  (dat0 V c).before_in_eq_fetched 6 rfl (fun _ => rfl) (fun _ _ _ => rfl) (fun _ => rfl) t d

/-- What the body owes the second result's window: untouched before the last point, the result there. -/
theorem post0_8 (c : Dev nD) (t : Fin cfg0.N) (d : (cfg0.win 8).block.Idx → Elt F (cfg0.win 8).elt) :
    owns (Ix := HIx 1) (Name := ℕ) (U := UU) (Lvl := ℕ) (SparseCore.T c) (st0_8 t) fullShare (auxNew t.val (segAt V c t.val) (cntAt V c t.val) (in0_6 V c t) ((dat0 V c).before 8 t d))
      ⊢ (match cfg0.idle 8 (cfg0.grid.coords t) with
          | true =>
            match (cfg0.win 8).flush t with
            | false => iprop(∃ d, owns (SparseCore.T c) ((cfg0.win 8).stage (cfg0.slots t 8)) fullShare ((dat0 V c).before 8 t d))
            | true => owns (SparseCore.T c) ((cfg0.win 8).stage (cfg0.slots t 8)) fullShare ((dat0 V c).after 8 t)
          | false => owns (SparseCore.T c) ((cfg0.win 8).stage (cfg0.slots t 8)) fullShare ((dat0 V c).after 8 t) : sProp 𝕄) := by
  by_cases h : t.val = 7
  · have hi : cfg0.idle 8 (cfg0.grid.coords t) = false := by
      show (!(k0_cond3 (grid0.coords t) == 1#1)) = false
      rw [(cond_last _).2 ((coord0 t).trans h)]; rfl
    rw [hi]
    unfold auxNew
    rw [if_pos h]
    exact .rfl
  · have hi : cfg0.idle 8 (cfg0.grid.coords t) = true := by
      show (!(k0_cond3 (grid0.coords t) == 1#1)) = true
      rw [Bool.not_eq_true', beq_eq_false_iff_ne]
      exact fun h' => h ((coord0 t).symm.trans ((cond_last _).1 h'))
    have hf : (cfg0.win 8).flush t = false := by
      rw [Bool.eq_false_iff]
      intro h'
      have := (flush0_8 t).1 h'
      have h8 : t.val < 8 := lt_of_lt_of_eq t.isLt N_0
      omega
    rw [hi, hf]
    unfold auxNew
    rw [if_neg h]
    iintro H
    iexists d
    iexact H

set_option maxRecDepth 20000 in
set_option pp.maxSteps 150 in
theorem body0 (c : Dev nD) : Pipeline.BodyObligation (dat0 V c) (defs₀ (F := F)) 𝒱₀ none Set.univ := fun t => by
  rw [bigSep_W0, bigSep_W0]
  rw [show (dat0 V c).Φ t.succ = inv0 V c (t.val + 1) from rfl, show (dat0 V c).Φ t.castSucc = inv0 V c t.val from rfl,
    show (dat0 V c).owesAt none t.succ = (dat0 V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0, before0_1, before0_2, before0_3, before0_4, before0_5, before0_6]
  unfold inv0
  icases HΦ with ⟨⟨%s, %hs, Hs⟩, ⟨%k, %hk, Hk⟩, Hrest⟩
  have e0 := owns_held (F := F) (thr := SparseCore.T c) (m := st0_0 t) (hstage0_0 _)
  have e1 := owns_held (F := F) (thr := SparseCore.T c) (m := st0_1 t) (hstage0_1 _)
  have e2 := owns_held (F := F) (thr := SparseCore.T c) (m := st0_2 t) (hstage0_2 _)
  have e3 := owns_held (F := F) (thr := SparseCore.T c) (m := st0_3 t) (hstage0_3 _)
  have e4 := owns_held (F := F) (thr := SparseCore.T c) (m := st0_4 t) (hstage0_4 _)
  have e5 := owns_held (F := F) (thr := SparseCore.T c) (m := st0_5 t) (hstage0_5 _)
  have e6 := owns_held (F := F) (thr := SparseCore.T c) (m := st0_6 t) (hstage0_6 _)
  have e7 := owns_held (F := F) (thr := SparseCore.T c) (m := st0_7 t) (hstage0_7 _)
  have e8 := owns_held (F := F) (thr := SparseCore.T c) (m := st0_8 t) (hstage0_8 _)
  iapply (main_run c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) (Memref.whole cc0_scratch0) (Memref.isWhole_whole _) (Memref.whole cc0_scratch1) (Memref.isWhole_whole _)
    (in0_0 V c t) (in0_1 V c t) (in0_2 V c t) (in0_3 V c t) (in0_4 V c t) (in0_5 V c t) (in0_6 V c t) ((dat0 V c).before 7 t d7) ((dat0 V c).before 8 t d8) s k)
  isplitl [H0]; · rw [← e0]; iexact H0
  isplitl [H1]; · rw [← e1]; iexact H1
  isplitl [H2]; · rw [← e2]; iexact H2
  isplitl [H3]; · rw [← e3]; iexact H3
  isplitl [H4]; · rw [← e4]; iexact H4
  isplitl [H5]; · rw [← e5]; iexact H5
  isplitl [H6]; · rw [← e6]; iexact H6
  isplitl [H7]; · rw [← e7]; iexact H7
  isplitl [H8]; · rw [← e8]; iexact H8
  isplitl [Hs]; · iapply (held_of_pts c cc0_scratch0 s); iexact Hs
  isplitl [Hk]; · iapply (held_of_pts c cc0_scratch1 k); iexact Hk
  rw [coord0 t, segAt_step V c t s hs, cntAt_step V c t k hk]
  rw [← e0, ← e1, ← e2, ← e3, ← e4, ← e5, ← e6, ← e7, ← e8]
  iintro ⟨H0, H1, H2, H3, H4, H5, H6, H7, H8, Hs, Hk⟩
  isplitl [Hs Hk Hrest]
  · isplitl [Hs]
    · iexists (segAt V c t.val); isplitr; · ipureintro; exact fun _ => rfl
      iapply (pts_of_held c cc0_scratch0 (segAt V c t.val)); iexact Hs
    isplitl [Hk]
    · iexists (cntAt V c t.val); isplitr; · ipureintro; exact fun _ => rfl
      iapply (pts_of_held c cc0_scratch1 (cntAt V c t.val)); iexact Hk
    iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (post0_8 V c t d8)
  iexact H8

end Cert.Proof.KI

end
-- ==== Proof.Lanes.lean ====
/-
  The arithmetic of a tile's two kinds of step, apart from any run: what sixteen lanes of a scatter leave in a block of
  128 rows (`storeIdx_lanes`), and the two arrays a tile builds sixteen entries at a time: its row numbers (`look`) and
  its rows with lane 64 replaced (`patch`).
-/
module

public import Idealize.ShloMosaic.Lib.Tactic
public import Idealize.ShloMosaic.Lib.ValueIdxCore

@[expose] public section

noncomputable section

namespace Cert.Proof.KI

open Idealize.ShloMosaic
open Idealize.ShloMosaic.ValueIdx (ix1 ix2)

/-- The shapes of a tile's blocks. -/
abbrev B16 : Shape := ⟨1, ![16]⟩
abbrev B128 : Shape := ⟨1, ![128]⟩
abbrev B256 : Shape := ⟨1, ![256]⟩
abbrev B16384 : Shape := ⟨1, ![16384]⟩
abbrev B128x128 : Shape := ⟨2, ![128, 128]⟩

variable {α : Type}

/-- Entry `i` of a vector, by number; entry 0 past its end. -/
def at1 {n : ℕ} [NeZero n] (X : (⟨1, ![n]⟩ : Shape).Idx → α) (i : ℕ) : α :=
  X (ix1 (if h : i < n then ⟨i, h⟩ else ⟨0, Nat.pos_of_ne_zero (NeZero.ne n)⟩))

theorem at1_of_lt {n : ℕ} [NeZero n] (X : (⟨1, ![n]⟩ : Shape).Idx → α) (x : (⟨1, ![n]⟩ : Shape).Idx) {i : ℕ} (h : (x 0).val = i) : at1 X i = X x := by
  subst h
  unfold at1
  have hx : (x 0).val < n := (x 0).isLt
  rw [dif_pos hx]
  exact congrArg X (ValueIdx.eq_ix1 x).symm

/-- A list of 128 words of which the first `o` are the table `im` at the words of `ac` from `b` on, the rest `g`'s. -/
def look (im : B16384.Idx → BitVec 32) (ac : B256.Idx → BitVec 32) (b o : ℕ) (g : B128.Idx → BitVec 32) : B128.Idx → BitVec 32 :=
  fun j => if (j 0).val < o then at1 im (at1 ac (b + (j 0).val)).toNat else g j

/-- A block of 128 rows, lane 64 of the first `o` of which holds the row's own lane that `at` names for it. -/
def patch (g : B128x128.Idx → α) (ac : B256.Idx → BitVec 32) (b o : ℕ) : B128x128.Idx → α :=
  fun j => if (j 1).val = 64 ∧ (j 0).val < o then
    g (ix2 (n0 := 128) (n1 := 128) (j 0) (if h : (at1 ac (b + (j 0).val)).toNat < 128 then ⟨_, h⟩ else ⟨0, by omega⟩)) else g j

theorem patch_zero (g : B128x128.Idx → α) (ac : B256.Idx → BitVec 32) (b : ℕ) : patch g ac b 0 = g := by
  funext j; simp [patch]

variable {F : FTy → Type} [FloatOps F] {s : Shape} {e : EltTy}

/-- A scatter's run over lanes that all miss an element leaves it; -/
theorem foldl_miss {n : ℕ} (hit : Fin n → s.Idx → Prop) [∀ k j, Decidable (hit k j)] (v : Fin n → α) (j : s.Idx) :
    ∀ (l : List (Fin n)) (f : s.Idx → α), (∀ k ∈ l, ¬hit k j) → (l.foldl (fun g k => fun j => if hit k j then v k else g j) f) j = f j
  | [], _, _ => rfl
  | a :: l, f, h => by
    rw [List.foldl_cons, foldl_miss hit v j l _ fun k hk => h k (List.mem_cons_of_mem _ hk), if_neg (h a List.mem_cons_self)]

/-- over lanes of which exactly one hits it, that lane's value. -/
theorem foldl_hit {n : ℕ} (hit : Fin n → s.Idx → Prop) [∀ k j, Decidable (hit k j)] (v : Fin n → α) (j : s.Idx) (k : Fin n) (hk : hit k j)
    (hu : ∀ k', hit k' j → k' = k) :
    ∀ (l : List (Fin n)) (f : s.Idx → α), k ∈ l → (l.foldl (fun g k => fun j => if hit k j then v k else g j) f) j = v k
  | [], _, h => absurd h List.not_mem_nil
  | a :: l, f, h => by
    rw [List.foldl_cons]
    by_cases hl : k ∈ l
    · exact foldl_hit hit v j k hk hu l _ hl
    · have ha : k = a := (List.mem_cons.mp h).resolve_right hl
      rw [foldl_miss hit v j l _ fun k' hk' h' => hl (hu k' h' ▸ hk'), ← ha, if_pos hk]

/-- An unmasked scatter as the run over its lanes. -/
theorem storeIdx_run {d : Fin 1 → ℕ} (f : Vec F s e) (idxs : Fin s.rank → IVec ⟨1, d⟩ 32) (v : Vec F ⟨1, d⟩ e)
    (h : ∀ a x, (idxs a x).toNat < s.size a) :
    storeIdx f idxs v (fun _ => 1#1) false h
      = (List.finRange (d 0)).foldl (fun g k => fun j => if (∀ a, (j a).val = (idxAt idxs h (Shape.ofLane k) a).val) then v (Shape.ofLane k) else g j) f := by
  unfold storeIdx
  congr 1
  funext g k
  have h1 : ((1#1 : BitVec 1) = 1) = True := by decide
  simp only [h1, if_true, Bool.false_eq_true, if_false]

/-- The element of an unmasked scatter that exactly one lane names; -/
theorem storeIdx_hit {d : Fin 1 → ℕ} (f : Vec F s e) (idxs : Fin s.rank → IVec ⟨1, d⟩ 32) (v : Vec F ⟨1, d⟩ e)
    (h : ∀ a x, (idxs a x).toNat < s.size a) (j : s.Idx) (k : Fin (d 0)) (hk : ∀ a, (j a).val = (idxAt idxs h (Shape.ofLane k) a).val)
    (hu : ∀ k' : Fin (d 0), (∀ a, (j a).val = (idxAt idxs h (Shape.ofLane k') a).val) → k' = k) :
    storeIdx f idxs v (fun _ => 1#1) false h j = v (Shape.ofLane k) := by
  rw [storeIdx_run]
  exact foldl_hit (fun k j => ∀ a, (j a).val = (idxAt idxs h (Shape.ofLane k) a).val) (fun k => v (Shape.ofLane k)) j k hk hu _ f (List.mem_finRange _)

/-- and one that no lane names. -/
theorem storeIdx_miss {d : Fin 1 → ℕ} (f : Vec F s e) (idxs : Fin s.rank → IVec ⟨1, d⟩ 32) (v : Vec F ⟨1, d⟩ e)
    (h : ∀ a x, (idxs a x).toNat < s.size a) (j : s.Idx)
    (hu : ∀ k' : Fin (d 0), ¬(∀ a, (j a).val = (idxAt idxs h (Shape.ofLane k') a).val)) :
    storeIdx f idxs v (fun _ => 1#1) false h j = f j := by
  rw [storeIdx_run]
  exact foldl_miss (fun k j => ∀ a, (j a).val = (idxAt idxs h (Shape.ofLane k) a).val) (fun k => v (Shape.ofLane k)) j _ f (fun k _ => hu k)

/-- Sixteen lanes scattered unmasked into a block of 128 rows, lane `x` at row `o + x` and column 64: those sixteen
    elements take the lanes' values, every other keeps its own. -/
theorem storeIdx_lanes (f : Vec F B128x128 e) (rv cv : IVec B16 32) (v : Vec F B16 e) (o : ℕ)
    (hr : ∀ x, (rv x).toNat = o + (x 0).val) (hc : ∀ x, (cv x).toNat = 64)
    (h : ∀ a x, ((![rv, cv] : Fin 2 → IVec B16 32) a x).toNat < B128x128.size a) :
    storeIdx f (![rv, cv] : Fin 2 → IVec B16 32) v (fun _ => 1#1) false h
      = fun j => if (j 1).val = 64 ∧ o ≤ (j 0).val ∧ (j 0).val < o + 16 then at1 v ((j 0).val - o) else f j := by
  have e0 : ∀ x : B16.Idx, (idxAt (s := B128x128) (t := B16) ![rv, cv] h x 0).val = o + (x 0).val := hr
  have e1 : ∀ x : B16.Idx, (idxAt (s := B128x128) (t := B16) ![rv, cv] h x 1).val = 64 := hc
  funext j
  have hlane : ∀ k : Fin 16, (Shape.ofLane (d := ![16]) k 0).val = k.val := fun k => rfl
  by_cases H : (j 1).val = 64 ∧ o ≤ (j 0).val ∧ (j 0).val < o + 16
  · rw [if_pos H]
    have hx : (j 0).val - o < 16 := by omega
    refine (storeIdx_hit f _ v h j ⟨(j 0).val - o, hx⟩ (fun a => ?_) fun k' hk' => ?_).trans (at1_of_lt v _ (hlane _)).symm
    · match a with
      | 0 => refine Eq.trans ?_ ((e0 _).trans (congrArg (o + ·) (hlane _))).symm; show (j 0).val = o + ((j 0).val - o); omega
      | 1 => exact H.1.trans (e1 _).symm
    · have h0 := (hk' 0).trans ((e0 _).trans (congrArg (o + ·) (hlane _)))
      exact Fin.ext (by show k'.val = (j 0).val - o; omega)
  · rw [if_neg H]
    refine storeIdx_miss f _ v h j fun k' hk' => H ?_
    have h0 := (hk' 0).trans ((e0 _).trans (congrArg (o + ·) (hlane _)))
    have h1 := (hk' 1).trans (e1 _)
    have := k'.isLt
    have : k'.val < 16 := this
    exact ⟨h1, by omega, by omega⟩

/-- Sixteen more rows patched: the lanes read from the rows (never lane 64, which alone a patch writes) and scattered
    to lane 64. -/
theorem patch_step (g : B128x128.Idx → Elt F e) (ac : B256.Idx → BitVec 32) (b o : ℕ) (ho : o + 16 ≤ 128) (hb : b + 128 ≤ 256)
    (hac : ∀ x, (ac x).toNat < 64) (rv cv : IVec B16 32) (w : IVec B16 32)
    (hr : ∀ x, (rv x).toNat = o + (x 0).val) (hc : ∀ x, (cv x).toNat = 64) (hw : ∀ x, w x = at1 ac (b + o + (x 0).val))
    (h : ∀ a x, ((![rv, cv] : Fin 2 → IVec B16 32) a x).toNat < B128x128.size a)
    (h' : ∀ a x, ((![rv, w] : Fin 2 → IVec B16 32) a x).toNat < B128x128.size a) :
    storeIdx (F := F) (e := e) (patch g ac b o) (![rv, cv] : Fin 2 → IVec B16 32) (loadIdx (F := F) (e := e) (patch g ac b o) (![rv, w] : Fin 2 → IVec B16 32) h') (fun _ => 1#1) false h
      = patch g ac b (o + 16) := by
  have hat : ∀ i, (at1 ac i).toNat < 64 := fun i => hac _
  rw [storeIdx_lanes _ _ _ _ o hr hc]
  funext j
  unfold patch
  have hj0 : (j 0).val < 128 := (j 0).isLt
  by_cases H : (j 1).val = 64 ∧ o ≤ (j 0).val ∧ (j 0).val < o + 16
  · rw [if_pos H, if_pos ⟨H.1, H.2.2⟩]
    have hx : (j 0).val - o < 16 := by omega
    rw [at1_of_lt _ (ix1 (n := 16) ⟨(j 0).val - o, hx⟩) rfl]
    unfold loadIdx
    have hw' : w (ix1 (n := 16) ⟨(j 0).val - o, hx⟩) = at1 ac (b + (j 0).val) := by
      rw [hw]; congr 1; show b + o + ((j 0).val - o) = _; omega
    have e1 : (idxAt (s := B128x128) (t := B16) ![rv, w] h' (ix1 (n := 16) ⟨(j 0).val - o, hx⟩) 1).val = (at1 ac (b + (j 0).val)).toNat := by
      show (w (ix1 (n := 16) ⟨(j 0).val - o, hx⟩)).toNat = _; rw [hw']
    have e0 : (idxAt (s := B128x128) (t := B16) ![rv, w] h' (ix1 (n := 16) ⟨(j 0).val - o, hx⟩) 0).val = (j 0).val := by
      refine (hr _).trans ?_; show o + ((j 0).val - o) = _; omega
    refine (if_neg (fun hh => by have := hat (b + (j 0).val); omega)).trans ?_
    congr 1
    funext a
    match a with
    | 0 => exact Fin.ext e0
    | 1 =>
      rw [dif_pos (show (at1 ac (b + (j 0).val)).toNat < 128 by have := hat (b + (j 0).val); omega)]
      exact Fin.ext e1
  · rw [if_neg H]
    by_cases H' : (j 1).val = 64 ∧ (j 0).val < o
    · rw [if_pos H', if_pos ⟨H'.1, by omega⟩]
    · rw [if_neg H', if_neg (fun hh => by omega)]

end Cert.Proof.KI

end
-- ==== Proof.Steps.lean ====
/-
  A tile's two kinds of step as rules of its program: sixteen row numbers looked up and stored (`wp_lookStep`), sixteen
  rows' lane 64 replaced (`wp_patchStep`). Each is stated once, for every place in its block.
-/
module

public import proofs.«01_k».proof.Proof.Setup
public import proofs.«01_k».proof.Proof.Lanes

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig (HIx 1) (Elt F) ℕ UU ℕ

/-- What a load of sixteen entries from `o` on reads: the entries by number. -/
theorem read_unit16 {κ : Kind} {sp : Space} {n : ℕ} [NeZero n] {e : EltTy} (v : View sig κ sp (⟨1, ![n]⟩ : Shape) e) (f : v.ty.Contents (Elt F)) (o : ℕ)
    (inb : ∀ a, (![o] : Fin 1 → ℕ) a + B16.size a ≤ (⟨1, ![n]⟩ : Shape).size a) (x : B16.Idx) :
    v.readAt (Elt F) (Rect.unit (s := ⟨1, ![n]⟩) ![o] B16.size inb).toLoadRect f x = at1 (v.read (Elt F) f) (o + (x 0).val) := by
  refine (View.readAt_apply _ _ _).trans (at1_of_lt _ _ ?_).symm
  show o + 1 * (x 0).val = _
  omega

/-- What a store of sixteen entries from `o` on leaves. -/
theorem write_unit16 {κ : Kind} {sp : Space} {n : ℕ} [NeZero n] {e : EltTy} (v : View sig κ sp (⟨1, ![n]⟩ : Shape) e) (f : v.ty.Contents (Elt F)) (o : ℕ)
    (inb : ∀ a, (![o] : Fin 1 → ℕ) a + B16.size a ≤ (⟨1, ![n]⟩ : Shape).size a) (w : B16.Idx → Elt F e) (y : (⟨1, ![n]⟩ : Shape).Idx) :
    v.read (Elt F) ((v.slice (Rect.unit (s := ⟨1, ![n]⟩) ![o] B16.size inb)).write (Elt F) f w Finset.univ) y
      = if o ≤ (y 0).val ∧ (y 0).val < o + 16 then at1 w ((y 0).val - o) else v.read (Elt F) f y := by
  refine (View.read_writes_cons_unit v f inb w [] y rfl).trans ?_
  have hiff : (∀ a, (![o] : Fin 1 → ℕ) a ≤ (y a).val ∧ (y a).val < (![o] : Fin 1 → ℕ) a + B16.size a) ↔ (o ≤ (y 0).val ∧ (y 0).val < o + 16) := by
    constructor
    · intro H; exact H 0
    · intro H a; match a with | 0 => exact H
  by_cases H : o ≤ (y 0).val ∧ (y 0).val < o + 16
  · rw [dif_pos (hiff.mpr H), if_pos H]
    refine (at1_of_lt w _ ?_).symm
    exact Rect.unitLocal_val ..
  · rw [dif_neg (fun h => H (hiff.mp h)), if_neg H]; rfl

/-- A load through the whole rectangle reads what the memref reads, and a store through it leaves its payload. -/
theorem read_access_whole {κ : Kind} {sp : Space} {s : Shape} {e : EltTy} (m : Memref sig κ sp s e) (f : m.view.ty.Contents (Elt F)) :
    (m.access (.whole s)).read (Elt F) f = m.view.read (Elt F) f :=
  funext fun y => congrArg (m.view.read (Elt F) f) (Rect.emb_whole_apply s y)
theorem read_access_write {κ : Kind} {sp : Space} {s : Shape} {e : EltTy} (m : Memref sig κ sp s e) (f : m.view.ty.Contents (Elt F)) (w : s.Idx → Elt F e) :
    m.view.read (Elt F) ((m.access (.whole s)).write (Elt F) f w Finset.univ) = w := by
  funext y
  have h := View.read_writes_cons_emb m.view f (Rect.whole s) w [] y
  rw [Rect.emb_whole_apply s y] at h
  exact h

variable {thr : Thread nD τ} {bd : Option (𝒱₀).V} {α : Type}

/-- SIXTEEN ROW NUMBERS: sixteen of the tile's actors loaded, checked, looked up in the index map and stored to the
    list. The list's first `o` words being the map at the actors from `b` on, its first `o + 16` are afterwards. -/
theorem wp_lookStep {Q : α → sProp 𝕄} {m7 : Memref sig thr.2.kind .vmem B16384 .i32} {m8 : Memref sig thr.2.kind .vmem B256 .i32} {mT : Memref sig thr.2.kind .vmem B128 .i32}
    {o8 b o : ℕ} (ho : o8 = b + o)
    {inb8 : ∀ a, (![o8] : Fin 1 → ℕ) a + B16.size a ≤ B256.size a} {hl8 : m8.view.LoadsAt (Rect.unit (s := B256) ![o8] B16.size inb8).toLoadRect}
    {inbT : ∀ a, (![o] : Fin 1 → ℕ) a + B16.size a ≤ B128.size a} {hlT : mT.view.LoadsAt (Rect.unit (s := B128) ![o] B16.size inbT).toLoadRect}
    {hsT : (mT.access (Rect.unit (s := B128) ![o] B16.size inbT)).Stores Finset.univ} {hmT : (Finset.univ : Finset B16.Idx) = Finset.univ ∨ ∀ a, (Rect.unit (s := B128) ![o] B16.size inbT).stride a = 1}
    {C : IVec B16 32 → Prop} {dC : ∀ v, Decidable (C v)} {hi : ∀ v, C v → ∀ a x, ((![v] : Fin 1 → IVec B16 32) a x).toNat < B16384.size a}
    {hl7 : m7.view.Loads} {k : PUnit → Prog (TpuEff nD τ sig (Elt F) Λ₀ thr.2) α}
    (im : B16384.Idx → BitVec 32) (ac : B256.Idx → BitVec 32) (g : B128.Idx → BitVec 32)
    (hC : ∀ v : IVec B16 32, (∀ x, (v x).toNat < 16384) → C v) (hac : ∀ x, (ac x).toNat < 16384) :
    iprop(held thr m7 fullShare im ∗ held thr m8 fullShare ac ∗ held thr mT fullShare (look im ac b o g))
      ⊢ iprop((iprop(held thr m7 fullShare im ∗ held thr m8 fullShare ac ∗ held thr mT fullShare (look im ac b (o + 16) g))
            -∗ wp frame (wpE (defs₀ (F := F)) 𝒱₀ thr bd) Set.univ (k ⟨⟩) Q)
        -∗ wp frame (wpE (defs₀ (F := F)) 𝒱₀ thr bd) Set.univ
          (.op (.load m8 (Rect.unit (s := B256) ![o8] B16.size inb8).toLoadRect hl8) fun v : IVec B16 32 =>
            .op (.assume (C v) (dC v)) fun h =>
              SparseCore.vectorLoadIdx m7 (![v] : Fin 1 → IVec B16 32) (hi v h.down) hl7 >>= fun r : IVec B16 32 =>
                .op (.load mT (Rect.unit (s := B128) ![o] B16.size inbT).toLoadRect hlT) fun _ =>
                  .op (.store mT (Rect.unit (s := B128) ![o] B16.size inbT) r Finset.univ hsT hmT) k) Q) := by
  subst ho
  unfold held
  iintro ⟨⟨%f7, %h7, H7⟩, ⟨%f8, %h8, H8⟩, ⟨%fT, %hT, HT⟩⟩ Hk
  iapply (wp_load (Q := Q) 𝒱₀ thr bd Set.univ (Finset.subset_univ _)) $$ H8
  iintro H8
  have hv : ∀ x, (m8.view.readAt (Elt F) (Rect.unit (s := B256) ![b + o] B16.size inb8).toLoadRect f8 x : BitVec 32) = at1 ac (b + o + (x 0).val) := fun x => by
    rw [read_unit16 m8.view f8 (b + o) inb8 x, h8]
  iapply (wp_assume (Q := Q) 𝒱₀ thr bd Set.univ (hC _ (fun x => by rw [hv]; exact hac _)))
  iapply (SparseCore.wp_vectorLoadIdx (Q := Q) (base := m7) (f := f7) (q := fullShare) 𝒱₀ thr bd Set.univ (Finset.subset_univ _)) $$ H7
  iintro H7
  iapply (wp_load (Q := Q) 𝒱₀ thr bd Set.univ (Finset.subset_univ _)) $$ HT
  iintro HT
  iapply (wp_store (Q := Q) (m := mT) (r := Rect.unit (s := B128) ![o] B16.size inbT) (f := fT) 𝒱₀ thr bd Set.univ (Finset.subset_univ _)) $$ HT
  iintro HT
  iapply Hk
  isplitl [H7]
  · iexists f7; iframe H7; ipureintro; exact h7
  isplitl [H8]
  · iexists f8; iframe H8; ipureintro; exact h8
  iexists _; iframe HT
  ipureintro
  funext y
  refine (write_unit16 mT.view fT o inbT _ y).trans ?_
  rw [hT]
  unfold look
  by_cases H : o ≤ (y 0).val ∧ (y 0).val < o + 16
  · rw [if_pos H, if_pos H.2]
    have hx : (y 0).val - o < 16 := by omega
    refine (at1_of_lt _ (ix1 (n := 16) ⟨(y 0).val - o, hx⟩) rfl).trans ?_
    unfold loadIdx
    have e : m7.view.read (Elt F) f7 = im := h7
    refine (congrArg (m7.view.read (Elt F) f7) (Rect.emb_whole_apply B16384 _)).trans ?_
    rw [e]
    refine (at1_of_lt im _ ?_).symm
    show ((m8.view.readAt (Elt F) (Rect.unit (s := B256) ![b + o] B16.size inb8).toLoadRect f8 _ : BitVec 32)).toNat = _
    rw [hv]; congr 2; show b + o + ((y 0).val - o) = _; omega
  · rw [if_neg H]
    by_cases H' : (y 0).val < o
    · rw [if_pos H', if_pos (by omega)]
    · rw [if_neg H', if_neg (by omega)]

/-- SIXTEEN ROWS PATCHED: sixteen of the tile's actions loaded and checked, each row's lane that its action names read
    and scattered to the row's lane 64. -/
theorem wp_patchStep {Q : α → sProp 𝕄} {m9 : Memref sig thr.2.kind .vmem B256 .i32} {mR : Memref sig thr.2.kind .vmem B128x128 .f32}
    {o9 b o : ℕ} (ho9 : o9 = b + o)
    {inb9 : ∀ a, (![o9] : Fin 1 → ℕ) a + B16.size a ≤ B256.size a} {hl9 : m9.view.LoadsAt (Rect.unit (s := B256) ![o9] B16.size inb9).toLoadRect}
    {rv cv : IVec B16 32} {C₁ : Prop} {dC₁ : Decidable C₁} {hi₁ : C₁ → ∀ a x, ((![rv, cv] : Fin 2 → IVec B16 32) a x).toNat < B128x128.size a}
    {C₂ : IVec B16 32 → Prop} {dC₂ : ∀ v, Decidable (C₂ v)} {hi₂ : ∀ v, C₂ v → ∀ a x, ((![rv, v] : Fin 2 → IVec B16 32) a x).toNat < B128x128.size a}
    {hlR : mR.view.Loads} {hsR : (mR.access (.whole B128x128)).Stores Finset.univ} {k : PUnit → Prog (TpuEff nD τ sig (Elt F) Λ₀ thr.2) α}
    (ho : o + 16 ≤ 128) (hb : b + 128 ≤ 256)
    (g : B128x128.Idx → Elt F .f32) (ac : B256.Idx → BitVec 32) (hac : ∀ x, (ac x).toNat < 64)
    (hr : ∀ x, (rv x).toNat = o + (x 0).val) (hc : ∀ x, (cv x).toNat = 64)
    (hC₁ : (∀ a x, ((![rv, cv] : Fin 2 → IVec B16 32) a x).toNat < B128x128.size a) → C₁)
    (hC₂ : ∀ v, (∀ a x, ((![rv, v] : Fin 2 → IVec B16 32) a x).toNat < B128x128.size a) → C₂ v) :
    iprop(held thr m9 fullShare ac ∗ held thr mR fullShare (patch g ac b o))
      ⊢ iprop((iprop(held thr m9 fullShare ac ∗ held thr mR fullShare (patch g ac b (o + 16)))
            -∗ wp frame (wpE (defs₀ (F := F)) 𝒱₀ thr bd) Set.univ (k ⟨⟩) Q)
        -∗ wp frame (wpE (defs₀ (F := F)) 𝒱₀ thr bd) Set.univ
          (.op (.assume C₁ dC₁) fun h₁ =>
            .op (.load m9 (Rect.unit (s := B256) ![o9] B16.size inb9).toLoadRect hl9) fun v : IVec B16 32 =>
              .op (.assume (C₂ v) (dC₂ v)) fun h₂ =>
                SparseCore.vectorLoadIdx mR (![rv, v] : Fin 2 → IVec B16 32) (hi₂ v h₂.down) hlR >>= fun r : Vec F B16 .f32 =>
                  SparseCore.vectorStoreIdx mR (![rv, cv] : Fin 2 → IVec B16 32) r (fun _ => 1#1) false (hi₁ h₁.down) hsR >>= k) Q) := by
  subst ho9
  unfold held
  have hcols : ∀ v : IVec B16 32, (∀ x, (v x).toNat < 128) → ∀ a x, ((![rv, v] : Fin 2 → IVec B16 32) a x).toNat < B128x128.size a := by
    intro v hv a x
    match a with
    | 0 => show (rv x).toNat < 128; rw [hr]; have : (x 0).val < 16 := (x 0).isLt; omega
    | 1 => exact hv x
  iintro ⟨⟨%f9, %h9, H9⟩, ⟨%fR, %hR, HR⟩⟩ Hk
  iapply (wp_assume (Q := Q) 𝒱₀ thr bd Set.univ (hC₁ (hcols cv (fun x => by rw [hc]; omega))))
  iapply (wp_load (Q := Q) 𝒱₀ thr bd Set.univ (Finset.subset_univ _)) $$ H9
  iintro H9
  have hv : ∀ x, (m9.view.readAt (Elt F) (Rect.unit (s := B256) ![b + o] B16.size inb9).toLoadRect f9 x : BitVec 32) = at1 ac (b + o + (x 0).val) := fun x => by
    rw [read_unit16 m9.view f9 (b + o) inb9 x, h9]
  have hv' : ∀ x, (m9.view.readAt (Elt F) (Rect.unit (s := B256) ![b + o] B16.size inb9).toLoadRect f9 x : BitVec 32).toNat < 128 := fun x => by
    rw [hv]; exact (hac _).trans (by omega)
  iapply (wp_assume (Q := Q) 𝒱₀ thr bd Set.univ (hC₂ _ (hcols _ hv')))
  iapply (SparseCore.wp_vectorLoadIdx (Q := Q) (base := mR) (f := fR) (q := fullShare) 𝒱₀ thr bd Set.univ (Finset.subset_univ _)) $$ HR
  iintro HR
  rw [SparseCore.vectorStoreIdx_bind]
  iapply (wp_load_rect (Q := Q) (m := mR) (f := fR) 𝒱₀ thr bd Set.univ (Finset.subset_univ _)) $$ HR
  iintro HR
  iapply (wp_store (Q := Q) (m := mR) (r := Rect.whole B128x128) (f := fR) 𝒱₀ thr bd Set.univ (Finset.subset_univ _)) $$ HR
  iintro HR
  iapply Hk
  isplitl [H9]
  · iexists f9; iframe H9; ipureintro; exact h9
  iexists _; iframe HR
  ipureintro
  rw [read_access_write, read_access_whole]
  generalize hw : m9.view.readAt (Elt F) (Rect.unit (s := B256) ![b + o] B16.size inb9).toLoadRect f9 = w at hv hv' ⊢
  rw [hR]
  exact patch_step g ac b o ho hb hac rv cv w hr hc hv _ _

end Cert.Proof.KI

end
-- ==== Proof.Moves.lean ====
/-
  A tile's transfers as rules of its program, over what the buffers read: a copy in (`wp_fetch`), rows gathered by a
  list (`wp_gatherHeld`), a block copied out (`wp_putOut`) and a wait (`wp_await`).
-/
module

public import proofs.«01_k».proof.Proof.Setup
public import proofs.«01_k».proof.Proof.Lanes

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- What a thread still owes, after waits of its own only. -/
def owesT (thr : Thread nD τ) (O : CellTallies nD τ sig (HIx 1)) (W : Waits sig (HIx 1)) : sProp 𝕄 :=
  iprop(∃ W', ⌜∀ p ∈ W', p ∈ W ∨ p.2 = none⌝ ∗ owes thr O W')

theorem owesT_of (thr : Thread nD τ) (O : CellTallies nD τ sig (HIx 1)) (W : Waits sig (HIx 1)) :
    (owes thr O W : sProp 𝕄) ⊢ owesT thr O W := by
  unfold owesT
  iintro HO; iexists W; iframe HO; ipureintro; exact fun p hp => .inl hp

/-- A transfer in flight on the thread's semaphore `sm`, `N` units of credit, that delivers `A`. -/
abbrev Fly (thr : Thread nD τ) (sm : DmaSem sig) (N : ℕ) (A : sProp 𝕄) : sProp 𝕄 :=
  Transfers.Flight countersEmb thr (.dma sm) (none : HIx 1) N A

variable {thr : Thread nD τ} {bd : Option (𝒱₀).V} {α : Type}

/-- A COPY IN: the source's buffer at any share; the destination reads what the source read. -/
theorem wp_fetch {Q : α → sProp 𝕄} {sp sp' : Space} {s : Shape} {e : EltTy} {src : Memref sig thr.2.kind sp s e} {dst : Memref sig thr.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ₀ thr.2) α} {q : PosShare TreeShare} {fs : Buf (Elt F) (src.view.loc thr)} {X : s.Idx → Elt F e}
    (N : ℕ) (hN : dst.view.amount (.dma sm) = N) (hN0 : 0 < N) :
    iprop((src.view.loc thr ↦{q} fs) ∗ held thr dst fullShare X ∗ semVal (thr, SemLoc.dma sm) 0)
      ⊢ iprop((Fly thr sm N iprop(held thr dst fullShare (src.view.read (Elt F) fs) ∗ (src.view.loc thr ↦{q} fs))
              -∗ wp frame (wpE (defs₀ (F := F)) 𝒱₀ thr bd) Set.univ (k ⟨⟩) Q)
          -∗ wp frame (wpE (defs₀ (F := F)) 𝒱₀ thr bd) Set.univ (.op (.enqueueDmaAs src (.here dst) .same (.dma sm) hsrc hdst hsem) k) Q) := by
  iintro ⟨Hs, Hd, Hv⟩ Hk
  ihave ⟨%fd, -, Hd⟩ := (show held thr dst fullShare X ⊢ iprop(∃ f : Buf (Elt F) (dst.view.loc thr), ⌜dst.view.read (Elt F) f = X⌝ ∗ dst.view.loc thr ↦{fullShare} f) from .rfl) $$ Hd
  iapply (Transfers.wp_dmaFromWhole countersEmb 𝒱₀ thr bd (none : HIx 1) N hN hN0 (Finset.subset_univ _)) $$ [Hs Hd Hv]
  · iframe Hs Hd Hv
  iintro Hf
  iapply Hk
  iapply (Transfers.Flight_mono countersEmb thr ?_) $$ Hf
  iintro ⟨Hd, Hs⟩
  iframe Hs
  unfold held
  iexists _; iframe Hd
  ipureintro
  exact View.read_write_univ ..

/-- ROWS GATHERED by a list of row numbers, each in range: the destination reads the rows the list names. -/
theorem wp_gatherHeld {Q : α → sProp 𝕄} {sp : Space} {s₀ s si : Shape} {e : EltTy} {a : ℕ} {src : Memref sig thr.2.kind sp s₀ e} {dst : Memref sig thr.2.kind .vmem s e} {hg : s₀.Gathers a s}
    {offs : Memref sig thr.2.kind .vmem si .i32} {hn : si.numel = s.size hg.axis'} {sem : DmaSem sig}
    {hp : thr.2.kind = .scVector} {hsrc : src.view.WordExact} {he : e.bits = 32} {hsp : sp = .hbm ∨ sp = .shared} {hr : s₀.StreamRows a}
    {k : PUnit → Prog (TpuEff nD τ sig (Elt F) Λ₀ thr.2) α}
    {q : PosShare TreeShare} {fs : Buf (Elt F) (src.view.loc thr)} {X : s.Idx → Elt F e} {I : si.Idx → BitVec 32}
    (N : ℕ) (hN : ∑ j, (dst.slice (s.rowRect hg.axis' j) (s.stride_rowRect hg.axis' j)).view.dmaCredit = N)
    (hs : 0 < s.numel) (hin : ∀ x, (I x).toNat < s₀.size hg.axis) {G : s.Idx → Elt F e}
    (hG : SparseCore.gatherPayload hg (src.view.read (Elt F) fs) (SparseCore.rows (F := F) I hn hin) = G) :
    iprop((src.view.loc thr ↦{q} fs) ∗ held thr dst fullShare X ∗ held thr offs fullShare I ∗ semVal (thr, SemLoc.dma sem) 0)
      ⊢ iprop((Fly thr sem N iprop(held thr dst fullShare G
                  ∗ (src.view.loc thr ↦{q} fs) ∗ held thr offs fullShare I)
              -∗ wp frame (wpE (defs₀ (F := F)) 𝒱₀ thr bd) Set.univ (k ⟨⟩) Q)
          -∗ wp frame (wpE (defs₀ (F := F)) 𝒱₀ thr bd) Set.univ (SparseCore.enqueueIndirectGather hp src dst hg offs hn sem hsrc he hsp hr >>= k) Q) := by
  iintro ⟨Hs, Hd, Ho, Hv⟩ Hk
  ihave ⟨%fd, -, Hd⟩ := (show held thr dst fullShare X ⊢ iprop(∃ f : Buf (Elt F) (dst.view.loc thr), ⌜dst.view.read (Elt F) f = X⌝ ∗ dst.view.loc thr ↦{fullShare} f) from .rfl) $$ Hd
  ihave ⟨%fo, %hfo, Ho⟩ := (show held (F := F) (e := .i32) thr offs fullShare I ⊢ iprop(∃ f : Buf (Elt F) (offs.view.loc thr), ⌜offs.view.read (Elt F) f = I⌝ ∗ offs.view.loc thr ↦{fullShare} f) from .rfl) $$ Ho
  subst hfo
  subst hG
  iapply (SparseCore.wp_gatherFromWhole countersEmb 𝒱₀ thr bd (none : HIx 1) N hN hs hin) $$ [Hs Hd Ho Hv]
  · iframe Hs Hd Ho Hv
  iintro Hf
  iapply Hk
  iapply (Transfers.Flight_mono countersEmb thr ?_) $$ Hf
  iintro ⟨Hd, Hs, Ho⟩
  iframe Hs
  unfold held
  isplitl [Hd]
  · iexists _; iframe Hd
    ipureintro
    exact View.read_write_univ ..
  iexists fo; iframe Ho; ipureintro; rfl

/-- A BLOCK COPIED OUT, from a buffer that reads `X` to a block of an array: where the block's elements are `X`'s, the
    block is held at the array `G` that has them there. -/
theorem wp_putOut {Q : α → sProp 𝕄} {sp sp' : Space} {s : Shape} {e : EltTy} {src : Memref sig thr.2.kind sp s e} {dst : Memref sig thr.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ₀ thr.2) α} {fd G : Buf (Elt F) (dst.view.loc thr)} {X : s.Idx → Elt F e}
    (N : ℕ) (hN : dst.view.amount (.dma sm) = N) (hN0 : 0 < N) (hG : dst.view.read (Elt F) G = X) :
    iprop(held thr src fullShare X ∗ (dst.view.loc thr ↦[dst.view.set]{fullShare} fd) ∗ semVal (thr, SemLoc.dma sm) 0)
      ⊢ iprop((Fly thr sm N iprop((dst.view.loc thr ↦[dst.view.set]{fullShare} G) ∗ held thr src fullShare X)
              -∗ wp frame (wpE (defs₀ (F := F)) 𝒱₀ thr bd) Set.univ (k ⟨⟩) Q)
          -∗ wp frame (wpE (defs₀ (F := F)) 𝒱₀ thr bd) Set.univ (.op (.enqueueDmaAs src (.here dst) .same (.dma sm) hsrc hdst hsem) k) Q) := by
  iintro ⟨Hs, Hd, Hv⟩ Hk
  ihave ⟨%fs, %hfs, Hs⟩ := (show held thr src fullShare X ⊢ iprop(∃ f : Buf (Elt F) (src.view.loc thr), ⌜src.view.read (Elt F) f = X⌝ ∗ src.view.loc thr ↦{fullShare} f) from .rfl) $$ Hs
  iapply (Transfers.wp_dmaFromWhole countersEmb 𝒱₀ thr bd (none : HIx 1) N hN hN0 (Finset.Subset.refl _)) $$ [Hs Hd Hv]
  · iframe Hs Hd Hv
  iintro Hf
  iapply Hk
  iapply (Transfers.Flight_mono countersEmb thr ?_) $$ Hf
  iintro ⟨Hd, Hs⟩
  isplitl [Hd]
  · iapply (Entails.of_eq (pointsTo_congr (f := dst.view.write (Elt F) fd (src.view.read (Elt F) fs) Finset.univ) (g := G) ?_)) $$ Hd
    intro i hi
    obtain ⟨x, -, rfl⟩ := Finset.mem_map.mp hi
    refine (View.write_emb_of_mem _ _ (Finset.mem_univ x)).trans ?_
    rw [hfs, ← hG, View.read_apply]
    exact cast_cast _ _ _
  unfold held
  iexists fs; iframe Hs; ipureintro; exact hfs

/-- A WAIT for a transfer in flight: its delivery, the semaphore at zero, the wait recorded. -/
theorem wp_await {Q : α → sProp 𝕄} {sp sp' : Space} {s s' : Shape} {e e' : EltTy} {κ' : Kind} {sem : DmaSem sig}
    {srcw : Memref sig thr.2.kind sp' s' e'} {dstw : Memref sig κ' sp s e} {hsrc : srcw.view.WordExact} {hdst : dstw.view.WordExact}
    {k : PUnit → Prog (TpuEff nD τ sig (Elt F) Λ₀ thr.2) α} {N : ℕ} (hN : dstw.view.dmaCredit = N) {A : sProp 𝕄}
    {O : CellTallies nD τ sig (HIx 1)} {W : Waits sig (HIx 1)} (hO : ∀ g, O g none = 0) :
    iprop(levAts (K (F := F)).L (K (F := F)).lev ∗ Fly thr sem N A ∗ owesT thr O W)
      ⊢ iprop((iprop(A ∗ semVal (thr, SemLoc.dma sem) 0 ∗ owesT thr O W) -∗ wp frame (wpE (defs₀ (F := F)) 𝒱₀ thr bd) Set.univ (k ⟨⟩) Q)
          -∗ wp frame (wpE (defs₀ (F := F)) 𝒱₀ thr bd) Set.univ (.op (.waitDma2 sem srcw dstw hsrc hdst) k) Q) := by
  unfold owesT
  iintro ⟨#Hlv, Hf, ⟨%W', %hW', HO⟩⟩ Hk
  ihave Hmw := (show levAts (K (F := F)).L (K (F := F)).lev ⊢ Transfers.MayWaits thr (none : HIx 1) O from
    (K (F := F)).mayWaits_none (thr := thr) hO) $$ Hlv
  iapply (Transfers.wp_waitLocalO countersEmb 𝒱₀ thr bd (none : HIx 1) hN) $$ [Hf HO]
  · iframe Hf HO
    iapply (Transfers.MayWaits.elim (SemLoc.dma sem)) $$ Hmw
  iintro ⟨HA, Hv, HO⟩
  iapply Hk
  iframe HA Hv
  iexists _; iframe HO
  ipureintro
  intro p hp
  rcases Finset.mem_insert.mp hp with hp | hp
  · exact .inr (hp ▸ rfl)
  · exact hW' p hp

end Cert.Proof.KI

end
-- ==== Proof.Tile1.lean ====
/-
  A tile's program, its first three parts: the copies in, the two lists of row numbers, the two gathers of rows by them,
  and the first rows patched.
-/
module

public import proofs.«01_k».proof.Proof.Steps
public import proofs.«01_k».proof.Proof.Moves

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig (HIx 1) (Elt F) ℕ UU ℕ

/-! ## The arrays and scratches as a tile addresses them -/

abbrev zV : Memref sig .scVector .hbm S16384x128 .f32 := Memref.whole main_v0_0_scv
abbrev imV : Memref sig .scVector .hbm S16384 .i32 := Memref.whole main_arg12_scv
abbrev acV : Memref sig .scVector .hbm S8192 .i32 := Memref.whole main_arg13_scv
abbrev atV : Memref sig .scVector .hbm S8192 .i32 := Memref.whole main_arg14_scv
abbrev oV : Memref sig .scVector .hbm S8192x128 .f32 := Memref.whole main_v1_scv
abbrev b0 : Memref sig .scVector .vmem S16384 .i32 := Memref.whole cc1_scratch0
abbrev b1 : Memref sig .scVector .vmem S256 .i32 := Memref.whole cc1_scratch1
abbrev b2 : Memref sig .scVector .vmem S256 .i32 := Memref.whole cc1_scratch2
abbrev b3 : Memref sig .scVector .vmem S128 .i32 := Memref.whole cc1_scratch3
abbrev b4 : Memref sig .scVector .vmem S128 .i32 := Memref.whole cc1_scratch4
abbrev b5 : Memref sig .scVector .vmem S128x128 .f32 := Memref.whole cc1_scratch5
abbrev b6 : Memref sig .scVector .vmem S128x128 .f32 := Memref.whole cc1_scratch6

abbrev cV (L : grid1.Coords) : Fin τ.nSC := (L 0).castLE hcore1
abbrev jV (L : grid1.Coords) : Fin τ.nSub := (L 1).castLE hsub1
/-- The tile at coordinates `L`. -/
abbrev tV (d : Dev nD) (L : grid1.Coords) : Thread nD τ := V d (cV L) (jV L)

abbrev acS (L : grid1.Coords) : Memref sig .scVector .hbm S256 .i32 := acV.slice (Rect.unit (s := S8192) (k1_off1 L) S256.size (k1_off1_inb L)) (fun _ => rfl)
abbrev atS (L : grid1.Coords) : Memref sig .scVector .hbm S256 .i32 := atV.slice (Rect.unit (s := S8192) (k1_off1 L) S256.size (k1_off1_inb L)) (fun _ => rfl)
abbrev zS : Memref sig .scVector .hbm S16384x128 .f32 := zV.slice (Rect.unit (s := S16384x128) ![0, 0] S16384x128.size inb_S16384x128_S16384x128_0_0) (fun _ => rfl)
abbrev oA (L : grid1.Coords) : Memref sig .scVector .hbm S128x128 .f32 := oV.slice (Rect.unit (s := S8192x128) (k1_off3 L) S128x128.size (k1_off3_inb L)) (fun _ => rfl)
abbrev oB (L : grid1.Coords) : Memref sig .scVector .hbm S128x128 .f32 := oV.slice (Rect.unit (s := S8192x128) (k1_off4 L) S128x128.size (k1_off4_inb L)) (fun _ => rfl)

/-- The tile's 256 entries of an array of 8192 words. -/
def part256 (L : grid1.Coords) (X : S8192.Idx → BitVec 32) : B256.Idx → BitVec 32 := (acS L).view.read (Elt (fun _ => Unit)) X

theorem look_zero (im : B16384.Idx → BitVec 32) (ac : B256.Idx → BitVec 32) (b : ℕ) (g : B128.Idx → BitVec 32) : look im ac b 0 g = g := by
  funext j; simp [look]

theorem part256_lt (L : grid1.Coords) (X : S8192.Idx → BitVec 32) (n : ℕ) (h : ∀ j, (X j).toNat < n) (x : B256.Idx) : (part256 L X x).toNat < n := h _

theorem amt0 : 0 < (b0).view.amount (.dma (SemArray.sem cc1_scratch7)) := by decide
theorem amt1 : 0 < (b1).view.amount (.dma (SemArray.sem cc1_scratch8)) := by decide
theorem amt2 : 0 < (b2).view.amount (.dma (SemArray.sem cc1_scratch13)) := by decide

theorem credit5 : ∑ j, ((b5).slice (S128x128.rowRect (Shape.Gathers.axis' gathers_S16384x128_S128x128) j) (S128x128.stride_rowRect (Shape.Gathers.axis' gathers_S16384x128_S128x128) j)).view.dmaCredit
    = (b5).view.dmaCredit := by
  have h : ∀ h : S16384x128.Gathers 0 S128x128, ∑ j, ((b5).slice (S128x128.rowRect h.axis' j) (S128x128.stride_rowRect h.axis' j)).view.dmaCredit = (b5).view.dmaCredit := by decide
  exact h _
theorem credit6 : ∑ j, ((b6).slice (S128x128.rowRect (Shape.Gathers.axis' gathers_S16384x128_S128x128) j) (S128x128.stride_rowRect (Shape.Gathers.axis' gathers_S16384x128_S128x128) j)).view.dmaCredit
    = (b6).view.dmaCredit := by
  have h : ∀ h : S16384x128.Gathers 0 S128x128, ∑ j, ((b6).slice (S128x128.rowRect h.axis' j) (S128x128.stride_rowRect h.axis' j)).view.dmaCredit = (b6).view.dmaCredit := by decide
  exact h _

/-- A check that each of sixteen words is a place of the index map. -/
theorem chk_im {v : IVec S16 32} (h : ∀ x, (v x).toNat < 16384) : ∀ a x, ((![v] : Fin 1 → IVec S16 32) a x).toNat < S16384.size a := by
  intro a x; match a with | 0 => exact h x

section Parts

variable (d : Dev nD) (L : grid1.Coords)
variable (O : CellTallies nD τ sig (HIx 1)) (W : Waits sig (HIx 1)) (hO : ∀ g, O g none = 0)
variable {q : PosShare TreeShare}
variable (zf : S16384x128.Idx → Elt F .f32) (im : S16384.Idx → BitVec 32) (ac at' : S8192.Idx → BitVec 32)

/-- An array's points-to as the tile names it. -/
abbrev zPts (q : PosShare TreeShare) : sProp 𝕄 := zLoc d ↦{q} (zf : Buf (Elt F) (zLoc d))
abbrev imPts (q : PosShare TreeShare) : sProp 𝕄 := imLoc d ↦{q} (im : Buf (Elt F) (imLoc d))
abbrev acPts (q : PosShare TreeShare) : sProp 𝕄 := acLoc d ↦{q} (ac : Buf (Elt F) (acLoc d))
abbrev atPts (q : PosShare TreeShare) : sProp 𝕄 := atLoc d ↦{q} (at' : Buf (Elt F) (atLoc d))

abbrev sem0 (d : Dev nD) (L : grid1.Coords) (s : DmaSems sig S_) : sProp 𝕄 := semVal (tV d L, SemLoc.dma s.sem) 0

include hO in
set_option maxHeartbeats 4000000 in
/-- PART 1: the index map and the tile's actors copied in, its actions on their way; the first list's first 96 row
    numbers. -/
theorem part1_spec (hac : ∀ j, (ac j).toNat < 16384) (X0 : B16384.Idx → BitVec 32) (X1 X2 : B256.Idx → BitVec 32) (g3 : B128.Idx → BitVec 32) :
    iprop(levAts (K (F := F)).L (K (F := F)).lev ∗ imPts (F := F) d im q ∗ acPts (F := F) d ac q ∗ atPts (F := F) d at' q
        ∗ held (F := F) (e := .i32) (tV d L) b0 fullShare X0 ∗ held (F := F) (e := .i32) (tV d L) b1 fullShare X1
        ∗ held (F := F) (e := .i32) (tV d L) b2 fullShare X2 ∗ held (F := F) (e := .i32) (tV d L) b3 fullShare g3
        ∗ sem0 d L cc1_scratch7 ∗ sem0 d L cc1_scratch8 ∗ sem0 d L cc1_scratch13 ∗ owesT (tV d L) O W)
      ⊢ wp frame (wpE (defs₀ (F := F)) 𝒱₀ (tV d L) none) Set.univ
          (k1_part1_skel L zV (Memref.isWhole_whole _) imV (Memref.isWhole_whole _) acV (Memref.isWhole_whole _) atV (Memref.isWhole_whole _) oV (Memref.isWhole_whole _)
            b0 (Memref.isWhole_whole _) b1 (Memref.isWhole_whole _) b2 (Memref.isWhole_whole _) b3 (Memref.isWhole_whole _) b4 (Memref.isWhole_whole _)
            b5 (Memref.isWhole_whole _) b6 (Memref.isWhole_whole _) cc1_scratch7 cc1_scratch8 cc1_scratch9 cc1_scratch10 cc1_scratch11 cc1_scratch12 cc1_scratch13)
          fun _ => iprop(imPts (F := F) d im q ∗ acPts (F := F) d ac q
            ∗ held (F := F) (e := .i32) (tV d L) b0 fullShare im ∗ held (F := F) (e := .i32) (tV d L) b1 fullShare (part256 L ac)
            ∗ held (F := F) (e := .i32) (tV d L) b3 fullShare (look im (part256 L ac) 0 96 g3)
            ∗ Fly (tV d L) cc1_scratch13.sem (b2.view.amount (.dma cc1_scratch13.sem))
                iprop(held (F := F) (e := .i32) (tV d L) b2 fullShare (part256 L at') ∗ atPts (F := F) d at' q)
            ∗ sem0 d L cc1_scratch7 ∗ sem0 d L cc1_scratch8 ∗ owesT (tV d L) O W) := by
  unfold k1_part1_skel
  simp only [Prog.lift, Prog.bind_op, Prog.bind_ret, bind_assoc, pure_bind]
  iintro ⟨#Hlv, Him, Hac, Hat, H0, H1, H2, H3, Hs7, Hs8, Hs13, HO⟩
  iapply (wp_fetch (thr := tV d L) (bd := none) _ rfl amt0) $$ [Him H0 Hs7]
  · iframe Him H0 Hs7
  iintro Hf7
  iapply (wp_fetch (thr := tV d L) (bd := none) _ rfl amt1) $$ [Hac H1 Hs8]
  · iframe Hac H1 Hs8
  iintro Hf8
  iapply (wp_fetch (thr := tV d L) (bd := none) _ rfl amt2) $$ [Hat H2 Hs13]
  · iframe Hat H2 Hs13
  iintro Hf13
  iapply (wp_await (thr := tV d L) (bd := none) rfl hO) $$ [Hf7 HO]
  · iframe Hlv Hf7 HO
  iintro ⟨⟨H0, Him⟩, Hs7, HO⟩
  iapply (wp_await (thr := tV d L) (bd := none) rfl hO) $$ [Hf8 HO]
  · iframe Hlv Hf8 HO
  iintro ⟨⟨H1, Hac⟩, Hs8, HO⟩
  ihave H3 := (Entails.of_eq (congrArg (held (F := F) (e := .i32) (tV d L) b3 fullShare) (look_zero im (part256 L ac) 0 g3).symm)) $$ H3
  iapply (wp_lookStep (thr := tV d L) (bd := none) (m7 := b0) (m8 := b1) (mT := b3) (b := 0) (o := 0) (C := k1_chk1) rfl im (part256 L ac) g3 (fun _ => chk_im) (part256_lt L ac _ hac)) $$ [H0 H1 H3]
  · iframe H0 H1 H3
  iintro ⟨H0, H1, H3⟩
  iapply (wp_lookStep (thr := tV d L) (bd := none) (m7 := b0) (m8 := b1) (mT := b3) (b := 0) (o := 16) (C := k1_chk2) rfl im (part256 L ac) g3 (fun _ => chk_im) (part256_lt L ac _ hac)) $$ [H0 H1 H3]
  · iframe H0 H1 H3
  iintro ⟨H0, H1, H3⟩
  iapply (wp_lookStep (thr := tV d L) (bd := none) (m7 := b0) (m8 := b1) (mT := b3) (b := 0) (o := 32) (C := k1_chk3) rfl im (part256 L ac) g3 (fun _ => chk_im) (part256_lt L ac _ hac)) $$ [H0 H1 H3]
  · iframe H0 H1 H3
  iintro ⟨H0, H1, H3⟩
  iapply (wp_lookStep (thr := tV d L) (bd := none) (m7 := b0) (m8 := b1) (mT := b3) (b := 0) (o := 48) (C := k1_chk4) rfl im (part256 L ac) g3 (fun _ => chk_im) (part256_lt L ac _ hac)) $$ [H0 H1 H3]
  · iframe H0 H1 H3
  iintro ⟨H0, H1, H3⟩
  iapply (wp_lookStep (thr := tV d L) (bd := none) (m7 := b0) (m8 := b1) (mT := b3) (b := 0) (o := 64) (C := k1_chk5) rfl im (part256 L ac) g3 (fun _ => chk_im) (part256_lt L ac _ hac)) $$ [H0 H1 H3]
  · iframe H0 H1 H3
  iintro ⟨H0, H1, H3⟩
  iapply (wp_lookStep (thr := tV d L) (bd := none) (m7 := b0) (m8 := b1) (mT := b3) (b := 0) (o := 80) (C := k1_chk6) rfl im (part256 L ac) g3 (fun _ => chk_im) (part256_lt L ac _ hac)) $$ [H0 H1 H3]
  · iframe H0 H1 H3
  iintro ⟨H0, H1, H3⟩
  rw [wp_pure]
  imodintro
  isplitl [Him]; · iexact Him
  isplitl [Hac]; · iexact Hac
  isplitl [H0]; · iexact H0
  isplitl [H1]; · iexact H1
  isplitl [H3]; · iexact H3
  isplitl [Hf13]; · iexact Hf13
  iframe Hs7 Hs8 HO

/-- The second and third checks of a block's rows: the rows and lanes named are inside it. -/
theorem rowVec (o : ℕ) (ho : o < 1024) (x : S16.Idx) :
    (addi (iota .scVector S16 32 [0] iota_S16_d0_w32_scVector) (broadcast S16 (BitVec.ofNat 32 o)) x).toNat = o + (x 0).val := by
  have hx : (x 0).val < 16 := (x 0).isLt
  show (BitVec.ofNat 32 (0 * S16.size 0 + (x 0).val) + BitVec.ofNat 32 o).toNat = _
  rw [BitVec.toNat_add, BitVec.toNat_ofNat, BitVec.toNat_ofNat]
  omega

/-- The rows of `zf` that 128 of the tile's actors from `b` on name through the index map. -/
def gat (b : ℕ) (ac : B256.Idx → BitVec 32) : B128x128.Idx → Elt F .f32 := fun j =>
  zf (ix2 (n0 := 16384) (n1 := 128) (if h : (at1 im (at1 ac (b + (j 0).val)).toNat).toNat < 16384 then ⟨_, h⟩ else ⟨0, by omega⟩) (j 1))

theorem look_lt (him : ∀ j, (im j).toNat < 16384) (ac : B256.Idx → BitVec 32) (b : ℕ) (g : B128.Idx → BitVec 32) (x : S128.Idx) :
    (look im ac b 128 g x).toNat < S16384x128.size gathers_S16384x128_S128x128.axis := by
  unfold look
  rw [if_pos (show (x 0).val < 128 from (x 0).isLt)]
  exact him _

omit [FloatOps F] in
/-- What a gather by a finished list delivers. -/
theorem gather_eq (him : ∀ j, (im j).toNat < 16384) (ac : B256.Idx → BitVec 32) (b : ℕ) (g : B128.Idx → BitVec 32) :
    SparseCore.gatherPayload gathers_S16384x128_S128x128 ((zS).view.read (Elt F) zf)
        (SparseCore.rows (F := F) (look im ac b 128 g) (rfl : S128.numel = S128x128.size gathers_S16384x128_S128x128.axis') (look_lt im him ac b g))
      = gat zf im b ac := by
  funext j
  unfold SparseCore.gatherPayload gat
  refine congrArg zf (funext fun a => Fin.ext ?_)
  have hj : (j 0).val < 128 := (j 0).isLt
  match a with
  | 0 =>
    show 0 + 1 * ((SparseCore.rows (F := F) (look im ac b 128 g) rfl (look_lt im him ac b g) (j 0)).val) = _
    have hy : ∀ y : S128.Idx, (S128.rowMajor y).val = (j 0).val → (look im ac b 128 g y).toNat
        = (if h : (at1 im (at1 ac (b + (j 0).val)).toNat).toNat < 16384 then (⟨_, h⟩ : Fin 16384) else ⟨0, by omega⟩).val := by
      intro y e
      have e0 : (y 0).val = (j 0).val := (Shape.rowMajor_val_one y).symm.trans e
      rw [dif_pos (show (at1 im (at1 ac (b + (j 0).val)).toNat).toNat < 16384 from him _)]
      unfold look
      rw [if_pos (show (y 0).val < 128 by omega), e0]
    refine (Nat.zero_add _).trans ((Nat.one_mul _).trans (hy _ ?_))
    exact congrArg Fin.val (Equiv.apply_symm_apply S128.rowMajor _)
  | 1 =>
    show 0 + 1 * (j 1).val = (j 1).val
    omega

set_option maxHeartbeats 4000000 in
/-- PART 2: the first list finished, the gather by it started, and the second list's first 96 row numbers. -/
theorem part2_spec (him : ∀ j, (im j).toNat < 16384) (ac : B256.Idx → BitVec 32) (hac : ∀ j, (ac j).toNat < 16384) (g3 g4 : B128.Idx → BitVec 32) (X5 : B128x128.Idx → Elt F .f32) :
    iprop(held (F := F) (e := .i32) (tV d L) b0 fullShare im ∗ held (F := F) (e := .i32) (tV d L) b1 fullShare ac
        ∗ held (F := F) (e := .i32) (tV d L) b3 fullShare (look im ac 0 96 g3) ∗ held (F := F) (e := .i32) (tV d L) b4 fullShare g4
        ∗ held (F := F) (e := .f32) (tV d L) b5 fullShare X5 ∗ zPts d zf q ∗ sem0 d L cc1_scratch9)
      ⊢ wp frame (wpE (defs₀ (F := F)) 𝒱₀ (tV d L) none) Set.univ
          (k1_part2_skel L zV (Memref.isWhole_whole _) imV (Memref.isWhole_whole _) acV (Memref.isWhole_whole _) atV (Memref.isWhole_whole _) oV (Memref.isWhole_whole _)
            b0 (Memref.isWhole_whole _) b1 (Memref.isWhole_whole _) b2 (Memref.isWhole_whole _) b3 (Memref.isWhole_whole _) b4 (Memref.isWhole_whole _)
            b5 (Memref.isWhole_whole _) b6 (Memref.isWhole_whole _) cc1_scratch7 cc1_scratch8 cc1_scratch9 cc1_scratch10 cc1_scratch11 cc1_scratch12 cc1_scratch13)
          fun _ => iprop(held (F := F) (e := .i32) (tV d L) b0 fullShare im ∗ held (F := F) (e := .i32) (tV d L) b1 fullShare ac
            ∗ Fly (tV d L) cc1_scratch9.sem (b5).view.dmaCredit iprop(held (F := F) (e := .f32) (tV d L) b5 fullShare (gat zf im 0 ac) ∗ zPts d zf q
                ∗ held (F := F) (e := .i32) (tV d L) b3 fullShare (look im ac 0 128 g3))
            ∗ held (F := F) (e := .i32) (tV d L) b4 fullShare (look im ac 128 96 g4)) := by
  unfold k1_part2_skel
  simp only [Prog.lift, Prog.bind_op, Prog.bind_ret, bind_assoc, pure_bind]
  iintro ⟨H0, H1, H3, H4, H5, Hz, Hs9⟩
  iapply (wp_lookStep (thr := tV d L) (bd := none) (m7 := b0) (m8 := b1) (mT := b3) (b := 0) (o := 96) (C := k1_chk7) rfl im ac g3 (fun _ => chk_im) hac) $$ [H0 H1 H3]
  · iframe H0 H1
    iexact H3
  iintro ⟨H0, H1, H3⟩
  iapply (wp_lookStep (thr := tV d L) (bd := none) (m7 := b0) (m8 := b1) (mT := b3) (b := 0) (o := 112) (C := k1_chk8) rfl im ac g3 (fun _ => chk_im) hac) $$ [H0 H1 H3]
  · iframe H0 H1
    iexact H3
  iintro ⟨H0, H1, H3⟩
  iapply (wp_gatherHeld (thr := tV d L) (bd := none) (src := zS) (dst := b5) (offs := b3) (I := look im ac 0 128 g3) (b5).view.dmaCredit credit5 (by decide)
    (look_lt im him ac 0 g3) (gather_eq zf im him ac 0 g3)) $$ [Hz H5 H3 Hs9]
  · iframe H5 Hs9
    isplitl [Hz]; · iexact Hz
    iexact H3
  iintro Hf9
  ihave H4 := (Entails.of_eq (congrArg (held (F := F) (e := .i32) (tV d L) b4 fullShare) (look_zero im ac 128 g4).symm)) $$ H4
  iapply (wp_lookStep (thr := tV d L) (bd := none) (m7 := b0) (m8 := b1) (mT := b4) (b := 128) (o := 0) (C := k1_chk9) rfl im ac g4 (fun _ => chk_im) hac) $$ [H0 H1 H4]
  · iframe H0 H1
    iexact H4
  iintro ⟨H0, H1, H4⟩
  iapply (wp_lookStep (thr := tV d L) (bd := none) (m7 := b0) (m8 := b1) (mT := b4) (b := 128) (o := 16) (C := k1_chk10) rfl im ac g4 (fun _ => chk_im) hac) $$ [H0 H1 H4]
  · iframe H0 H1
    iexact H4
  iintro ⟨H0, H1, H4⟩
  iapply (wp_lookStep (thr := tV d L) (bd := none) (m7 := b0) (m8 := b1) (mT := b4) (b := 128) (o := 32) (C := k1_chk11) rfl im ac g4 (fun _ => chk_im) hac) $$ [H0 H1 H4]
  · iframe H0 H1
    iexact H4
  iintro ⟨H0, H1, H4⟩
  iapply (wp_lookStep (thr := tV d L) (bd := none) (m7 := b0) (m8 := b1) (mT := b4) (b := 128) (o := 48) (C := k1_chk12) rfl im ac g4 (fun _ => chk_im) hac) $$ [H0 H1 H4]
  · iframe H0 H1
    iexact H4
  iintro ⟨H0, H1, H4⟩
  iapply (wp_lookStep (thr := tV d L) (bd := none) (m7 := b0) (m8 := b1) (mT := b4) (b := 128) (o := 64) (C := k1_chk13) rfl im ac g4 (fun _ => chk_im) hac) $$ [H0 H1 H4]
  · iframe H0 H1
    iexact H4
  iintro ⟨H0, H1, H4⟩
  iapply (wp_lookStep (thr := tV d L) (bd := none) (m7 := b0) (m8 := b1) (mT := b4) (b := 128) (o := 80) (C := k1_chk14) rfl im ac g4 (fun _ => chk_im) hac) $$ [H0 H1 H4]
  · iframe H0 H1
    iexact H4
  iintro ⟨H0, H1, H4⟩
  rw [wp_pure]
  imodintro
  iframe H0 H1 H4
  iexact Hf9

include hO in
set_option maxHeartbeats 4000000 in
/-- PART 3: the second list finished, the gather by it started; the first gather awaited and the first 48 of its rows
    patched. -/
theorem part3_spec (him : ∀ j, (im j).toNat < 16384) (ac : B256.Idx → BitVec 32) (hac : ∀ j, (ac j).toNat < 16384) (hat : ∀ j, (at' j).toNat < 64)
    (g4 : B128.Idx → BitVec 32) (X6 : B128x128.Idx → Elt F .f32) (A A9 : sProp 𝕄) :
    iprop(levAts (K (F := F)).L (K (F := F)).lev ∗ held (F := F) (e := .i32) (tV d L) b0 fullShare im ∗ held (F := F) (e := .i32) (tV d L) b1 fullShare ac
        ∗ held (F := F) (e := .i32) (tV d L) b4 fullShare (look im ac 128 96 g4)
        ∗ held (F := F) (e := .f32) (tV d L) b6 fullShare X6 ∗ zPts d zf q ∗ sem0 d L cc1_scratch10
        ∗ Fly (tV d L) cc1_scratch13.sem (b2.view.amount (.dma cc1_scratch13.sem)) iprop(held (F := F) (e := .i32) (tV d L) b2 fullShare (part256 L at') ∗ A)
        ∗ Fly (tV d L) cc1_scratch9.sem (b5).view.dmaCredit iprop(held (F := F) (e := .f32) (tV d L) b5 fullShare (gat zf im 0 ac) ∗ A9) ∗ owesT (tV d L) O W)
      ⊢ wp frame (wpE (defs₀ (F := F)) 𝒱₀ (tV d L) none) Set.univ
          (k1_part3_skel L zV (Memref.isWhole_whole _) imV (Memref.isWhole_whole _) acV (Memref.isWhole_whole _) atV (Memref.isWhole_whole _) oV (Memref.isWhole_whole _)
            b0 (Memref.isWhole_whole _) b1 (Memref.isWhole_whole _) b2 (Memref.isWhole_whole _) b3 (Memref.isWhole_whole _) b4 (Memref.isWhole_whole _)
            b5 (Memref.isWhole_whole _) b6 (Memref.isWhole_whole _) cc1_scratch7 cc1_scratch8 cc1_scratch9 cc1_scratch10 cc1_scratch11 cc1_scratch12 cc1_scratch13)
          fun r => iprop(⌜r = ⟨broadcast S16 64#32, iota .scVector S16 32 [0] iota_S16_d0_w32_scVector, k1_pay5⟩⌝
            ∗ held (F := F) (e := .i32) (tV d L) b0 fullShare im ∗ held (F := F) (e := .i32) (tV d L) b1 fullShare ac
            ∗ Fly (tV d L) cc1_scratch10.sem (b6).view.dmaCredit iprop(held (F := F) (e := .f32) (tV d L) b6 fullShare (gat zf im 128 ac) ∗ zPts d zf q
                ∗ held (F := F) (e := .i32) (tV d L) b4 fullShare (look im ac 128 128 g4))
            ∗ held (F := F) (e := .i32) (tV d L) b2 fullShare (part256 L at') ∗ A ∗ sem0 d L cc1_scratch13
            ∗ held (F := F) (e := .f32) (tV d L) b5 fullShare (patch (gat zf im 0 ac) (part256 L at') 0 48) ∗ A9 ∗ sem0 d L cc1_scratch9
            ∗ owesT (tV d L) O W) := by
  unfold k1_part3_skel
  simp only [Prog.lift, Prog.bind_op, Prog.bind_ret, bind_assoc, pure_bind, SparseCore.waitIndirectGather_bind]
  iintro ⟨#Hlv, H0, H1, H4, H6, Hz, Hs10, Hf13, Hf9, HO⟩
  iapply (wp_lookStep (thr := tV d L) (bd := none) (m7 := b0) (m8 := b1) (mT := b4) (b := 128) (o := 96) (C := k1_chk15) rfl im ac g4 (fun _ => chk_im) hac) $$ [H0 H1 H4]
  · iframe H0 H1
    iexact H4
  iintro ⟨H0, H1, H4⟩
  iapply (wp_lookStep (thr := tV d L) (bd := none) (m7 := b0) (m8 := b1) (mT := b4) (b := 128) (o := 112) (C := k1_chk16) rfl im ac g4 (fun _ => chk_im) hac) $$ [H0 H1 H4]
  · iframe H0 H1
    iexact H4
  iintro ⟨H0, H1, H4⟩
  iapply (wp_gatherHeld (thr := tV d L) (bd := none) (src := zS) (dst := b6) (offs := b4) (I := look im ac 128 128 g4) (b6).view.dmaCredit credit6 (by decide)
    (look_lt im him ac 128 g4) (gather_eq zf im him ac 128 g4)) $$ [Hz H6 H4 Hs10]
  · iframe H6 Hs10
    isplitl [Hz]; · iexact Hz
    iexact H4
  iintro Hf10
  iapply (wp_await (thr := tV d L) (bd := none) rfl hO) $$ [Hf13 HO]
  · iframe Hlv Hf13 HO
  iintro ⟨⟨H2, HA⟩, Hs13, HO⟩
  iapply (wp_await (thr := tV d L) (bd := none) rfl hO) $$ [Hf9 HO]
  · iframe Hlv Hf9 HO
  iintro ⟨⟨H5, HA9⟩, Hs9, HO⟩
  ihave H5 := (Entails.of_eq (congrArg (held (F := F) (e := .f32) (tV d L) b5 fullShare) (patch_zero (gat zf im 0 ac) (part256 L at') 0).symm)) $$ H5
  iapply (wp_patchStep (thr := tV d L) (bd := none) (m9 := b2) (mR := b5) (b := 0) (o := 0) (rv := k1_pay2) (cv := broadcast S16 64#32) (C₁ := k1_chk18 (broadcast S16 64#32) k1_pay2) (C₂ := fun v => k1_chk17 k1_pay2 v)
    rfl (by decide) (by decide) (gat zf im 0 ac) (part256 L at') (part256_lt L at' _ hat) (rowVec 0 (by decide)) (fun _ => rfl) (fun h => h) (fun _ h => h)) $$ [H2 H5]
  · iframe H2
    iexact H5
  iintro ⟨H2, H5⟩
  iapply (wp_patchStep (thr := tV d L) (bd := none) (m9 := b2) (mR := b5) (b := 0) (o := 16) (rv := k1_pay3) (cv := broadcast S16 64#32) (C₁ := k1_chk20 (broadcast S16 64#32) k1_pay3) (C₂ := fun v => k1_chk19 k1_pay3 v)
    rfl (by decide) (by decide) (gat zf im 0 ac) (part256 L at') (part256_lt L at' _ hat) (rowVec 16 (by decide)) (fun _ => rfl) (fun h => h) (fun _ h => h)) $$ [H2 H5]
  · iframe H2
    iexact H5
  iintro ⟨H2, H5⟩
  iapply (wp_patchStep (thr := tV d L) (bd := none) (m9 := b2) (mR := b5) (b := 0) (o := 32) (rv := k1_pay4) (cv := broadcast S16 64#32) (C₁ := k1_chk22 (broadcast S16 64#32) k1_pay4) (C₂ := fun v => k1_chk21 k1_pay4 v)
    rfl (by decide) (by decide) (gat zf im 0 ac) (part256 L at') (part256_lt L at' _ hat) (rowVec 32 (by decide)) (fun _ => rfl) (fun h => h) (fun _ h => h)) $$ [H2 H5]
  · iframe H2
    iexact H5
  iintro ⟨H2, H5⟩
  rw [wp_pure]
  imodintro
  isplitr; · ipureintro; rfl
  iframe H0 H1 HA HA9 Hs13 Hs9 HO H2
  isplitl [Hf10]; · iexact Hf10
  iexact H5

end Parts

end Cert.Proof.KI

end
-- ==== Proof.Tile2.lean ====
/-
  A tile's program, the rest of it: the rows patched and copied out; and the whole of it, at any tile (`tile_body`).
-/
module

public import proofs.«01_k».proof.Proof.Tile1

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig (HIx 1) (Elt F) ℕ UU ℕ

/-- A row of 128: `zf`'s row that the word `r` names, lane 64 of it the lane that the word `a` names. -/
def rowOf (zf : S16384x128.Idx → Elt F .f32) (r a : BitVec 32) (l : Fin 128) : Elt F .f32 :=
  zf (ix2 (n0 := 16384) (n1 := 128) (if h : r.toNat < 16384 then ⟨_, h⟩ else ⟨0, by omega⟩)
    (if l.val = 64 then (if h : a.toNat < 128 then ⟨_, h⟩ else ⟨0, by omega⟩) else l))

/-- WHAT THE SPARSECORES LEAVE: row `j` is the row of `zf` that actor `j` names through the index map, its lane 64
    replaced by the lane that action `j` names. -/
def outV (zf : S16384x128.Idx → Elt F .f32) (im : S16384.Idx → BitVec 32) (ac at' : S8192.Idx → BitVec 32) : S8192x128.Idx → Elt F .f32 :=
  fun j => rowOf zf (at1 im (ac (ix1 (n := 8192) (j 0))).toNat) (at' (ix1 (n := 8192) (j 0))) (j 1)

section Parts

variable (d : Dev nD) (L : grid1.Coords)
variable (O : CellTallies nD τ sig (HIx 1)) (W : Waits sig (HIx 1)) (hO : ∀ g, O g none = 0)
variable {q : PosShare TreeShare}
variable (zf : S16384x128.Idx → Elt F .f32) (im : S16384.Idx → BitVec 32) (ac at' : S8192.Idx → BitVec 32)

/-- The tile's entry `i` of an array of 8192 words. -/
theorem part256_at (X : S8192.Idx → BitVec 32) (i : ℕ) (hi : i < 256) (j : Fin 8192) (hj : j.val = 512 * (L 1).val + 256 * (L 0).val + i) :
    at1 (part256 L X) i = X (ix1 (n := 8192) j) := by
  refine (at1_of_lt _ (ix1 (n := 256) ⟨i, hi⟩) rfl).trans ?_
  refine congrArg X (funext fun a => Fin.ext ?_)
  match a with
  | 0 =>
    show k1_off1 L 0 + 1 * i = j.val
    rw [k1_off1_eq, hj]
    show 512 * (L 1).val + 256 * (L 0).val + 1 * i = _
    omega

omit [FloatOps F] in
/-- A patched block of gathered rows, entry by entry. -/
theorem patch_gat (b : ℕ) (hb : b + 128 ≤ 256) (x : S128x128.Idx) (j : Fin 8192) (hj : j.val = 512 * (L 1).val + 256 * (L 0).val + (b + (x 0).val)) :
    patch (gat zf im b (part256 L ac)) (part256 L at') b 128 x
      = rowOf zf (at1 im (ac (ix1 (n := 8192) j)).toNat) (at' (ix1 (n := 8192) j)) (x 1) := by
  have hx : (x 0).val < 128 := (x 0).isLt
  have e1 := part256_at L ac (b + (x 0).val) (by omega) j hj
  have e2 := part256_at L at' (b + (x 0).val) (by omega) j hj
  rw [← e1, ← e2]
  unfold patch gat rowOf
  by_cases h : (x 1).val = 64
  · refine (if_pos ⟨h, hx⟩).trans ?_
    exact congrArg (fun l => zf (ix2 (n0 := 16384) (n1 := 128) _ l)) (if_pos h).symm
  · refine (if_neg (fun hh => h hh.1)).trans ?_
    exact congrArg (fun l => zf (ix2 (n0 := 16384) (n1 := 128) _ l)) (if_neg h).symm

omit [FloatOps F] in
/-- The tile's two blocks of what the SparseCores leave are its two patched blocks. -/
theorem read_oA : (oA L).view.read (Elt F) (outV zf im ac at') = patch (gat zf im 0 (part256 L ac)) (part256 L at') 0 128 := by
  funext x
  have hx : (x 0).val < 128 := (x 0).isLt
  have h0 : ((oA L).view.emb x 0).val = 512 * (L 1).val + 256 * (L 0).val + (0 + (x 0).val) := by
    show k1_off3 L 0 + 1 * (x 0).val = _
    rw [k1_off3_eq]; show 512 * (L 1).val + 256 * (L 0).val + 1 * (x 0).val = _; omega
  have h1 : (oA L).view.emb x 1 = x 1 := by
    refine Fin.ext ?_
    show k1_off3 L 1 + 1 * (x 1).val = _
    rw [k1_off3_eq]; show 0 + 1 * (x 1).val = _; omega
  refine Eq.trans ?_ (patch_gat L zf im ac at' 0 (by omega) x _ h0).symm
  show outV zf im ac at' ((oA L).view.emb x) = _
  unfold outV
  rw [h1]
omit [FloatOps F] in
theorem read_oB : (oB L).view.read (Elt F) (outV zf im ac at') = patch (gat zf im 128 (part256 L ac)) (part256 L at') 128 128 := by
  funext x
  have hx : (x 0).val < 128 := (x 0).isLt
  have h0 : ((oB L).view.emb x 0).val = 512 * (L 1).val + 256 * (L 0).val + (128 + (x 0).val) := by
    show k1_off4 L 0 + 1 * (x 0).val = _
    rw [k1_off4_eq]; show 512 * (L 1).val + 256 * (L 0).val + 128 + 1 * (x 0).val = _; omega
  have h1 : (oB L).view.emb x 1 = x 1 := by
    refine Fin.ext ?_
    show k1_off4 L 1 + 1 * (x 1).val = _
    rw [k1_off4_eq]; show 0 + 1 * (x 1).val = _; omega
  refine Eq.trans ?_ (patch_gat L zf im ac at' 128 (by omega) x _ h0).symm
  show outV zf im ac at' ((oB L).view.emb x) = _
  unfold outV
  rw [h1]

theorem amtA (L : grid1.Coords) : 0 < (oA L).view.amount (.dma (SemArray.sem cc1_scratch11)) :=
  View.amount_pos _ _ (by decide)
theorem amtB (L : grid1.Coords) : 0 < (oB L).view.amount (.dma (SemArray.sem cc1_scratch12)) :=
  View.amount_pos _ _ (by decide)

/-- The tile's two blocks of the array the rows go to. -/
abbrev oAPts (f : S8192x128.Idx → Elt F .f32) : sProp 𝕄 := oLoc d ↦[(oA L).view.set]{fullShare} (f : Buf (Elt F) (oLoc d))
abbrev oBPts (f : S8192x128.Idx → Elt F .f32) : sProp 𝕄 := oLoc d ↦[(oB L).view.set]{fullShare} (f : Buf (Elt F) (oLoc d))

include hO in
set_option maxHeartbeats 4000000 in
/-- PART 4: the first block's rows all patched, its copy out started; the second gather awaited. -/
theorem part4_spec (hat : ∀ j, (at' j).toNat < 64) (f : S8192x128.Idx → Elt F .f32) (A10 : sProp 𝕄) :
    iprop(levAts (K (F := F)).L (K (F := F)).lev ∗ held (F := F) (e := .i32) (tV d L) b2 fullShare (part256 L at')
        ∗ held (F := F) (e := .f32) (tV d L) b5 fullShare (patch (gat zf im 0 (part256 L ac)) (part256 L at') 0 48)
        ∗ oAPts d L f ∗ sem0 d L cc1_scratch11
        ∗ Fly (tV d L) cc1_scratch10.sem (b6).view.dmaCredit iprop(held (F := F) (e := .f32) (tV d L) b6 fullShare (gat zf im 128 (part256 L ac)) ∗ A10) ∗ owesT (tV d L) O W)
      ⊢ wp frame (wpE (defs₀ (F := F)) 𝒱₀ (tV d L) none) Set.univ
          (k1_part4_skel L zV (Memref.isWhole_whole _) imV (Memref.isWhole_whole _) acV (Memref.isWhole_whole _) atV (Memref.isWhole_whole _) oV (Memref.isWhole_whole _)
            b0 (Memref.isWhole_whole _) b1 (Memref.isWhole_whole _) b2 (Memref.isWhole_whole _) b3 (Memref.isWhole_whole _) b4 (Memref.isWhole_whole _)
            b5 (Memref.isWhole_whole _) b6 (Memref.isWhole_whole _) cc1_scratch7 cc1_scratch8 cc1_scratch9 cc1_scratch10 cc1_scratch11 cc1_scratch12 cc1_scratch13
            (broadcast S16 64#32) (iota .scVector S16 32 [0] iota_S16_d0_w32_scVector) k1_pay5)
          fun r => iprop(⌜r = k1_pay10⌝ ∗ held (F := F) (e := .i32) (tV d L) b2 fullShare (part256 L at')
            ∗ Fly (tV d L) cc1_scratch11.sem ((oA L).view.amount (.dma cc1_scratch11.sem)) iprop(oAPts d L (outV zf im ac at')
                ∗ held (F := F) (e := .f32) (tV d L) b5 fullShare (patch (gat zf im 0 (part256 L ac)) (part256 L at') 0 128))
            ∗ held (F := F) (e := .f32) (tV d L) b6 fullShare (gat zf im 128 (part256 L ac)) ∗ A10 ∗ sem0 d L cc1_scratch10 ∗ owesT (tV d L) O W) := by
  unfold k1_part4_skel
  simp only [Prog.lift, Prog.bind_op, Prog.bind_ret, bind_assoc, pure_bind, SparseCore.waitIndirectGather_bind]
  iintro ⟨#Hlv, H2, H5, Ho, Hs11, Hf10, HO⟩
  iapply (wp_patchStep (thr := tV d L) (bd := none) (m9 := b2) (mR := b5) (b := 0) (o := 48) (rv := (addi (iota .scVector S16 32 [0] iota_S16_d0_w32_scVector) k1_pay5)) (cv := broadcast S16 64#32) (C₁ := k1_chk24 (broadcast S16 64#32) (addi (iota .scVector S16 32 [0] iota_S16_d0_w32_scVector) k1_pay5)) (C₂ := fun v => k1_chk23 (addi (iota .scVector S16 32 [0] iota_S16_d0_w32_scVector) k1_pay5) v)
    rfl (by decide) (by decide) (gat zf im 0 (part256 L ac)) (part256 L at') (part256_lt L at' _ hat) (rowVec 48 (by decide)) (fun _ => rfl) (fun h => h) (fun _ h => h)) $$ [H2 H5]
  · iframe H2
    iexact H5
  iintro ⟨H2, H5⟩
  iapply (wp_patchStep (thr := tV d L) (bd := none) (m9 := b2) (mR := b5) (b := 0) (o := 64) (rv := k1_pay6) (cv := broadcast S16 64#32) (C₁ := k1_chk26 (broadcast S16 64#32) k1_pay6) (C₂ := fun v => k1_chk25 k1_pay6 v)
    rfl (by decide) (by decide) (gat zf im 0 (part256 L ac)) (part256 L at') (part256_lt L at' _ hat) (rowVec 64 (by decide)) (fun _ => rfl) (fun h => h) (fun _ h => h)) $$ [H2 H5]
  · iframe H2
    iexact H5
  iintro ⟨H2, H5⟩
  iapply (wp_patchStep (thr := tV d L) (bd := none) (m9 := b2) (mR := b5) (b := 0) (o := 80) (rv := k1_pay7) (cv := broadcast S16 64#32) (C₁ := k1_chk28 (broadcast S16 64#32) k1_pay7) (C₂ := fun v => k1_chk27 k1_pay7 v)
    rfl (by decide) (by decide) (gat zf im 0 (part256 L ac)) (part256 L at') (part256_lt L at' _ hat) (rowVec 80 (by decide)) (fun _ => rfl) (fun h => h) (fun _ h => h)) $$ [H2 H5]
  · iframe H2
    iexact H5
  iintro ⟨H2, H5⟩
  iapply (wp_patchStep (thr := tV d L) (bd := none) (m9 := b2) (mR := b5) (b := 0) (o := 96) (rv := k1_pay8) (cv := broadcast S16 64#32) (C₁ := k1_chk30 (broadcast S16 64#32) k1_pay8) (C₂ := fun v => k1_chk29 k1_pay8 v)
    rfl (by decide) (by decide) (gat zf im 0 (part256 L ac)) (part256 L at') (part256_lt L at' _ hat) (rowVec 96 (by decide)) (fun _ => rfl) (fun h => h) (fun _ h => h)) $$ [H2 H5]
  · iframe H2
    iexact H5
  iintro ⟨H2, H5⟩
  iapply (wp_patchStep (thr := tV d L) (bd := none) (m9 := b2) (mR := b5) (b := 0) (o := 112) (rv := k1_pay9) (cv := broadcast S16 64#32) (C₁ := k1_chk32 (broadcast S16 64#32) k1_pay9) (C₂ := fun v => k1_chk31 k1_pay9 v)
    rfl (by decide) (by decide) (gat zf im 0 (part256 L ac)) (part256 L at') (part256_lt L at' _ hat) (rowVec 112 (by decide)) (fun _ => rfl) (fun h => h) (fun _ h => h)) $$ [H2 H5]
  · iframe H2
    iexact H5
  iintro ⟨H2, H5⟩
  iapply (wp_putOut (thr := tV d L) (bd := none) (dst := oA L) (G := outV zf im ac at') _ rfl (amtA L) (read_oA L zf im ac at')) $$ [H5 Ho Hs11]
  · iframe Hs11
    isplitl [H5]; · iexact H5
    iexact Ho
  iintro Hf11
  iapply (wp_await (thr := tV d L) (bd := none) rfl hO) $$ [Hf10 HO]
  · iframe Hlv Hf10 HO
  iintro ⟨⟨H6, HA10⟩, Hs10, HO⟩
  dsimp only [Prog.bind]
  rw [wp_pure]
  imodintro
  isplitr; · ipureintro; rfl
  iframe H2 H6 HA10 Hs10 HO
  iexact Hf11

set_option maxHeartbeats 4000000 in
/-- PART 5: the second block's first 96 rows patched. -/
theorem part5_spec (hat : ∀ j, (at' j).toNat < 64) :
    iprop(held (F := F) (e := .i32) (tV d L) b2 fullShare (part256 L at')
        ∗ held (F := F) (e := .f32) (tV d L) b6 fullShare (gat zf im 128 (part256 L ac)))
      ⊢ wp frame (wpE (defs₀ (F := F)) 𝒱₀ (tV d L) none) Set.univ
          (k1_part5_skel L zV (Memref.isWhole_whole _) imV (Memref.isWhole_whole _) acV (Memref.isWhole_whole _) atV (Memref.isWhole_whole _) oV (Memref.isWhole_whole _)
            b0 (Memref.isWhole_whole _) b1 (Memref.isWhole_whole _) b2 (Memref.isWhole_whole _) b3 (Memref.isWhole_whole _) b4 (Memref.isWhole_whole _)
            b5 (Memref.isWhole_whole _) b6 (Memref.isWhole_whole _) cc1_scratch7 cc1_scratch8 cc1_scratch9 cc1_scratch10 cc1_scratch11 cc1_scratch12 cc1_scratch13
            (broadcast S16 64#32) k1_pay10)
          fun r => iprop(⌜r = k1_pay16⌝ ∗ held (F := F) (e := .i32) (tV d L) b2 fullShare (part256 L at')
            ∗ held (F := F) (e := .f32) (tV d L) b6 fullShare (patch (gat zf im 128 (part256 L ac)) (part256 L at') 128 96)) := by
  unfold k1_part5_skel
  simp only [Prog.lift, Prog.bind_op, Prog.bind_ret, bind_assoc, pure_bind]
  iintro ⟨H2, H6⟩
  ihave H6 := (Entails.of_eq (congrArg (held (F := F) (e := .f32) (tV d L) b6 fullShare) (patch_zero (gat zf im 128 (part256 L ac)) (part256 L at') 128).symm)) $$ H6
  iapply (wp_patchStep (thr := tV d L) (bd := none) (m9 := b2) (mR := b6) (b := 128) (o := 0) (rv := k1_pay10) (cv := broadcast S16 64#32) (C₁ := k1_chk34 (broadcast S16 64#32) k1_pay10) (C₂ := fun v => k1_chk33 k1_pay10 v)
    rfl (by decide) (by decide) (gat zf im 128 (part256 L ac)) (part256 L at') (part256_lt L at' _ hat) (rowVec 0 (by decide)) (fun _ => rfl) (fun h => h) (fun _ h => h)) $$ [H2 H6]
  · iframe H2
    iexact H6
  iintro ⟨H2, H6⟩
  iapply (wp_patchStep (thr := tV d L) (bd := none) (m9 := b2) (mR := b6) (b := 128) (o := 16) (rv := k1_pay11) (cv := broadcast S16 64#32) (C₁ := k1_chk36 (broadcast S16 64#32) k1_pay11) (C₂ := fun v => k1_chk35 k1_pay11 v)
    rfl (by decide) (by decide) (gat zf im 128 (part256 L ac)) (part256 L at') (part256_lt L at' _ hat) (rowVec 16 (by decide)) (fun _ => rfl) (fun h => h) (fun _ h => h)) $$ [H2 H6]
  · iframe H2
    iexact H6
  iintro ⟨H2, H6⟩
  iapply (wp_patchStep (thr := tV d L) (bd := none) (m9 := b2) (mR := b6) (b := 128) (o := 32) (rv := k1_pay12) (cv := broadcast S16 64#32) (C₁ := k1_chk38 (broadcast S16 64#32) k1_pay12) (C₂ := fun v => k1_chk37 k1_pay12 v)
    rfl (by decide) (by decide) (gat zf im 128 (part256 L ac)) (part256 L at') (part256_lt L at' _ hat) (rowVec 32 (by decide)) (fun _ => rfl) (fun h => h) (fun _ h => h)) $$ [H2 H6]
  · iframe H2
    iexact H6
  iintro ⟨H2, H6⟩
  iapply (wp_patchStep (thr := tV d L) (bd := none) (m9 := b2) (mR := b6) (b := 128) (o := 48) (rv := k1_pay13) (cv := broadcast S16 64#32) (C₁ := k1_chk40 (broadcast S16 64#32) k1_pay13) (C₂ := fun v => k1_chk39 k1_pay13 v)
    rfl (by decide) (by decide) (gat zf im 128 (part256 L ac)) (part256 L at') (part256_lt L at' _ hat) (rowVec 48 (by decide)) (fun _ => rfl) (fun h => h) (fun _ h => h)) $$ [H2 H6]
  · iframe H2
    iexact H6
  iintro ⟨H2, H6⟩
  iapply (wp_patchStep (thr := tV d L) (bd := none) (m9 := b2) (mR := b6) (b := 128) (o := 64) (rv := k1_pay14) (cv := broadcast S16 64#32) (C₁ := k1_chk42 (broadcast S16 64#32) k1_pay14) (C₂ := fun v => k1_chk41 k1_pay14 v)
    rfl (by decide) (by decide) (gat zf im 128 (part256 L ac)) (part256 L at') (part256_lt L at' _ hat) (rowVec 64 (by decide)) (fun _ => rfl) (fun h => h) (fun _ h => h)) $$ [H2 H6]
  · iframe H2
    iexact H6
  iintro ⟨H2, H6⟩
  iapply (wp_patchStep (thr := tV d L) (bd := none) (m9 := b2) (mR := b6) (b := 128) (o := 80) (rv := k1_pay15) (cv := broadcast S16 64#32) (C₁ := k1_chk44 (broadcast S16 64#32) k1_pay15) (C₂ := fun v => k1_chk43 k1_pay15 v)
    rfl (by decide) (by decide) (gat zf im 128 (part256 L ac)) (part256 L at') (part256_lt L at' _ hat) (rowVec 80 (by decide)) (fun _ => rfl) (fun h => h) (fun _ h => h)) $$ [H2 H6]
  · iframe H2
    iexact H6
  iintro ⟨H2, H6⟩
  rw [wp_pure]
  imodintro
  isplitr; · ipureintro; rfl
  iframe H2
  iexact H6

include hO in
set_option maxHeartbeats 4000000 in
/-- THE WHOLE of a tile's program: from shares of the four arrays it reads and its two blocks of the one it writes, the
    blocks are left at what the SparseCores leave there. -/
theorem tile_run (him : ∀ j, (im j).toNat < 16384) (hac : ∀ j, (ac j).toNat < 16384) (hat : ∀ j, (at' j).toNat < 64) (f : S8192x128.Idx → Elt F .f32)
    (X0 : B16384.Idx → BitVec 32) (X1 X2 : B256.Idx → BitVec 32) (g3 g4 : B128.Idx → BitVec 32) (X5 X6 : B128x128.Idx → Elt F .f32) :
    iprop(levAts (K (F := F)).L (K (F := F)).lev
        ∗ (zPts d zf q ∗ imPts (F := F) d im q ∗ acPts (F := F) d ac q ∗ atPts (F := F) d at' q ∗ oAPts d L f ∗ oBPts d L f)
        ∗ (held (F := F) (e := .i32) (tV d L) b0 fullShare X0 ∗ held (F := F) (e := .i32) (tV d L) b1 fullShare X1
          ∗ held (F := F) (e := .i32) (tV d L) b2 fullShare X2 ∗ held (F := F) (e := .i32) (tV d L) b3 fullShare g3
          ∗ held (F := F) (e := .i32) (tV d L) b4 fullShare g4 ∗ held (F := F) (e := .f32) (tV d L) b5 fullShare X5
          ∗ held (F := F) (e := .f32) (tV d L) b6 fullShare X6)
        ∗ (sem0 d L cc1_scratch7 ∗ sem0 d L cc1_scratch8 ∗ sem0 d L cc1_scratch9 ∗ sem0 d L cc1_scratch10 ∗ sem0 d L cc1_scratch11
          ∗ sem0 d L cc1_scratch12 ∗ sem0 d L cc1_scratch13) ∗ owesT (tV d L) O W)
      ⊢ wp frame (wpE (defs₀ (F := F)) 𝒱₀ (tV d L) none) Set.univ
          (cc1__sc_gather_skel L zV (Memref.isWhole_whole _) imV (Memref.isWhole_whole _) acV (Memref.isWhole_whole _) atV (Memref.isWhole_whole _) oV (Memref.isWhole_whole _)
            b0 (Memref.isWhole_whole _) b1 (Memref.isWhole_whole _) b2 (Memref.isWhole_whole _) b3 (Memref.isWhole_whole _) b4 (Memref.isWhole_whole _)
            b5 (Memref.isWhole_whole _) b6 (Memref.isWhole_whole _) cc1_scratch7 cc1_scratch8 cc1_scratch9 cc1_scratch10 cc1_scratch11 cc1_scratch12 cc1_scratch13)
          fun _ => iprop((zPts d zf q ∗ imPts (F := F) d im q ∗ acPts (F := F) d ac q ∗ atPts (F := F) d at' q
              ∗ oAPts d L (outV zf im ac at') ∗ oBPts d L (outV zf im ac at'))
            ∗ (∃ X0 X1 X2 g3 g4 X5 X6, held (F := F) (e := .i32) (tV d L) b0 fullShare X0 ∗ held (F := F) (e := .i32) (tV d L) b1 fullShare X1
              ∗ held (F := F) (e := .i32) (tV d L) b2 fullShare X2 ∗ held (F := F) (e := .i32) (tV d L) b3 fullShare g3
              ∗ held (F := F) (e := .i32) (tV d L) b4 fullShare g4 ∗ held (F := F) (e := .f32) (tV d L) b5 fullShare X5
              ∗ held (F := F) (e := .f32) (tV d L) b6 fullShare X6)
            ∗ (sem0 d L cc1_scratch7 ∗ sem0 d L cc1_scratch8 ∗ sem0 d L cc1_scratch9 ∗ sem0 d L cc1_scratch10 ∗ sem0 d L cc1_scratch11
              ∗ sem0 d L cc1_scratch12 ∗ sem0 d L cc1_scratch13) ∗ owesT (tV d L) O W) := by
  unfold cc1__sc_gather_skel
  simp only [k1_part1_eq_skeleton, k1_part2_eq_skeleton, k1_part3_eq_skeleton, k1_part4_eq_skeleton, k1_part5_eq_skeleton]
  iintro ⟨#Hlv, ⟨Hz, Him, Hac, Hat, HoA, HoB⟩, ⟨H0, H1, H2, H3, H4, H5, H6⟩, ⟨Hs7, Hs8, Hs9, Hs10, Hs11, Hs12, Hs13⟩, HO⟩
  ihave ⟨Hz1, Hz2⟩ := (pointsTo_share (PosShare.mem_left_op_right q)).1 $$ Hz
  rw [wp_bind]
  iapply wp_wand_r
  isplitl [Him Hac Hat H0 H1 H2 H3 Hs7 Hs8 Hs13 HO]
  · iapply (part1_spec d L O W hO im ac at' hac X0 X1 X2 g3)
    iframe Hlv Him Hac Hat H0 H1 H2 H3 Hs7 Hs8 Hs13 HO
  iintro %r ⟨Him, Hac, H0, H1, H3, Hf13, Hs7, Hs8, HO⟩
  rw [wp_bind]
  iapply wp_wand_r
  isplitl [H0 H1 H3 H4 H5 Hz1 Hs9]
  · iapply (part2_spec d L zf im him (part256 L ac) (part256_lt L ac _ hac) g3 g4 X5)
    iframe H0 H1 H3 H4 H5 Hz1 Hs9
  iintro %r2 ⟨H0, H1, Hf9, H4⟩
  rw [wp_bind]
  iapply wp_wand_r
  isplitl [H0 H1 H4 H6 Hz2 Hs10 Hf13 Hf9 HO]
  · iapply (part3_spec d L O W hO zf im at' him (part256 L ac) (part256_lt L ac _ hac) hat g4 X6)
    iframe Hlv H0 H1 H4 H6 Hz2 Hs10 Hf13 Hf9 HO
  iintro %r3 ⟨%hr3, H0, H1, Hf10, H2, Hat, Hs13, H5, ⟨Hz1, H3⟩, Hs9, HO⟩
  subst hr3
  rw [wp_bind]
  iapply wp_wand_r
  isplitl [H2 H5 HoA Hs11 Hf10 HO]
  · iapply (part4_spec d L O W hO zf im ac at' hat f)
    iframe Hlv H2 H5 HoA Hs11 Hf10 HO
  iintro %r4 ⟨%hr4, H2, Hf11, H6, ⟨Hz2, H4⟩, Hs10, HO⟩
  subst hr4
  rw [wp_bind]
  iapply wp_wand_r
  isplitl [H2 H6]
  · iapply (part5_spec d L zf im ac at' hat)
    iframe H2 H6
  iintro %r5 ⟨%hr5, H2, H6⟩
  subst hr5
  simp only [Prog.lift, Prog.bind_op, Prog.bind_ret, bind_assoc, pure_bind]
  iapply (wp_patchStep (thr := tV d L) (bd := none) (m9 := b2) (mR := b6) (b := 128) (o := 96) (rv := k1_pay16) (cv := broadcast S16 64#32) (C₁ := k1_chk46 (broadcast S16 64#32) k1_pay16) (C₂ := fun v => k1_chk45 k1_pay16 v)
    rfl (by decide) (by decide) (gat zf im 128 (part256 L ac)) (part256 L at') (part256_lt L at' _ hat) (rowVec 96 (by decide)) (fun _ => rfl) (fun h => h) (fun _ h => h)) $$ [H2 H6]
  · iframe H2
    iexact H6
  iintro ⟨H2, H6⟩
  iapply (wp_patchStep (thr := tV d L) (bd := none) (m9 := b2) (mR := b6) (b := 128) (o := 112) (rv := k1_pay1) (cv := broadcast S16 64#32) (C₁ := k1_chk48 (broadcast S16 64#32) k1_pay1) (C₂ := fun v => k1_chk47 k1_pay1 v)
    rfl (by decide) (by decide) (gat zf im 128 (part256 L ac)) (part256 L at') (part256_lt L at' _ hat) (rowVec 112 (by decide)) (fun _ => rfl) (fun h => h) (fun _ h => h)) $$ [H2 H6]
  · iframe H2
    iexact H6
  iintro ⟨H2, H6⟩
  iapply (wp_putOut (thr := tV d L) (bd := none) (dst := oB L) (G := outV zf im ac at') _ rfl (amtB L) (read_oB L zf im ac at')) $$ [H6 HoB Hs12]
  · iframe Hs12
    isplitl [H6]; · iexact H6
    iexact HoB
  iintro Hf12
  iapply (wp_await (thr := tV d L) (bd := none) rfl hO) $$ [Hf11 HO]
  · iframe Hlv Hf11 HO
  iintro ⟨⟨HoA, H5⟩, Hs11, HO⟩
  iapply (wp_await (thr := tV d L) (bd := none) rfl hO) $$ [Hf12 HO]
  · iframe Hlv Hf12 HO
  iintro ⟨⟨HoB, H6⟩, Hs12, HO⟩
  rw [wp_pure]
  imodintro
  ihave Hz := (pointsTo_share (PosShare.mem_left_op_right q)).2 $$ [Hz1 Hz2]
  · iframe Hz1 Hz2
  isplitl [Hz Him Hac Hat HoA HoB]
  · iframe Hz Him Hac Hat HoA
    iexact HoB
  isplitl [H0 H1 H2 H3 H4 H5 H6]
  · iexists _, _, _, _, _, _, _
    iframe H0 H1 H2 H3 H4 H5
    iexact H6
  iframe Hs7 Hs8 Hs9 Hs10 Hs11 Hs12 Hs13 HO

end Parts

end Cert.Proof.KI

end
-- ==== Proof.Launch1.lean ====
/-
  The SparseCore call as the launch theorem sees it: what the handshakes carry to a tile and back, a tile's obligation,
  and the operands dealt to the tiles and collected from them.
-/
module

public import proofs.«01_k».proof.Proof.Tile2

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig (HIx 1) (Elt F) ℕ UU ℕ

/-! ## Several members of a product taken out at once -/

/-- The members of a list without repetition, taken out of a product one after the other. -/
theorem bigSep_takeOut {M : Type} [URA M] {I : Type} [DecidableEq I] (Φ : I → sProp M) :
    ∀ (l : List I) (s : Finset I), l.Nodup → (∀ a ∈ l, a ∈ s) →
      bigSep s Φ = l.foldr (fun a R => iprop(Φ a ∗ R)) (bigSep (s \ l.toFinset) Φ)
  | [], s, _, _ => by simp
  | a :: l, s, hn, hm => by
    have ha : a ∈ s := hm a (by simp)
    rw [List.nodup_cons] at hn
    rw [SparseCore.bigSep_erase' ha, bigSep_takeOut Φ l (s.erase a) hn.2
      (fun b hb => Finset.mem_erase.mpr ⟨fun e => hn.1 (e ▸ hb), hm b (by simp [hb])⟩)]
    have e : s.erase a \ l.toFinset = s \ (a :: l).toFinset := by
      ext x; simp only [Finset.mem_sdiff, Finset.mem_erase, List.toFinset_cons, Finset.mem_insert]; tauto
    rw [e]; rfl

section Tile

variable (d : Dev nD) (L : grid1.Coords)

/-- The tile's seven DMA semaphores, and its seven scratch buffers. -/
def tileSems : List (DmaSem sig) :=
  [cc1_scratch7.sem, cc1_scratch8.sem, cc1_scratch9.sem, cc1_scratch10.sem, cc1_scratch11.sem, cc1_scratch12.sem, cc1_scratch13.sem]
def tileRefs : List (Ref sig .scVector) := [cc1_scratch0, cc1_scratch1, cc1_scratch2, cc1_scratch3, cc1_scratch4, cc1_scratch5, cc1_scratch6]

theorem tileSems_nodup : tileSems.Nodup := by decide
theorem tileRefs_nodup : tileRefs.Nodup := by decide
theorem tileSems_scoped : ∀ s ∈ tileSems, (SemLoc.dma s : SemLoc sig).isScoped .scVector = true := by decide

/-- What is left of a tile's semaphores and buffers. -/
def restSems : sProp 𝕄 :=
  bigSep (ownCells (tV d L) \ (tileSems.map fun s => ((tV d L, .dma s) : GSem nD τ sig)).toFinset) fun g => semVal g 0
def restBufs : sProp 𝕄 :=
  bigSep (ownRefs (τ := τ) (.scVector (cV L) (jV L)) \ (tileRefs.map (Proc.scVector (cV L) (jV L)).devRef).toFinset)
    fun b => iprop(∃ f, ((d, b) : Loc nD τ sig) ↦{fullShare} f)

omit [FloatOps F] in
theorem ownSems0_tV :
    (ownSems0 (tV d L) : sProp 𝕄) = iprop(sem0 d L cc1_scratch7 ∗ sem0 d L cc1_scratch8 ∗ sem0 d L cc1_scratch9 ∗ sem0 d L cc1_scratch10
      ∗ sem0 d L cc1_scratch11 ∗ sem0 d L cc1_scratch12 ∗ sem0 d L cc1_scratch13 ∗ restSems d L) := by
  unfold SparseCore.Cfg.ownSems0
  refine (bigSep_takeOut _ (tileSems.map fun s => ((tV d L, .dma s) : GSem nD τ sig)) _ ?_ ?_).trans rfl
  · exact tileSems_nodup.map fun a b e => by simpa using e
  · intro g hg
    obtain ⟨s, hs, rfl⟩ := List.mem_map.mp hg
    exact mem_ownCells.mpr ⟨rfl, tileSems_scoped s hs⟩

omit [FloatOps F] in
theorem ownBufs_tV :
    (ownBufs (tV d L) : sProp 𝕄) = iprop((∃ f, (tV d L).loc cc1_scratch0 ↦{fullShare} f) ∗ (∃ f, (tV d L).loc cc1_scratch1 ↦{fullShare} f)
      ∗ (∃ f, (tV d L).loc cc1_scratch2 ↦{fullShare} f) ∗ (∃ f, (tV d L).loc cc1_scratch3 ↦{fullShare} f)
      ∗ (∃ f, (tV d L).loc cc1_scratch4 ↦{fullShare} f) ∗ (∃ f, (tV d L).loc cc1_scratch5 ↦{fullShare} f)
      ∗ (∃ f, (tV d L).loc cc1_scratch6 ↦{fullShare} f) ∗ restBufs d L) := by
  unfold SparseCore.Cfg.ownBufs
  refine (bigSep_takeOut _ (tileRefs.map (Proc.scVector (cV L) (jV L)).devRef) _ ?_ ?_).trans rfl
  · exact tileRefs_nodup.map (Proc.devRef_injective _)
  · intro g hg
    obtain ⟨s, hs, rfl⟩ := List.mem_map.mp hg
    refine SparseCore.Cfg.mem_ownRefs_of_owner ?_
    simp only [tileRefs, List.mem_cons, List.mem_nil_iff, or_false] at hs
    rcases hs with rfl | rfl | rfl | rfl | rfl | rfl | rfl <;> rfl

omit [FloatOps F] in
/-- A scratch buffer at some contents is held at the array that it reads, and the other way round. -/
theorem held_of {sp : Space} {s : Shape} {e : EltTy} (m : Memref sig (tV d L).2.kind sp s e) :
    iprop(∃ f, m.view.loc (tV d L) ↦{fullShare} f) ⊢ (iprop(∃ X, held (F := F) (tV d L) m fullShare X) : sProp 𝕄) := by
  unfold held
  iintro ⟨%f, H⟩
  iexists _; iexists f; isplitr; · ipureintro; rfl
  iexact H
omit [FloatOps F] in
theorem of_held {sp : Space} {s : Shape} {e : EltTy} (m : Memref sig (tV d L).2.kind sp s e) (X : s.Idx → Elt F e) :
    held (F := F) (tV d L) m fullShare X ⊢ (iprop(∃ f, m.view.loc (tV d L) ↦{fullShare} f) : sProp 𝕄) := by
  unfold held
  iintro ⟨%f, -, H⟩
  iexists f; iexact H

variable {q : PosShare TreeShare}
variable (zf : S16384x128.Idx → Elt F .f32) (im : S16384.Idx → BitVec 32) (ac at' : S8192.Idx → BitVec 32)

set_option maxHeartbeats 2000000 in
/-- THE TASK OF A TILE: from its shares of the four arrays that it reads and its two blocks of the output, the blocks
    hold the patched rows. -/
theorem tile_body (hF : (K (F := F)).Facts) (O : CellTallies nD τ sig (HIx 1)) (W : Waits sig (HIx 1)) (hO : ∀ g, O g none = 0)
    (him : ∀ j, (im j).toNat < 16384) (hac : ∀ j, (ac j).toNat < 16384) (hat : ∀ j, (at' j).toNat < 64) (f : S8192x128.Idx → Elt F .f32) :
    iprop(levAts (K (F := F)).L (K (F := F)).lev ∗ emp
        ∗ (zPts d zf q ∗ imPts (F := F) d im q ∗ acPts (F := F) d ac q ∗ atPts (F := F) d at' q ∗ oAPts d L f ∗ oBPts d L f)
        ∗ scopedBufs (tV d L) ∗ scopedSems0 (tV d L) ∗ owes (tV d L) O W)
      ⊢ wp frame (wpE (defs₀ (F := F)) 𝒱₀ (tV d L) none) Set.univ
          (cc1__sc_gather L zV (Memref.isWhole_whole _) imV (Memref.isWhole_whole _) acV (Memref.isWhole_whole _) atV (Memref.isWhole_whole _) oV (Memref.isWhole_whole _)
            b0 (Memref.isWhole_whole _) b1 (Memref.isWhole_whole _) b2 (Memref.isWhole_whole _) b3 (Memref.isWhole_whole _) b4 (Memref.isWhole_whole _)
            b5 (Memref.isWhole_whole _) b6 (Memref.isWhole_whole _) cc1_scratch7 cc1_scratch8 cc1_scratch9 cc1_scratch10 cc1_scratch11 cc1_scratch12 cc1_scratch13)
          fun _ => iprop((zPts d zf q ∗ imPts (F := F) d im q ∗ acPts (F := F) d ac q ∗ atPts (F := F) d at' q
              ∗ oAPts d L (outV zf im ac at') ∗ oBPts d L (outV zf im ac at'))
            ∗ scopedBufs (tV d L) ∗ scopedSems0 (tV d L)
            ∗ ∃ W', ⌜∀ p ∈ W', p ∈ W ∨ p.2 = none⌝ ∗ owes (tV d L) O W') := by
  rw [cc1__sc_gather_eq_skeleton]
  rw [(K (F := F)).scopedBufs_V hF d (cV L) (jV L), SparseCore.Cfg.scopedSems0_V (Val := Elt F) d (cV L) (jV L)]
  rw [show (ownSems0 (V d (cV L) (jV L)) : sProp 𝕄) = _ from ownSems0_tV d L, show (ownBufs (V d (cV L) (jV L)) : sProp 𝕄) = _ from ownBufs_tV d L]
  iintro ⟨#Hlv, -, Hin, ⟨H0, H1, H2, H3, H4, H5, H6, Hbufs⟩, ⟨Hs7, Hs8, Hs9, Hs10, Hs11, Hs12, Hs13, Hsems⟩, HO⟩
  ihave ⟨%X0, H0⟩ := (held_of (F := F) d L b0) $$ H0
  ihave ⟨%X1, H1⟩ := (held_of (F := F) d L b1) $$ H1
  ihave ⟨%X2, H2⟩ := (held_of (F := F) d L b2) $$ H2
  ihave ⟨%X3, H3⟩ := (held_of (F := F) d L b3) $$ H3
  ihave ⟨%X4, H4⟩ := (held_of (F := F) d L b4) $$ H4
  ihave ⟨%X5, H5⟩ := (held_of (F := F) d L b5) $$ H5
  ihave ⟨%X6, H6⟩ := (held_of (F := F) d L b6) $$ H6
  ihave HO := (owesT_of (F := F) (tV d L) O W) $$ HO
  iapply wp_wand_r
  isplitr [Hbufs Hsems]
  · iapply (tile_run d L O W hO zf im ac at' him hac hat f X0 X1 X2 X3 X4 X5 X6)
    iframe Hlv Hin H0 H1 H2 H3 H4 H5 H6 Hs7 Hs8 Hs9 Hs10 Hs11 Hs12 Hs13 HO
  iintro %r ⟨Hin, ⟨%X0, %X1, %X2, %X3, %X4, %X5, %X6, H0, H1, H2, H3, H4, H5, H6⟩, ⟨Hs7, Hs8, Hs9, Hs10, Hs11, Hs12, Hs13⟩, HO⟩
  ihave H0 := (of_held (F := F) d L b0 _) $$ H0
  ihave H1 := (of_held (F := F) d L b1 _) $$ H1
  ihave H2 := (of_held (F := F) d L b2 _) $$ H2
  ihave H3 := (of_held (F := F) d L b3 _) $$ H3
  ihave H4 := (of_held (F := F) d L b4 _) $$ H4
  ihave H5 := (of_held (F := F) d L b5 _) $$ H5
  ihave H6 := (of_held (F := F) d L b6 _) $$ H6
  isplitl [Hin]; · iexact Hin
  isplitl [H0 H1 H2 H3 H4 H5 H6 Hbufs]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact Hbufs
  isplitr [HO]
  · iframe Hs7 Hs8 Hs9 Hs10 Hs11 Hs12 Hs13 Hsems
  unfold owesT
  iexact HO

end Tile

/-! ## What the handshakes carry -/

/-- The coordinates of tile `s` of SparseCore `c`. -/
def coordsV (c : Fin 2) (s : Fin 16) : grid1.Coords :=
  fun | 0 => c | 1 => s | ⟨_ + 2, h⟩ => absurd h (Nat.not_lt.2 (Nat.le_add_left _ _))

/-- The share that tile `s` of SparseCore `c` gets of each array that it reads. -/
abbrev qt (c : Fin 2) (s : Fin 16) : PosShare TreeShare := ShareLeaves.leaf 4 (ShareLeaves.leaf 1 fullShare c) s

section Payload

variable (m : (ℓ : Loc nD τ sig) → Buf (Elt F) ℓ) (zf : Dev nD → S16384x128.Idx → Elt F .f32)

/-- The launch contents of the four arrays that the SparseCores use beside the product. -/
abbrev imOf (d : Dev nD) : S16384.Idx → BitVec 32 := m (imLoc d)
abbrev acOf (d : Dev nD) : S8192.Idx → BitVec 32 := m (acLoc d)
abbrev atOf (d : Dev nD) : S8192.Idx → BitVec 32 := m (atLoc d)
abbrev oOf (d : Dev nD) : S8192x128.Idx → Elt F .f32 := m (oLoc d)

/-- The four arrays at share `q`. -/
abbrev insAt (d : Dev nD) (q : PosShare TreeShare) : sProp 𝕄 :=
  iprop(zPts d (zf d) q ∗ imPts (F := F) d (imOf m d) q ∗ acPts (F := F) d (acOf m d) q ∗ atPts (F := F) d (atOf m d) q)

/-- What a tile is handed, and what it hands back: its shares of the four arrays, and its two blocks of the output at `f`. -/
abbrev tilePts (d : Dev nD) (c : Fin 2) (s : Fin 16) (f : S8192x128.Idx → Elt F .f32) : sProp 𝕄 :=
  iprop(zPts d (zf d) (qt c s) ∗ imPts (F := F) d (imOf m d) (qt c s) ∗ acPts (F := F) d (acOf m d) (qt c s) ∗ atPts (F := F) d (atOf m d) (qt c s)
    ∗ oAPts d (coordsV c s) f ∗ oBPts d (coordsV c s) f)

/-- What the SparseCores leave of the launch contents. -/
abbrev outOf (d : Dev nD) : S8192x128.Idx → Elt F .f32 := outV (zf d) (imOf m d) (acOf m d) (atOf m d)

/-- The call takes each tile's pieces and brings them back with the output's blocks filled. -/
def P : (K (F := F)).Pay (nD := nD) (Val := Elt F) (Name := ℕ) (U := UU) where
  st := fun q d c => match q with | 0 => bigSep Finset.univ fun s : Fin 16 => tilePts m zf d (Fin.cast nCore_zero c) s (oOf m d)
  dn := fun q d c => match q with | 0 => bigSep Finset.univ fun s : Fin 16 => tilePts m zf d (Fin.cast nCore_zero c) s (outOf m zf d)
  go := fun q d c i => match q with | 0 => tilePts m zf d (Fin.cast nCore_zero c) (Fin.cast nSub_zero i) (oOf m d)
  td := fun q d c i => match q with | 0 => tilePts m zf d (Fin.cast nCore_zero c) (Fin.cast nSub_zero i) (outOf m zf d)
  x := fun _ _ => iprop(emp)

instance tilePts_storable (d : Dev nD) (c : Fin 2) (s : Fin 16) (f : S8192x128.Idx → Elt F .f32) :
    BI.Storable (upEmb : UEmb _ 𝕄) (tilePts m zf d c s f) := inferInstance

instance P_storable : (P (F := F) m zf).IsStorable where
  st q d c := match q with | 0 => (inferInstance : BI.Storable (upEmb : UEmb _ 𝕄) (bigSep Finset.univ fun s : Fin 16 => tilePts m zf d (Fin.cast nCore_zero c) s (oOf m d)))
  dn q d c := match q with | 0 => (inferInstance : BI.Storable (upEmb : UEmb _ 𝕄) (bigSep Finset.univ fun s : Fin 16 => tilePts m zf d (Fin.cast nCore_zero c) s (outOf m zf d)))
  go q d c i := match q with | 0 => tilePts_storable m zf d (Fin.cast nCore_zero c) (Fin.cast nSub_zero i) (oOf m d)
  td q d c i := match q with | 0 => tilePts_storable m zf d (Fin.cast nCore_zero c) (Fin.cast nSub_zero i) (outOf m zf d)

/-- What the proof asks of the launch memory: the indices name rows, and the actions lanes below 64. -/
def PreOK : Prop := ∀ d : Dev nD, (∀ j, (imOf m d j).toNat < 16384) ∧ (∀ j, (acOf m d j).toNat < 16384) ∧ ∀ j, (atOf m d j).toNat < 64

/-! ## The obligation of a tile -/

theorem defs₀_vector (c : Fin τ.nSC) (s : Fin τ.nSub) :
    defs₀ (F := F) (.scVector c s) 1 ()
      = SparseCore.onTile hcore1 hsub1 (fun c s => cc1__sc_gather (coordsV c s)
          zV (Memref.isWhole_whole _) imV (Memref.isWhole_whole _) acV (Memref.isWhole_whole _) atV (Memref.isWhole_whole _) oV (Memref.isWhole_whole _)
          b0 (Memref.isWhole_whole _) b1 (Memref.isWhole_whole _) b2 (Memref.isWhole_whole _) b3 (Memref.isWhole_whole _) b4 (Memref.isWhole_whole _)
          b5 (Memref.isWhole_whole _) b6 (Memref.isWhole_whole _) cc1_scratch7 cc1_scratch8 cc1_scratch9 cc1_scratch10 cc1_scratch11 cc1_scratch12 cc1_scratch13) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile's task meets what the call asks of it. -/
theorem tileObl (hpre : PreOK m) : (K (F := F)).TileObl (D (F := F)) 𝒱 (P m zf) v₀ 0 := by
  intro d c i O W hO _ _
  simp only [show (P m zf).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (zf d) (imOf m d) (acOf m d) (atOf m d) facts O W hO (hpre d).1 (hpre d).2.1 (hpre d).2.2 (oOf m d)).trans
    (wp_mono frame _ _ fun _ => obl_post)

/-- The split among a SparseCore's tiles is the call's own. -/
theorem vecSplit : (K (F := F)).VecSplit' (P m zf) 0 := by
  intro d c
  show iprop(bigSep Finset.univ fun s : Fin 16 => tilePts m zf d (Fin.cast nCore_zero c) s (oOf m d)) ⊢ |={Set.univ}=> iprop(
      (bigSep Finset.univ fun i : Fin ((K (F := F)).nSub 0) => tilePts m zf d (Fin.cast nCore_zero c) (Fin.cast nSub_zero i) (oOf m d))
      ∗ ((bigSep Finset.univ fun i : Fin ((K (F := F)).nSub 0) => tilePts m zf d (Fin.cast nCore_zero c) (Fin.cast nSub_zero i) (outOf m zf d))
          -∗ bigSep Finset.univ fun s : Fin 16 => tilePts m zf d (Fin.cast nCore_zero c) s (outOf m zf d)))
  iintro H; imodintro
  isplitl [H]; · iexact H
  iintro H; iexact H

/-! ## All tiles' pieces together are the arrays whole -/

omit [FloatOps F] in
theorem mem_oA (L : grid1.Coords) (x : S8192x128.Idx) :
    x ∈ (oA L).view.set ↔ 512 * (L 1).val + 256 * (L 0).val ≤ (x 0).val ∧ (x 0).val < 512 * (L 1).val + 256 * (L 0).val + 128 := by
  have e : (oA L).view.set = (Rect.unit (s := S8192x128) (k1_off3 L) S128x128.size (k1_off3_inb L)).set := by
    show ((View.whole (main_v1_scv : Ref sig .scVector)).slice _).set = _
    rw [View.set_slice]; exact Finset.map_refl
  rw [e, Rect.mem_set_unit]
  simp only [k1_off3_eq]
  constructor
  · intro h; exact h 0
  · intro h a
    match a with
    | 0 => exact h
    | 1 => exact ⟨Nat.zero_le _, by have : (x 1).val < 128 := (x 1).isLt; show (x 1).val < 0 + 128; omega⟩
omit [FloatOps F] in
theorem mem_oB (L : grid1.Coords) (x : S8192x128.Idx) :
    x ∈ (oB L).view.set ↔ 512 * (L 1).val + 256 * (L 0).val + 128 ≤ (x 0).val ∧ (x 0).val < 512 * (L 1).val + 256 * (L 0).val + 128 + 128 := by
  have e : (oB L).view.set = (Rect.unit (s := S8192x128) (k1_off4 L) S128x128.size (k1_off4_inb L)).set := by
    show ((View.whole (main_v1_scv : Ref sig .scVector)).slice _).set = _
    rw [View.set_slice]; exact Finset.map_refl
  rw [e, Rect.mem_set_unit]
  simp only [k1_off4_eq]
  constructor
  · intro h; exact h 0
  · intro h a
    match a with
    | 0 => exact h
    | 1 => exact ⟨Nat.zero_le _, by have : (x 1).val < 128 := (x 1).isLt; show (x 1).val < 0 + 128; omega⟩

/-- The rows of a tile, and of a SparseCore. -/
def oTile (c : Fin 2) (s : Fin 16) : Finset S8192x128.Idx := (oA (coordsV c s)).view.set ∪ (oB (coordsV c s)).view.set
def oCore (c : Fin 2) : Finset S8192x128.Idx := Finset.univ.biUnion fun s : Fin 16 => oTile c s

omit [FloatOps F] in
theorem mem_oTile (c : Fin 2) (s : Fin 16) (x : S8192x128.Idx) :
    x ∈ oTile c s ↔ 512 * s.val + 256 * c.val ≤ (x 0).val ∧ (x 0).val < 512 * s.val + 256 * c.val + 256 := by
  unfold oTile
  rw [Finset.mem_union, mem_oA, mem_oB]
  show (512 * s.val + 256 * c.val ≤ _ ∧ _ < 512 * s.val + 256 * c.val + 128) ∨ (512 * s.val + 256 * c.val + 128 ≤ _ ∧ _ < 512 * s.val + 256 * c.val + 128 + 128) ↔ _
  omega

omit [FloatOps F] in
theorem oHalves_disjoint (c : Fin 2) (s : Fin 16) : Disjoint (oA (coordsV c s)).view.set (oB (coordsV c s)).view.set := by
  rw [Finset.disjoint_left]; intro x hx hy
  have h1 := (mem_oA _ x).1 hx
  have h2 := (mem_oB _ x).1 hy
  omega
omit [FloatOps F] in
theorem oTile_disjoint (c : Fin 2) : ∀ s ∈ (Finset.univ : Finset (Fin 16)), ∀ s' ∈ (Finset.univ : Finset (Fin 16)), s ≠ s' → Disjoint (oTile c s) (oTile c s') := by
  intro s _ s' _ hn
  rw [Finset.disjoint_left]; intro x hx hy
  have h1 := (mem_oTile _ _ x).1 hx
  have h2 := (mem_oTile _ _ x).1 hy
  exact hn (Fin.ext (by omega))
omit [FloatOps F] in
theorem oCore_disjoint : ∀ c ∈ (Finset.univ : Finset (Fin 2)), ∀ c' ∈ (Finset.univ : Finset (Fin 2)), c ≠ c' → Disjoint (oCore c) (oCore c') := by
  intro c _ c' _ hn
  rw [Finset.disjoint_left]; intro x hx hy
  obtain ⟨s, -, hs⟩ := Finset.mem_biUnion.1 hx
  obtain ⟨s', -, hs'⟩ := Finset.mem_biUnion.1 hy
  have h1 := (mem_oTile _ _ x).1 hs
  have h2 := (mem_oTile _ _ x).1 hs'
  exact hn (Fin.ext (by omega))
omit [FloatOps F] in
theorem oCore_cover : (Finset.univ : Finset (Fin 2)).biUnion oCore = Finset.univ := by
  ext x
  simp only [Finset.mem_biUnion, Finset.mem_univ, true_and, iff_true, oCore]
  have hx : (x 0).val < 8192 := (x 0).isLt
  exact ⟨⟨(x 0).val / 256 % 2, by omega⟩, ⟨(x 0).val / 512, by omega⟩, (mem_oTile _ _ x).2 ⟨by show 512 * ((x 0).val / 512) + 256 * ((x 0).val / 256 % 2) ≤ _; omega,
    by show _ < 512 * ((x 0).val / 512) + 256 * ((x 0).val / 256 % 2) + 256; omega⟩⟩

omit [FloatOps F] in
/-- The output array is its tiles' two blocks each. -/
theorem o_tiles (d : Dev nD) (f : S8192x128.Idx → Elt F .f32) :
    (oLoc d ↦{fullShare} (f : Buf (Elt F) (oLoc d)) : sProp 𝕄)
      = bigSep Finset.univ fun c : Fin 2 => bigSep Finset.univ fun s : Fin 16 => iprop(oAPts d (coordsV c s) f ∗ oBPts d (coordsV c s) f) := by
  rw [show (Finset.univ : Finset (Idx (oLoc d))) = Finset.univ.biUnion oCore from oCore_cover.symm,
    pointsTo_biUnion Finset.univ (ℓ := oLoc d) oCore oCore_disjoint]
  refine bigSep_congr fun c _ => ?_
  unfold oCore
  rw [pointsTo_biUnion Finset.univ (ℓ := oLoc d) (oTile c) (oTile_disjoint c)]
  refine bigSep_congr fun s _ => ?_
  exact BI.Entails.antisymm (pointsTo_union (ℓ := oLoc d) (oHalves_disjoint c s)).1 (pointsTo_union (ℓ := oLoc d) (oHalves_disjoint c s)).2

omit [FloatOps F] in
/-- An array is its tiles' read shares. -/
theorem pts_shares {ℓ : Loc nD τ sig} (f : Buf (Elt F) ℓ) :
    (ℓ ↦{fullShare} f : sProp 𝕄) = bigSep Finset.univ fun c : Fin 2 => bigSep Finset.univ fun s : Fin 16 => (ℓ ↦{qt c s} f : sProp 𝕄) := by
  refine (ShareLeaves.pointsTo_leaves Finset.univ f 1 fullShare).trans ?_
  exact bigSep_congr fun c _ => ShareLeaves.pointsTo_leaves Finset.univ f 4 _

/-- The five arrays whole are what all tiles are handed. -/
theorem whole_tiles (d : Dev nD) (f : S8192x128.Idx → Elt F .f32) :
    (iprop(zPts d (zf d) fullShare ∗ imPts (F := F) d (imOf m d) fullShare ∗ acPts (F := F) d (acOf m d) fullShare ∗ atPts (F := F) d (atOf m d) fullShare
        ∗ oLoc d ↦{fullShare} (f : Buf (Elt F) (oLoc d))) : sProp 𝕄)
      = bigSep Finset.univ fun c : Fin 2 => bigSep Finset.univ fun s : Fin 16 => tilePts m zf d c s f := by
  simp only [tilePts, bigSep_sep']
  have ez : zPts d (zf d) fullShare = _ := pts_shares (ℓ := zLoc d) (zf d)
  have ei : imPts (F := F) d (imOf m d) fullShare = _ := pts_shares (ℓ := imLoc d) (imOf m d)
  have ea : acPts (F := F) d (acOf m d) fullShare = _ := pts_shares (ℓ := acLoc d) (acOf m d)
  have et : atPts (F := F) d (atOf m d) fullShare = _ := pts_shares (ℓ := atLoc d) (atOf m d)
  rw [ez, ei, ea, et, o_tiles]
  simp only [bigSep_sep']

/-- What the call is handed on all SparseCores, and what comes back. -/
theorem st0_eq (d : Dev nD) : (bigSep Finset.univ fun c : Fin ((K (F := F)).nCore 0) => (P m zf).st 0 d c)
    = iprop(zPts d (zf d) fullShare ∗ imPts (F := F) d (imOf m d) fullShare ∗ acPts (F := F) d (acOf m d) fullShare ∗ atPts (F := F) d (atOf m d) fullShare
        ∗ oLoc d ↦{fullShare} m (oLoc d)) :=
  (whole_tiles m zf d (oOf m d)).symm
theorem dn0_eq (d : Dev nD) : (bigSep Finset.univ fun c : Fin ((K (F := F)).nCore 0) => (P m zf).dn 0 d c)
    = iprop(zPts d (zf d) fullShare ∗ imPts (F := F) d (imOf m d) fullShare ∗ acPts (F := F) d (acOf m d) fullShare ∗ atPts (F := F) d (atOf m d) fullShare
        ∗ oLoc d ↦{fullShare} (outOf m zf d : Buf (Elt F) (oLoc d))) :=
  (whole_tiles m zf d (outOf m zf d)).symm

end Payload

end Cert.Proof.KI

end
-- ==== Proof.Vals.lean ====
/-
  What the TensorCore's buffers hold after each of the three steps of @main, and the two regions' segments between
  them.
-/
module

public import proofs.«01_k».proof.Proof.Region0
public import proofs.«01_k».proof.Proof.Launch1

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

/-- At launch. -/
def V0 : Vals F := fun c b => m ((SparseCore.T c : Thread nD τ).loc b)
/-- After the first region: its two results written. -/
def V1 : Vals F := fun c =>
  Function.update (Function.update (V0 m c) main_v0_0 ((dat0 (V0 m) c).arrAt 7 cfg0.N)) main_v0_1 ((dat0 (V0 m) c).arrAt 8 cfg0.N)
/-- The rows the first region leaves for the gather. -/
def zOf (c : Dev nD) : S16384x128.Idx → Elt F .f32 := (dat0 (V0 m) c).arrAt 7 cfg0.N
/-- After the SparseCore call: the gathered rows written. -/
def V2 : Vals F := fun c => Function.update (V1 m c) main_v1 (outOf m (zOf m) c)
/-- After the second region: its two results written. -/
def V3 : Vals F := fun c =>
  Function.update (Function.update (V2 m c) main_v2_0 ((dat2 (V2 m) c).arrAt 1 cfg2.N)) main_v2_1 ((dat2 (V2 m) c).arrAt 2 cfg2.N)

theorem V1_z (c : Dev nD) : V1 m c main_v0_0 = zOf m c := by
  unfold V1; rw [Function.update_of_ne (by decide), Function.update_self]; rfl
theorem V1_aux (c : Dev nD) : V1 m c main_v0_1 = (dat0 (V0 m) c).arrAt 8 cfg0.N := by
  unfold V1; rw [Function.update_self]
theorem V1_ne (c : Dev nD) (b : Ref sig .tc) (h0 : b ≠ main_v0_0) (h1 : b ≠ main_v0_1) : V1 m c b = V0 m c b := by
  unfold V1; rw [Function.update_of_ne h1, Function.update_of_ne h0]
theorem V2_out (c : Dev nD) : V2 m c main_v1 = outOf m (zOf m) c := by
  unfold V2; rw [Function.update_self]
theorem V2_ne (c : Dev nD) (b : Ref sig .tc) (h : b ≠ main_v1) : V2 m c b = V1 m c b := by
  unfold V2; rw [Function.update_of_ne h]
theorem V3_lp (c : Dev nD) : V3 m c main_v2_0 = (dat2 (V2 m) c).arrAt 1 cfg2.N := by
  unfold V3; rw [Function.update_of_ne (by decide), Function.update_self]
theorem V3_en (c : Dev nD) : V3 m c main_v2_1 = (dat2 (V2 m) c).arrAt 2 cfg2.N := by
  unfold V3; rw [Function.update_self]
theorem V3_ne (c : Dev nD) (b : Ref sig .tc) (h0 : b ≠ main_v2_0) (h1 : b ≠ main_v2_1) : V3 m c b = V2 m c b := by
  unfold V3; rw [Function.update_of_ne h1, Function.update_of_ne h0]
/-- A buffer no step writes holds at the end what it held at launch. -/
theorem V3_launch (c : Dev nD) (b : Ref sig .tc) (h : b ∉ [main_v0_0, main_v0_1, main_v1, main_v2_0, main_v2_1]) : V3 m c b = V0 m c b := by
  simp only [List.mem_cons, List.not_mem_nil, or_false, not_or] at h
  obtain ⟨h0, h1, h2, h3, h4⟩ := h
  rw [V3_ne m c b h3 h4, V2_ne m c b h2, V1_ne m c b h0 h1]

/-- The proof data of both regions. -/
def pdats : PD F := fun p c => match p with
  | ⟨0, _⟩ => dat0 (V0 m) c
  | ⟨1, _⟩ => dat2 (V2 m) c

theorem out0 : ∀ w : Fin 9, (spec0 w).isOut = true → w = 7 ∨ w = 8 := by decide
theorem in0 : ∀ w : Fin 9, (spec0 w).isOut = false → Pipeline.arrRef spec0 w ≠ main_v0_0 ∧ Pipeline.arrRef spec0 w ≠ main_v0_1 := by decide
theorem out2 : ∀ w : Fin 3, (spec2 w).isOut = true → w = 1 ∨ w = 2 := by decide
theorem in2 : ∀ w : Fin 3, (spec2 w).isOut = false → Pipeline.arrRef spec2 w ≠ main_v2_0 ∧ Pipeline.arrRef spec2 w ≠ main_v2_1 := by decide

theorem arrs0 (c : Dev nD) (w : Fin 9) : (dat0 (V0 m) c).arrAt w cfg0.N = V1 m c (Pipeline.arrRef spec0 w) := by
  by_cases h : (spec0 w).isOut = true
  · rcases out0 w h with rfl | rfl
    · exact (V1_z m c).symm
    · exact (V1_aux m c).symm
  · rw [Bool.not_eq_true] at h
    rw [V1_ne m c _ (in0 w h).1 (in0 w h).2]
    exact (dat0 (V0 m) c).arrAt_in w h _
theorem arrs2 (c : Dev nD) (w : Fin 3) : (dat2 (V2 m) c).arrAt w cfg2.N = V3 m c (Pipeline.arrRef spec2 w) := by
  by_cases h : (spec2 w).isOut = true
  · rcases out2 w h with rfl | rfl
    · exact (V3_lp m c).symm
    · exact (V3_en m c).symm
  · rw [Bool.not_eq_true] at h
    rw [V3_ne m c _ (in2 w h).1 (in2 w h).2]
    exact (dat2 (V2 m) c).arrAt_in w h _

theorem enter0 (c : Dev nD) : (Pipeline.scopedRest (Pipeline.pin (pcfgs (F := F)) adm 0).spec c : sProp 𝕄) ⊢ (pdats m 0 c).Φ 0 := by
  have e : (pdats m 0 c).Φ = fun t => inv0 (V0 m) c t.val := rfl
  rw [e]
  beta_reduce
  rw [Fin.val_zero]
  exact inv0_of_scoped (V0 m) c
theorem leave0 (V : Vals F) (c : Dev nD) : (dat0 V c).Φ (Fin.last cfg0.N) ⊢ (Pipeline.scopedRest (Ix := HIx 1) (Name := ℕ) (U := UU) (Lvl := ℕ) (Val := Elt F) spec0 c) :=
  scoped_of_inv0 V c (Fin.last cfg0.N).val
theorem scoped2 (c : Dev nD) : (Pipeline.scopedRest (Pipeline.pin (pcfgs (F := F)) adm 1).spec c : sProp 𝕄) = Pipeline.scopedRest spec2 c := by
  have e : (Pipeline.pin (pcfgs (F := F)) adm 1).spec = spec2 := rfl
  congr 1
theorem inv2 (c : Dev nD) : (pdats m 1 c).Φ = fun _ => (Pipeline.scopedRest spec2 c : sProp 𝕄) := rfl
theorem enter2 (c : Dev nD) : (Pipeline.scopedRest (Pipeline.pin (pcfgs (F := F)) adm 1).spec c : sProp 𝕄) ⊢ (pdats m 1 c).Φ 0 := by
  rw [inv2, scoped2]

/-- The first region, from the launch contents. -/
def R0 := reg (F := F) 0 launch0 (pdats m) 0 (V0 m) (V1 m) (fun _ _ => rfl) (fun _ _ => rfl) (fun _ _ => rfl) (fun _ _ => rfl)
  (fun c => body0 (V0 m) c) (fun c => enter0 m c) (fun c => leave0 (V0 m) c) (fun c w => arrs0 m c w)
  (fun c b hb => V1_ne m c b
    (fun h => hb (by subst h; exact Finset.mem_image.mpr ⟨(7 : Fin 9), Finset.mem_univ _, rfl⟩))
    (fun h => hb (by subst h; exact Finset.mem_image.mpr ⟨(8 : Fin 9), Finset.mem_univ _, rfl⟩)))
/-- The second region, from the contents the SparseCore call leaves. -/
def R2 := reg (F := F) 1 launch2 (pdats m) 1 (V2 m) (V3 m) (fun _ _ => rfl) (fun _ _ => rfl) (fun _ _ => rfl) (fun _ _ => rfl)
  (fun c => body2 (V2 m) c) (fun c => enter2 m c) (fun c => by rw [inv2, scoped2]) (fun c w => arrs2 m c w)
  (fun c b hb => V3_ne m c b
    (fun h => hb (by subst h; exact Finset.mem_image.mpr ⟨(1 : Fin 3), Finset.mem_univ _, rfl⟩))
    (fun h => hb (by subst h; exact Finset.mem_image.mpr ⟨(2 : Fin 3), Finset.mem_univ _, rfl⟩)))

end Cert.Proof.KI

end
-- ==== Proof.Run.lean ====
/-
  The whole program's run: @main on the TensorCore — region, SparseCore call, region — and the launch.
-/
module

public import proofs.«01_k».proof.Proof.Vals

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the certificate's ghost state -/

/-- The pipelines' ghost state on one device. -/
def G (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

theorem G_of_parts :
    iprop((bigSep Finset.univ fun d : Dev nD => bigSep Finset.univ fun p : Fin 2 => Pipeline.cellsGhost cfgs (EP (F := F)) p d)
        ∗ (bigSep Finset.univ fun d : Dev nD => bigSep Finset.univ fun p : Fin 2 => Pipeline.toksInit cfgs (EP (F := F)) p d))
      ⊢ (bigSep Finset.univ fun d : Dev nD => G (F := F) d : sProp 𝕄) := by
  rw [← bigSep_sep']
  refine bigSep_mono fun d _ => ?_
  have two (Φ : Fin 2 → sProp 𝕄) : bigSep Finset.univ Φ = iprop(Φ 0 ∗ Φ 1) :=
    bigSep_univ_eq_bigSepL [(0 : Fin 2), (1 : Fin 2)] (by decide) (by decide) Φ
  rw [two, two]
  show iprop((Pipeline.cellsGhost cfgs (EP (F := F)) 0 d ∗ Pipeline.cellsGhost cfgs (EP (F := F)) 1 d) ∗ Pipeline.toksInit cfgs (EP (F := F)) 0 d ∗ Pipeline.toksInit cfgs (EP (F := F)) 1 d) ⊢ G (F := F) d
  unfold G
  iintro ⟨⟨Hg0, Hg1⟩, Ht0, Ht1⟩
  isplitl [Hg0 Ht0]
  · isplitl [Hg0]; · iexact Hg0
    iexact Ht0
  isplitl [Hg1]; · iexact Hg1
  iexact Ht1

theorem bigSep_nothing {I : Type} (s : Finset I) : (bigSep s fun _ => iprop(emp)) = (iprop(emp) : sProp 𝕄) := bigSep_emp_const s

def u₀ : UU := (initOf (K (F := F)).hsCells (K (F := F)).hsToks, (initOf (Pipeline.cells cfgs cellOf_inj) (Pipeline.launchToks cfgs cellOf_inj), 1))

theorem hu₀ (zf : Dev nD → S16384x128.Idx → Elt F .f32) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m zf).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HP⟩
  have hp : (BI.own (embR ((initOf (Pipeline.cells cfgs cellOf_inj) (Pipeline.launchToks cfgs cellOf_inj), 1) : UP × Counters)) : sProp 𝕄)
      = BI.own (EP (F := F) (initOf (Pipeline.cells cfgs cellOf_inj) (Pipeline.launchToks cfgs cellOf_inj))) := rfl
  ihave HP := (Entails.of_eq hp) $$ HP
  imod (Pipeline.fund_ghost cfgs (EP (F := F)) cellOf_inj) $$ HP with ⟨Hg, Ht⟩
  imodintro
  isplitl [HH]; · iexact HH
  isplitl [Hg Ht]
  · iapply (G_of_parts (F := F))
    isplitl [Hg] <;> iassumption
  rw [show (bigSep Finset.univ fun thr : Thread nD τ => bigSep Finset.univ fun q : Fin 1 => (P (F := F) m zf).x q thr) = bigSep Finset.univ fun _ => iprop(emp) from
    bigSep_congr fun _ _ => bigSep_univ_of_subsingleton (0 : Fin 1), bigSep_nothing]
  iempintro

/-! ## @main on the TensorCore -/

/-- The five arrays the SparseCore call uses. -/
def scRefs : List (Ref sig .tc) := [main_v0_0, main_arg12, main_arg13, main_arg14, main_v1]
/-- The unscoped buffers the SparseCore call does not use. -/
def others (d : Dev nD) (W : (b : Ref sig .tc) → Buf (Elt F) ((SparseCore.T d : Thread nD τ).loc b)) : sProp 𝕄 :=
  bigSep ((Finset.univ.filter fun b : Ref sig .tc => ¬ b.isScoped) \ scRefs.toFinset) fun b => ((SparseCore.T d : Thread nD τ).loc b) ↦{fullShare} W b

theorem unscoped_split (d : Dev nD) (W : (b : Ref sig .tc) → Buf (Elt F) ((SparseCore.T d : Thread nD τ).loc b)) :
    (unscopedBufs d W : sProp 𝕄) = iprop((zLoc d ↦{fullShare} W main_v0_0) ∗ (imLoc d ↦{fullShare} W main_arg12) ∗ (acLoc d ↦{fullShare} W main_arg13)
      ∗ (atLoc d ↦{fullShare} W main_arg14) ∗ (oLoc d ↦{fullShare} W main_v1) ∗ others d W) := by
  unfold unscopedBufs
  exact bigSep_takeOut _ scRefs _ (by decide) (by decide)

theorem others_V2 (d : Dev nD) : (others d (V2 m d) : sProp 𝕄) = others d (V1 m d) := by
  unfold others
  refine bigSep_congr fun b hb => ?_
  rw [V2_ne m d b (fun h => by subst h; revert hb; decide)]

/-- Between the steps the TensorCore's debts are taken out of what it holds, for a region, and put back. -/
theorem tcSt_borrow (d : Dev nD) (n : ℕ) :
    ((K (F := F)).tcSt EH d n : sProp 𝕄) ⊢ iprop(owesTc (F := F) d n ∗ (owesTc (F := F) d n -∗ (K (F := F)).tcSt EH d n)) := by
  unfold SparseCore.Cfg.tcSt owesTc
  iintro ⟨⟨%W, %hW, HO⟩, H⟩
  isplitl [HO]
  · iexists W; isplitr; · ipureintro; exact hW
    iexact HO
  iintro ⟨%W', %hW', HO⟩
  isplitl [HO]
  · iexists W'; isplitr; · ipureintro; exact hW'
    iexact HO
  iexact H

variable [∀ e, Nonempty (Elt F e)]

/-- A REGION run from @main: its pipeline's ghost state, the boundary and its entry state in, the boundary and its exit
    state out. -/
theorem wp_region {p : Fin 2} {pds : PD F} (R : Pipeline.RegionSeg (pcfgs (F := F)) adm pds none defs₀ 𝒱₀ (K (F := F)).L (K (F := F)).lev p)
    (zf : Dev nD → S16384x128.Idx → Elt F .f32) (κ : GSem nD τ sig → ℕ) (d : Dev nD) (Φ : PUnit → sProp 𝕄) :
    iprop((K (F := F)).ctx EH (P m zf) κ ∗ boundary (SparseCore.T d : Thread nD τ) ∗ R.pre d
        ∗ (Pipeline.cellsGhost (Pipeline.pin (pcfgs (F := F)) adm) EP p d ∗ Pipeline.toksInit (Pipeline.pin (pcfgs (F := F)) adm) EP p d)
        ∗ (iprop(boundary (SparseCore.T d : Thread nD τ) ∗ R.post d) -∗ Φ ⟨⟩))
      ⊢ wp frame (wpE ((K (F := F)).defs (D (F := F))) 𝒱 (SparseCore.T d) none) Set.univ
          (Prog.lift (.customCall (SparseCore.inner (Pipeline.entry p)) ())) Φ := by
  refine BIBase.Entails.trans ?_ ((K (F := F)).wp_liftProg (D (F := F)) 𝒱 (SparseCore.T d) Set.univ none (.op (.customCall (Pipeline.entry p) ()) .ret) Φ)
  refine BIBase.Entails.trans ?_ (Pipeline.RegionSeg.wp (pcfgs (F := F)) adm pds none cellOf_inj EP defs₀ 𝒱₀ (K (F := F)).L (K (F := F)).lev R d none (fun _ h => nomatch h) .ret Φ)
  iintro ⟨#Hctx, Hb, Hpre, ⟨Hg, Ht⟩, Hk⟩
  ihave Hlev := (SparseCore.Cfg.ctx_levAts κ) $$ Hctx
  isplitl [Hk]
  · iintro H
    rw [wp_ret]
    imodintro
    iapply Hk
    iexact H
  isplitl [Hb]; · iexact Hb
  isplitl [Hpre]; · iexact Hpre
  isplitl [Hlev]; · iexact Hlev
  isplitl [Hg]; · iexact Hg
  iexact Ht

/-- At the end: the TensorCore's arrays as the second region leaves them. -/
abbrev FIN (d : Dev nD) : sProp 𝕄 := unscopedBufs d (V3 m d)

/-- @main on device `d`'s TensorCore: the first region, the SparseCore call on the rows it leaves, the second region on
    the gathered rows. -/
theorem hmain (κ : GSem nD τ sig → ℕ) (d : Dev nD) :
    iprop((K (F := F)).ctx EH (P m (zOf m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  simp only [main, wp_bind, wp_pure]
  iintro ⟨#Hctx, Hst, ⟨Hb, Hu, Hts, -⟩, Hg0, Hg1⟩
  ihave H := (tcSt_borrow d 0) $$ Hst
  icases H with ⟨HO, Hback⟩
  iapply (wp_region m (R0 m) (zOf m) κ d)
  isplitr; · iexact Hctx
  isplitl [Hb]; · iexact Hb
  isplitl [Hu HO]
  · rw [show (R0 m).pre d = iprop(unscopedBufs d (V0 m d) ∗ owesTc (F := F) d 0) from rfl]
    isplitl [Hu]; · iexact Hu
    iexact HO
  isplitl [Hg0]; · iexact Hg0
  rw [show (R0 m).post d = iprop(unscopedBufs d (V1 m d) ∗ owesTc (F := F) d 0) from rfl]
  iintro ⟨Hb, Hu, HO⟩
  ihave Hst := Hback $$ HO
  ihave H := (Entails.of_eq (unscoped_split d (V1 m d))) $$ Hu
  icases H with ⟨Hz, Him, Hac, Hat, Ho, Hrest⟩
  rw [V1_z, V1_ne m d main_arg12 (by decide) (by decide), V1_ne m d main_arg13 (by decide) (by decide),
    V1_ne m d main_arg14 (by decide) (by decide), V1_ne m d main_v1 (by decide) (by decide)]
  iapply ((K (F := F)).wp_run (D (F := F)) 𝒱 (EH := EH) (P := P m (zOf m)) κ d 0)
  isplitr; · iexact Hctx
  isplitl [Hst]; · iexact Hst
  isplitl [Hz Him Hac Hat Ho]
  · rw [st0_eq]
    isplitl [Hz]; · iexact Hz
    isplitl [Him]; · iexact Him
    isplitl [Hac]; · iexact Hac
    isplitl [Hat]; · iexact Hat
    iexact Ho
  iintro ⟨Hst, Hdn⟩
  ihave Hdn' := (Entails.of_eq (dn0_eq m (zOf m) d)) $$ Hdn
  icases Hdn' with ⟨Hz, Him, Hac, Hat, Ho⟩
  ihave Hst := (Entails.of_eq (show ((K (F := F)).tcSt EH d ((0 : Fin 1).val + 1) : sProp 𝕄) = (K (F := F)).tcSt EH d 1 from rfl)) $$ Hst
  ihave H := (tcSt_borrow d 1) $$ Hst
  icases H with ⟨HO, Hback⟩
  iapply (wp_region m (R2 m) (zOf m) κ d)
  isplitr; · iexact Hctx
  isplitl [Hb]; · iexact Hb
  isplitr [Hback Hts Hg1]
  · rw [show (R2 m).pre d = iprop(unscopedBufs d (V2 m d) ∗ owesTc (F := F) d 1) from rfl]
    isplitr [HO]
    · iapply (Entails.of_eq (unscoped_split d (V2 m d)).symm)
      rw [others_V2, V2_out, V2_ne m d main_v0_0 (by decide), V2_ne m d main_arg12 (by decide), V2_ne m d main_arg13 (by decide), V2_ne m d main_arg14 (by decide),
        V1_z, V1_ne m d main_arg12 (by decide) (by decide), V1_ne m d main_arg13 (by decide) (by decide), V1_ne m d main_arg14 (by decide) (by decide)]
      isplitl [Hz]; · iexact Hz
      isplitl [Him]; · iexact Him
      isplitl [Hac]; · iexact Hac
      isplitl [Hat]; · iexact Hat
      isplitl [Ho]; · iexact Ho
      iexact Hrest
    iexact HO
  isplitl [Hg1]; · iexact Hg1
  rw [show (R2 m).post d = iprop(unscopedBufs d (V3 m d) ∗ owesTc (F := F) d 1) from rfl]
  iintro ⟨Hb, Hu, HO⟩
  ihave Hst := Hback $$ HO
  imodintro
  isplitl [Hst]; · iexact Hst
  isplitl [Hu]; · iexact Hu
  isplitl [Hb] <;> iassumption

/-! ## What the memory holds at the end -/

/-- Buffers held at some contents are what the memory holds. -/
theorem mem_of_bufs (d : Dev nD) (W : (b : Ref sig .tc) → Buf (Elt F) ((SparseCore.T d : Thread nD τ).loc b)) (s' : Phys nD τ sig (Elt F)) (S : Finset (Ref sig .tc)) :
    iprop((bigSep S fun b => ((SparseCore.T d : Thread nD τ).loc b) ↦{fullShare} W b) ∗ SI s')
      ⊢ (⌜∀ b ∈ S, s'.mem.mem ((SparseCore.T d : Thread nD τ).loc b) = W b⌝ : sProp 𝕄) := by
  induction S using Finset.induction_on with
  | empty => exact (BIClass.pure_intro (fun b hb => absurd hb (Finset.notMem_empty b)))
  | insert a S ha ih =>
    rw [SparseCore.bigSep_insert' ha]
    iintro ⟨⟨Ha, HS⟩, HSI⟩
    ihave H := (persistent_entails_right (SI_pointsTo_agree (st := s') (ℓ := (SparseCore.T d : Thread nD τ).loc a) (I := Finset.univ) (q := fullShare) (f := W a))) $$ [HSI Ha]
    · isplitl [HSI] <;> iassumption
    icases H with ⟨%h1, HSI, -⟩
    ihave H := ih $$ [HSI HS]
    · isplitl [HS] <;> iassumption
    icases H with %h2
    ipureintro
    intro b hb
    rcases Finset.mem_insert.mp hb with rfl | hb
    · exact funext fun i => h1 i (Finset.mem_univ i)
    · exact h2 b hb

def fq (d : Dev nD) (s' : Phys nD τ sig (Elt F)) : Prop :=
  ∀ b ∈ (Finset.univ.filter fun b : Ref sig .tc => ¬ b.isScoped), s'.mem.mem ((SparseCore.T d : Thread nD τ).loc b) = V3 m d b
theorem hfin (d : Dev nD) (s' : Phys nD τ sig (Elt F)) : iprop(FIN m d ∗ SI s') ⊢ (⌜fq m d s'⌝ : sProp 𝕄) :=
  mem_of_bufs d (V3 m d) s' _

/-- What every run ends with: the TensorCore's arrays at `V3`, every semaphore at zero. -/
def QC : PUnit × MemSt nD τ sig (Elt F) → Prop := fun r =>
  (∀ (c : Dev nD) (b : Ref sig .tc), b.isScoped = false → r.2.mem ((SparseCore.T c : Thread nD τ).loc b) = V3 m c b) ∧ r.2.sem = fun _ => 0

/-- THE PROGRAM'S RUN: from any memory whose index arrays name rows and lanes, every run ends with the arrays at `V3`. -/
theorem run_main (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (zOf m)) (A := ∅) facts v₀
    (fun q hq => match q with | 0 => nomatch hq)
    (fun q _ => match q with | 0 => tileObl m (zOf m) hpre)
    (fun q _ => match q with | 0 => SparseCore.Cfg.VecSplit.of_plain (vecSplit m (zOf m)))
    m ρ main G (FIN m) (u₀ (F := F)) (sep_elim_left.trans (hu₀ m (zOf m))) (hmain m ρ) (fq m) (hfin m) (QC m)
    (fun _ h hz => ⟨fun c b hb => h c b (Finset.mem_filter.mpr ⟨Finset.mem_univ _, by rw [hb]; exact Bool.false_ne_true⟩), hz⟩)

end Cert.Proof.KI

end
-- ==== Proof.Pre.lean ====
/-
  What the index precondition says of the arguments: the index arrays are in range.
-/
module

public import proofs.«01_k».proof.Defs
public import proofs.«01_k».proof.Proof.Gen.Pre_indices_ok
public import Idealize.ShloMosaic.Lib.ReduceAll
public import Idealize.ShloMosaic.Lib.IdealHost

@[expose] public section

noncomputable section

namespace Cert.Proof.Pre

open Idealize.ShloMosaic

instance (priority := high) scalarIdx : Subsingleton (⟨0, ![]⟩ : Shape).Idx := ⟨fun _ _ => funext fun a => a.elim0⟩

/-- A word that passes the two signed comparisons `0 ≤ v` and `v < n` reads below `n`. -/
theorem lt_of_cmp (v n : BitVec 32) (hn : n.toNat < 2 ^ 31)
    (e : IntOp.andi (IntOp.cmpi .sge v 0#32) (IntOp.cmpi .slt v n) = 1#1) : v.toNat < n.toNat := by
  obtain ⟨e1, e2⟩ := IntOp.andi_eq_one.1 e
  have one (b : Bool) (h : BitVec.ofBool b = 1#1) : b = true := by revert h; cases b <;> decide
  have f1 : (0#32 : BitVec 32).sle v = true := one _ e1
  have f2 : v.slt n = true := one _ e2
  simp only [BitVec.sle_eq_decide, BitVec.slt_eq_decide, decide_eq_true_eq, BitVec.toInt_eq_toNat_cond, BitVec.toNat_ofNat,
    Nat.reducePow, Nat.zero_mod] at f1 f2
  omega

/-- An array whose every element passes the two comparisons is in range at every index. -/
theorem range_of_all {s : Shape} (v : IVec s 32) (n : BitVec 32) (hn : n.toNat < 2 ^ 31)
    (hb : (⟨0, ![]⟩ : Shape).BroadcastsInDim s ![]) {axes : List (Fin s.rank)} (hr : s.ReducesTo axes ⟨0, ![]⟩)
    (hu : 0 < (⟨0, ![]⟩ : Shape).numel) (j : (⟨0, ![]⟩ : Shape).Idx)
    (e : Host.reduce IntOp.andi (andi (cmpi .sge v (broadcastInDim s ![] hb (constantI ⟨0, ![]⟩ 32 0#32)))
      (cmpi .slt v (broadcastInDim s ![] hb (constantI ⟨0, ![]⟩ 32 n)))) (constantI ⟨0, ![]⟩ 1 1#1) hr hu j = 1#1) (i : s.Idx) :
    (v i).toNat < n.toNat :=
  lt_of_cmp (v i) n hn (Host.reduce_andi_all _ _ hr hu j e i)

section Indices

variable {F : FTy → Type} [FloatOps F]

open Cert.Pre_indices_ok in
/-- `indices_ok` puts the three index arrays in range. -/
theorem indices (a0 : FVec F S16384x256 .f32) (a1 : FVec F S256x512 .f32) (a2 : FVec F S512 .f32) (a3 : FVec F S512x2048 .f32)
    (a4 : FVec F S2048 .f32) (a5 : FVec F S2048x512 .f32) (a6 : FVec F S512 .f32) (a7 : FVec F S512x64 .f32) (a8 : FVec F S64 .f32)
    (a9 : FVec F S512x1 .f32) (a10 : FVec F S1 .f32) (a11 : IVec S16384 32) (a12 : IVec S16384 32) (a13 a14 : IVec S8192 32)
    (h : Cert.Pre_indices_ok.fn (F := F) a0 a1 a2 a3 a4 a5 a6 a7 a8 a9 a10 a11 a12 a13 a14 = fun _ => 1#1) :
    (∀ j, (a12 j).toNat < 16384) ∧ (∀ j, (a13 j).toNat < 16384) ∧ ∀ j, (a14 j).toNat < 64 := by
  have h0 := congrFun h ValueIdx.ix0
  obtain ⟨h1, c3⟩ := IntOp.andi_eq_one.1 h0
  obtain ⟨c1, c2⟩ := IntOp.andi_eq_one.1 h1
  exact ⟨range_of_all a12 16384#32 (by decide) _ _ _ _ c1, range_of_all a13 16384#32 (by decide) _ _ _ _ c2,
    range_of_all a14 64#32 (by decide) _ _ _ _ c3⟩

end Indices

end Cert.Proof.Pre

end
-- ==== Proof.Same.lean ====
/-
  The kernel's program and its idealization have one text: their body tables are equal, entry by entry.
-/
module

public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

/-- The gather's body is one text in both programs. -/
theorem gather_eq (i : Cert.KernelIdeal.grid1.Coords) a1 h1 a2 h2 a3 h3 a4 h4 a5 h5 a6 h6 a7 h7 a8 h8 a9 h9 a10 h10 a11 h11 a12 h12 s1 s2 s3 s4 s5 s6 s7 :
    Cert.Kernel.cc1__sc_gather (F := F) i a1 h1 a2 h2 a3 h3 a4 h4 a5 h5 a6 h6 a7 h7 a8 h8 a9 h9 a10 h10 a11 h11 a12 h12 s1 s2 s3 s4 s5 s6 s7
      = Cert.KernelIdeal.cc1__sc_gather (F := F) i a1 h1 a2 h2 a3 h3 a4 h4 a5 h5 a6 h6 a7 h7 a8 h8 a9 h9 a10 h10 a11 h11 a12 h12 s1 s2 s3 s4 s5 s6 s7 := rfl

section

open Cert.Kernel Cert.Kernel.Gen

/-- A tile's program in `Kernel`, by its SparseCore and subcore. -/
def tileK (c : Fin (grid1.bound 0)) (s : Fin (grid1.bound 1)) : Prog (TpuEff nD τ sig (Elt F) Λ₀ (.scVector (c.castLE hcore1) (s.castLE hsub1))) PUnit :=
  (fun c s => cc1__sc_gather (fun | 0 => c | 1 => s | ⟨_ + 2, h⟩ => absurd h (Nat.not_lt.2 (Nat.le_add_left _ _))) (Memref.whole main_v0_0_scv) (Memref.isWhole_whole _) (Memref.whole main_arg12_scv) (Memref.isWhole_whole _) (Memref.whole main_arg13_scv) (Memref.isWhole_whole _) (Memref.whole main_arg14_scv) (Memref.isWhole_whole _) (Memref.whole main_v1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scratch11 cc1_scratch12 cc1_scratch13) c s

theorem body_tileK (c : Fin τ.nSC) (s : Fin τ.nSub) :
    (defs₀ (F := F)) (.scVector c s) (1 : Fin 3) PUnit.unit = SparseCore.onTile hcore1 hsub1 (tileK (F := F)) PUnit.unit c s := rfl

end

section

open Cert.KernelIdeal Cert.KernelIdeal.Gen

/-- A tile's program in `KernelIdeal`, by its SparseCore and subcore. -/
def tileI (c : Fin (grid1.bound 0)) (s : Fin (grid1.bound 1)) : Prog (TpuEff nD τ sig (Elt F) Λ₀ (.scVector (c.castLE hcore1) (s.castLE hsub1))) PUnit :=
  (fun c s => cc1__sc_gather (fun | 0 => c | 1 => s | ⟨_ + 2, h⟩ => absurd h (Nat.not_lt.2 (Nat.le_add_left _ _))) (Memref.whole main_v0_0_scv) (Memref.isWhole_whole _) (Memref.whole main_arg12_scv) (Memref.isWhole_whole _) (Memref.whole main_arg13_scv) (Memref.isWhole_whole _) (Memref.whole main_arg14_scv) (Memref.isWhole_whole _) (Memref.whole main_v1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scratch11 cc1_scratch12 cc1_scratch13) c s

theorem body_tileI (c : Fin τ.nSC) (s : Fin τ.nSub) :
    (defs₀ (F := F)) (.scVector c s) (1 : Fin 3) PUnit.unit = SparseCore.onTile hcore1 hsub1 (tileI (F := F)) PUnit.unit c s := rfl

end

theorem tile_eq (c s) : tileK (F := F) c s = tileI (F := F) c s := gather_eq _ _ _ _ _ _ _ _ _ _ _ _ _ _ _ _ _ _ _ _ _ _ _ _ _ _ _ _ _ _ _ _

theorem onTile_eq (c : Fin Cert.KernelIdeal.τ.nSC) (s : Fin Cert.KernelIdeal.τ.nSub) :
    SparseCore.onTile Cert.Kernel.Gen.hcore1 Cert.Kernel.Gen.hsub1 (tileK (F := F)) PUnit.unit c s
      = SparseCore.onTile Cert.KernelIdeal.Gen.hcore1 Cert.KernelIdeal.Gen.hsub1 (tileI (F := F)) PUnit.unit c s :=
  congrArg (fun f => SparseCore.onTile Cert.KernelIdeal.Gen.hcore1 Cert.KernelIdeal.Gen.hsub1 f PUnit.unit c s)
    (funext fun c => funext fun s => tile_eq (F := F) c s)

theorem tc_eq (l : Fin 3) (a) : (Cert.Kernel.defs₀ (F := F)) .tc l a = (Cert.KernelIdeal.defs₀ (F := F)) .tc l a := by
  match l, a with
  | 0, (t, s) => rfl
  | 1, _ => rfl
  | 2, (t, s) => rfl

theorem scalar_eq (c : Fin Cert.KernelIdeal.τ.nSC) (l : Fin 3) (a) :
    (Cert.Kernel.defs₀ (F := F)) (.scScalar c) l a = (Cert.KernelIdeal.defs₀ (F := F)) (.scScalar c) l a := by
  match l, a with
  | 0, _ => rfl
  | 1, _ => rfl
  | 2, _ => rfl

theorem vector_eq (c : Fin Cert.KernelIdeal.τ.nSC) (s : Fin Cert.KernelIdeal.τ.nSub) (l : Fin 3) (a) :
    (Cert.Kernel.defs₀ (F := F)) (.scVector c s) l a = (Cert.KernelIdeal.defs₀ (F := F)) (.scVector c s) l a := by
  match l, a with
  | 0, _ => rfl
  | 1, _ => exact (body_tileK c s).trans ((onTile_eq c s).trans (body_tileI c s).symm)
  | 2, _ => rfl

theorem bodies_eq : Cert.Kernel.defs₀ (F := F) = Cert.KernelIdeal.defs₀ (F := F) := by
  funext p l a
  cases p
  · exact tc_eq l a
  · exact scalar_eq _ l a
  · exact vector_eq _ _ l a

/-- The two programs' body tables are equal. -/
theorem defs_eq : Cert.Kernel.defs (F := F) = Cert.KernelIdeal.defs (F := F) :=
  congrArg (fun D => Cert.KernelIdeal.sc.defs (Pipeline.defs (Cert.KernelIdeal.pcfgs (F := F)) D)) bodies_eq

end Cert.Proof.Same

end
-- ==== Proof.Frames.lean ====
/-
  The frame claims: the kernel's run read at the arguments, at both float instances, and the reference's.
-/
module

public import proofs.«01_k».proof.Proof.Run
public import proofs.«01_k».proof.Proof.Pre
public import proofs.«01_k».proof.Proof.Same
public import proofs.«01_k».proof.Proof.Gen.ReferenceIdeal.Run
public import Idealize.ShloMosaic.Lib.Quiescent

@[expose] public section

noncomputable section

namespace Cert.Proof.KI

open Cert.KernelIdeal Cert.KernelIdeal.Gen

open Idealize.ShloMosaic Idealize.SL.Sem

variable {F : FTy → Type} [FloatOps F]

/-- An argument array ends as it began. -/
theorem arg_kept (m : (ℓ : Loc nD τ sig) → Buf (Elt F) ℓ) {r : PUnit × MemSt nD τ sig (Elt F)} (h : QC m r) (c : Dev nD) (b : Ref sig .tc)
    (hs : b.isScoped = false) (hb : b ∉ ([main_v0_0, main_v0_1, main_v1, main_v2_0, main_v2_1] : List (Ref sig .tc))) :
    r.2.mem ((c.tc : Thread nD τ).loc b) = m ((c.tc : Thread nD τ).loc b) :=
  (h.1 c b hs).trans (V3_launch m c b hb)

/-- Every argument array of the kernel ends as it began, and every counter at zero. -/
theorem args_kept (m : (ℓ : Loc nD τ sig) → Buf (Elt F) ℓ) {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) := by
  refine ⟨?_, ?_, ?_, ?_, ?_, ?_, ?_, ?_, ?_, ?_, ?_, ?_, ?_, ?_, ?_⟩ <;> exact arg_kept m h c _ rfl (by decide)

instance (priority := low) bitsNonempty (e : EltTy) : Nonempty (Elt Bits e) := by cases e <;> exact ⟨(0#_ : BitVec _)⟩

instance (priority := low) idealNonempty (e : EltTy) : Nonempty (Elt Ideal e) := by
  cases e <;> first | exact ⟨(0 : EReal)⟩ | exact ⟨(0#_ : BitVec _)⟩

theorem pre_indices (m : (ℓ : Loc nD τ sig) → Buf (Elt Ideal) ℓ) (h : Cert.Pre_KernelIdeal m) : PreOK m :=
  fun d => Pre.indices _ _ _ _ _ _ _ _ _ _ _ _ _ _ _ (h d)

/-- Every execution from index arrays in range ends, the arguments unchanged and every counter at zero. -/
theorem frame_any [∀ e, Nonempty (Elt F e)] (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run (Cert.KernelIdeal.defs (F := F)) _ _).mono (fun _ q => ⟨args_kept m q, q.2⟩) (run_main m ρ hpre)

/-- A run under one body table is a run under an equal one. -/
theorem run_of_defs {D D' : Defs nD τ sig (Elt F) (SparseCore.Sig (Pipeline.Sig Λ₀ (Fin 2) fun p => (pcfgs (F := F) p).Adm) 1)} (h : D' = D)
    {m : (ℓ : Loc nD τ sig) → Buf (Elt F) ℓ} {ρ : Dev nD → PrngReg} {Q : PUnit × MemSt nD τ sig (Elt F) → Prop}
    (hrun : θ_run D (Cert.KernelIdeal.threads (F := F)) ⟨m, fun _ => 0, ρ⟩ Q) : θ_run D' (Cert.KernelIdeal.threads (F := F)) ⟨m, fun _ => 0, ρ⟩ Q := h ▸ hrun

/-- The kernel at the machine's floats. -/
theorem frame_kernel : Cert.quiescent_Kernel := fun m ρ h =>
  run_of_defs (F := Bits) Same.defs_eq <| frame_any (F := Bits) m ρ fun d => Pre.indices _ _ _ _ _ _ _ _ _ _ _ _ _ _ _ (h d)

/-- The kernel at the ideal floats. -/
theorem frame_ideal : Cert.quiescent_KernelIdeal := fun m ρ h => frame_any m ρ (pre_indices m h)

/-- The reference, which declares no semaphore. -/
theorem frame_ref : Cert.quiescent_ReferenceIdeal := fun m ρ _ =>
  (θ_run (Cert.ReferenceIdeal.defs (F := Ideal)) _ _).mono
    (fun r h => ⟨fun c => (h c).2.2.2, sem_eq_zero_of_no_sems rfl r.2⟩) (Cert.ReferenceIdeal.Value.run m ρ)

end Cert.Proof.KI

end
-- ==== Proof.PreInputs.lean ====
/-
  What the value claim's precondition says of the arguments: the index arrays are in range, the biases are zero and the
  float operands of the logits are finite.
-/
module

public import proofs.«01_k».proof.Proof.Frames
public import proofs.«01_k».proof.Proof.Gen.Pre_inputs_ok

@[expose] public section

noncomputable section

namespace Cert.Proof.Pre

open Idealize.ShloMosaic

/-- An array equal to the zero constant at every index is zero at every index. -/
theorem zero_of_all {s : Shape} (v : FVec Ideal s .f32)
    (hb : (⟨0, ![]⟩ : Shape).BroadcastsInDim s ![]) {axes : List (Fin s.rank)} (hr : s.ReducesTo axes ⟨0, ![]⟩)
    (hu : 0 < (⟨0, ![]⟩ : Shape).numel) (j : (⟨0, ![]⟩ : Shape).Idx)
    (e : Host.reduce IntOp.andi (cmpf .oeq v (broadcastInDim s ![] hb (constant ⟨0, ![]⟩ .f32 0x00000000#32)))
      (constantI ⟨0, ![]⟩ 1 1#1) hr hu j = 1#1) (i : s.Idx) : (v i : EReal) = 0 := by
  have one (b : Bool) (h : BitVec.ofBool b = 1#1) : b = true := by revert h; cases b <;> decide
  have h := one (decide ((v i : EReal) = Ideal.ofBits .f32 0x00000000#32)) (Host.reduce_andi_all _ _ hr hu j e i)
  rw [decide_eq_true_eq] at h
  rw [h]
  simp [Ideal.ofBits, Ideal.ieee]

/-- An array whose absolute value is below infinity at every index is finite at every index. -/
theorem finite_of_all {s : Shape} (v : FVec Ideal s .f32)
    (hb : (⟨0, ![]⟩ : Shape).BroadcastsInDim s ![]) {axes : List (Fin s.rank)} (hr : s.ReducesTo axes ⟨0, ![]⟩)
    (hu : 0 < (⟨0, ![]⟩ : Shape).numel) (j : (⟨0, ![]⟩ : Shape).Idx)
    (e : Host.reduce IntOp.andi (cmpf .olt (Host.absf v) (broadcastInDim s ![] hb (constant ⟨0, ![]⟩ .f32 0x7F800000#32)))
      (constantI ⟨0, ![]⟩ 1 1#1) hr hu j = 1#1) (i : s.Idx) : ∃ r : ℝ, (v i : EReal) = (r : EReal) := by
  have one (b : Bool) (h : BitVec.ofBool b = 1#1) : b = true := by revert h; cases b <;> decide
  have h := one (decide (max (v i : EReal) (-(v i : EReal)) < Ideal.ofBits .f32 0x7F800000#32)) (Host.reduce_andi_all _ _ hr hu j e i)
  rw [decide_eq_true_eq] at h
  have htop : Ideal.ofBits .f32 0x7F800000#32 = ⊤ := by simp [Ideal.ofBits, Ideal.ieee]
  rw [htop, max_lt_iff] at h
  refine ⟨(v i : EReal).toReal, (EReal.coe_toReal h.1.ne fun hb => ?_).symm⟩
  rw [hb] at h
  exact absurd h.2 (by simp)

/-- What `inputs_ok` says: the index ranges, the zero biases, the finite operands. -/
structure Inputs {s0 s1 s3 s5 s7 t2 t4 t6 t8 t10 u v : Shape} (a0 : s0.Idx → EReal) (a1 : s1.Idx → EReal) (a2 : t2.Idx → EReal)
    (a3 : s3.Idx → EReal) (a4 : t4.Idx → EReal) (a5 : s5.Idx → EReal) (a6 : t6.Idx → EReal) (a7 : s7.Idx → EReal)
    (a8 : t8.Idx → EReal) (a10 : t10.Idx → EReal) (a12 : IVec u 32) (a13 a14 : IVec v 32) : Prop where
  im : ∀ j, (a12 j).toNat < 16384
  ac : ∀ j, (a13 j).toNat < 16384
  at' : ∀ j, (a14 j).toNat < 64
  z2 : ∀ j, a2 j = 0
  z4 : ∀ j, a4 j = 0
  z6 : ∀ j, a6 j = 0
  z8 : ∀ j, a8 j = 0
  z10 : ∀ j, a10 j = 0
  f0 : ∀ j, ∃ r : ℝ, a0 j = (r : EReal)
  f1 : ∀ j, ∃ r : ℝ, a1 j = (r : EReal)
  f3 : ∀ j, ∃ r : ℝ, a3 j = (r : EReal)
  f5 : ∀ j, ∃ r : ℝ, a5 j = (r : EReal)
  f7 : ∀ j, ∃ r : ℝ, a7 j = (r : EReal)

open Cert.Pre_inputs_ok in
/-- `inputs_ok`, read. -/
theorem inputs (a0 : FVec Ideal S16384x256 .f32) (a1 : FVec Ideal S256x512 .f32) (a2 : FVec Ideal S512 .f32) (a3 : FVec Ideal S512x2048 .f32)
    (a4 : FVec Ideal S2048 .f32) (a5 : FVec Ideal S2048x512 .f32) (a6 : FVec Ideal S512 .f32) (a7 : FVec Ideal S512x64 .f32)
    (a8 : FVec Ideal S64 .f32) (a9 : FVec Ideal S512x1 .f32) (a10 : FVec Ideal S1 .f32) (a11 : IVec S16384 32) (a12 : IVec S16384 32)
    (a13 a14 : IVec S8192 32)
    (h : Cert.Pre_inputs_ok.fn (F := Ideal) a0 a1 a2 a3 a4 a5 a6 a7 a8 a9 a10 a11 a12 a13 a14 = fun _ => 1#1) :
    Inputs a0 a1 a2 a3 a4 a5 a6 a7 a8 a10 a12 a13 a14 := by
  have h0 := congrFun h ValueIdx.ix0
  obtain ⟨h0, f7⟩ := IntOp.andi_eq_one.1 h0
  obtain ⟨h0, f5⟩ := IntOp.andi_eq_one.1 h0
  obtain ⟨h0, f3⟩ := IntOp.andi_eq_one.1 h0
  obtain ⟨h0, f1⟩ := IntOp.andi_eq_one.1 h0
  obtain ⟨h0, f0⟩ := IntOp.andi_eq_one.1 h0
  obtain ⟨h0, z10⟩ := IntOp.andi_eq_one.1 h0
  obtain ⟨h0, z8⟩ := IntOp.andi_eq_one.1 h0
  obtain ⟨h0, z6⟩ := IntOp.andi_eq_one.1 h0
  obtain ⟨h0, z4⟩ := IntOp.andi_eq_one.1 h0
  obtain ⟨h0, z2⟩ := IntOp.andi_eq_one.1 h0
  obtain ⟨h0, c3⟩ := IntOp.andi_eq_one.1 h0
  obtain ⟨c1, c2⟩ := IntOp.andi_eq_one.1 h0
  exact ⟨range_of_all a12 16384#32 (by decide) _ _ _ _ c1, range_of_all a13 16384#32 (by decide) _ _ _ _ c2,
    range_of_all a14 64#32 (by decide) _ _ _ _ c3,
    zero_of_all a2 _ _ _ _ z2, zero_of_all a4 _ _ _ _ z4, zero_of_all a6 _ _ _ _ z6, zero_of_all a8 _ _ _ _ z8, zero_of_all a10 _ _ _ _ z10,
    finite_of_all a0 _ _ _ _ f0, finite_of_all a1 _ _ _ _ f1, finite_of_all a3 _ _ _ _ f3, finite_of_all a5 _ _ _ _ f5,
    finite_of_all a7 _ _ _ _ f7⟩

end Cert.Proof.Pre

namespace Cert.Proof.KI

open Cert.KernelIdeal Cert.KernelIdeal.Gen

open Idealize.ShloMosaic Idealize.SL.Sem

/-- `inputs_ok` of the kernel's arguments on device `d`. -/
theorem pre_inputs (m : (ℓ : Loc nD τ sig) → Buf (Elt Ideal) ℓ) (h : Cert.Pre_KernelIdeal_inputs_ok m) (d : Dev nD) :
    Pre.Inputs (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) (m ((d.tc : Thread nD τ).loc main_arg5))
      (m ((d.tc : Thread nD τ).loc main_arg6)) (m ((d.tc : Thread nD τ).loc main_arg7)) (m ((d.tc : Thread nD τ).loc main_arg8))
      (m ((d.tc : Thread nD τ).loc main_arg10)) (m ((d.tc : Thread nD τ).loc main_arg12)) (m ((d.tc : Thread nD τ).loc main_arg13))
      (m ((d.tc : Thread nD τ).loc main_arg14)) :=
  Pre.inputs _ _ _ _ _ _ _ _ _ _ _ _ _ _ _ (h d)

theorem pre_inputs_indices (m : (ℓ : Loc nD τ sig) → Buf (Elt Ideal) ℓ) (h : Cert.Pre_KernelIdeal_inputs_ok m) : PreOK m :=
  fun d => ⟨(pre_inputs m h d).im, (pre_inputs m h d).ac, (pre_inputs m h d).at'⟩

/-- The kernel at the ideal floats, under the value claim's precondition. -/
theorem frame_ideal_inputs : Cert.quiescent_KernelIdeal_pre_inputs_ok := fun m ρ h => frame_any m ρ (pre_inputs_indices m h)

theorem frame_ref_inputs : Cert.quiescent_ReferenceIdeal_pre_inputs_ok := fun m ρ _ => frame_ref m ρ trivial

end Cert.Proof.KI

end
-- ==== Proof.Model.lean ====
/-
  The mathematics both programs compute, row by row over the extended reals: the entity features, the action logits, the
  log-probabilities and entropy of a row of logits in the two spellings, and the per-batch means.
-/
module

public import Idealize.ShloMosaic.Lib.MatmulPlain
public import Idealize.ShloMosaic.Lib.ValueIdxCore
public import Idealize.ShloMosaic.Lib.IdealHost
public import Mathlib.Analysis.SpecialFunctions.Log.Basic

@[expose] public section

noncomputable section

namespace Cert.Proof.Val

open Idealize.ShloMosaic Idealize.ShloMosaic.ValueIdx
open scoped BigOperators

/-! ## Rows and products -/

/-- Row `n` of a matrix. -/
def row {N K : ℕ} (a : (⟨2, ![N, K]⟩ : Shape).Idx → EReal) (n : Fin N) : Fin K → EReal := fun k => a (ix2 n k)
/-- A row vector times a matrix. -/
def vmul {K N : ℕ} (v : Fin K → EReal) (w : (⟨2, ![K, N]⟩ : Shape).Idx → EReal) : Fin N → EReal := fun j => ∑ k, v k * w (ix2 k j)

/-- The features of an entity `x`: its embedding and the residual two-layer perceptron of the embedding. -/
def feat {A B C : ℕ} (x : Fin A → EReal) (we : (⟨2, ![A, B]⟩ : Shape).Idx → EReal) (w1 : (⟨2, ![B, C]⟩ : Shape).Idx → EReal)
    (w2 : (⟨2, ![C, B]⟩ : Shape).Idx → EReal) : Fin B → EReal :=
  fun j => vmul x we j + vmul (fun k => max (vmul (vmul x we) w1 k) 0) w2 j

/-! ## Finite values -/

/-- An extended real that is a real number. -/
def IsReal (x : EReal) : Prop := ∃ r : ℝ, x = (r : EReal)

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem IsReal.add {x y : EReal} (hx : IsReal x) (hy : IsReal y) : IsReal (x + y) := by
  obtain ⟨r, rfl⟩ := hx; obtain ⟨s, rfl⟩ := hy; exact ⟨r + s, (EReal.coe_add r s).symm⟩
theorem IsReal.mul {x y : EReal} (hx : IsReal x) (hy : IsReal y) : IsReal (x * y) := by
  obtain ⟨r, rfl⟩ := hx; obtain ⟨s, rfl⟩ := hy; exact ⟨r * s, (EReal.coe_mul r s).symm⟩
theorem IsReal.max_zero {x : EReal} (hx : IsReal x) : IsReal (max x 0) := by
  rcases max_choice x 0 with h | h <;> rw [h]
  · exact hx
  · exact ⟨0, rfl⟩
theorem IsReal.sum {n : ℕ} (f : Fin n → EReal) (h : ∀ k, IsReal (f k)) : IsReal (∑ k, f k) := by
  choose r hr using h
  exact ⟨∑ k, r k, by rw [← coe_sum]; exact Finset.sum_congr rfl fun k _ => hr k⟩
theorem IsReal.vmul {K N : ℕ} {v : Fin K → EReal} {w : (⟨2, ![K, N]⟩ : Shape).Idx → EReal} (hv : ∀ k, IsReal (v k)) (hw : ∀ i, IsReal (w i))
    (j : Fin N) : IsReal (vmul v w j) := IsReal.sum _ fun k => (hv k).mul (hw _)
/-- Finite entities and weights have finite features. -/
theorem IsReal.feat {A B C : ℕ} {x : Fin A → EReal} {we : (⟨2, ![A, B]⟩ : Shape).Idx → EReal} {w1 : (⟨2, ![B, C]⟩ : Shape).Idx → EReal}
    {w2 : (⟨2, ![C, B]⟩ : Shape).Idx → EReal} (hx : ∀ k, IsReal (x k)) (he : ∀ i, IsReal (we i)) (h1 : ∀ i, IsReal (w1 i)) (h2 : ∀ i, IsReal (w2 i))
    (j : Fin B) : IsReal (feat x we w1 w2 j) :=
  (IsReal.vmul hx he j).add (IsReal.vmul (fun k => (IsReal.vmul (fun k => IsReal.vmul hx he k) h1 k).max_zero) h2 j)

/-! ## The head: log-probabilities and entropy of a row of logits -/

/-- The greatest of a row, from minus infinity. -/
def rowMax {n : ℕ} (g : Fin n → EReal) : EReal := (Finset.univ : Finset (Fin n)).fold max ⊥ g
/-- The sum of the exponentials of a row, its greatest subtracted. -/
def expSum {n : ℕ} (g : Fin n → EReal) : EReal := ∑ k, Ideal.exp (g k - rowMax g)
/-- The log-sum-exp of a row. -/
def lse {n : ℕ} (g : Fin n → EReal) : EReal := rowMax g + Ideal.log (expSum g)
/-- The log-probability of entry `a` of a row, as `log_softmax` spells it. -/
def logp {n : ℕ} (g : Fin n → EReal) (a : Fin n) : EReal := (g a - rowMax g) - Ideal.log (expSum g)

theorem rowMax_real {n : ℕ} (g : Fin n → EReal) (a : Fin n) (hg : ∀ k, IsReal (g k)) : IsReal (rowMax g) := by
  have h1 : rowMax g < ⊤ := (Finset.fold_max_lt _).2 ⟨bot_lt_top, fun k _ => by obtain ⟨r, hr⟩ := hg k; rw [hr]; exact EReal.coe_lt_top r⟩
  have h2 : ⊥ < rowMax g := (Finset.lt_fold_max _).2 (Or.inr ⟨a, Finset.mem_univ _, by obtain ⟨r, hr⟩ := hg a; rw [hr]; exact EReal.bot_lt_coe r⟩)
  exact ⟨(rowMax g).toReal, (EReal.coe_toReal h1.ne h2.ne').symm⟩

/-- A finite row, read as reals: its entries, its greatest, its sum of exponentials, which is positive. -/
theorem row_reals {n : ℕ} (g : Fin n → EReal) (a : Fin n) (hg : ∀ k, IsReal (g k)) :
    ∃ (r : Fin n → ℝ) (M : ℝ), (∀ k, g k = (r k : EReal)) ∧ rowMax g = (M : EReal)
      ∧ (∀ k, Ideal.exp (g k - rowMax g) = ((Real.exp (r k - M) : ℝ) : EReal))
      ∧ expSum g = ((∑ k, Real.exp (r k - M) : ℝ) : EReal) ∧ 0 < ∑ k, Real.exp (r k - M)
      ∧ Ideal.log (expSum g) = ((Real.log (∑ k, Real.exp (r k - M)) : ℝ) : EReal) := by
  obtain ⟨M, hM⟩ := rowMax_real g a hg
  choose r hr using hg
  have he : ∀ k, Ideal.exp (g k - rowMax g) = ((Real.exp (r k - M) : ℝ) : EReal) := fun k => by
    rw [hM, hr, ← EReal.coe_sub, Ideal.exp_coe]
  have hs : expSum g = ((∑ k, Real.exp (r k - M) : ℝ) : EReal) := by
    unfold expSum; rw [← coe_sum]; exact Finset.sum_congr rfl fun k _ => he k
  have hp : 0 < ∑ k, Real.exp (r k - M) := Finset.sum_pos (fun k _ => Real.exp_pos _) ⟨a, Finset.mem_univ _⟩
  refine ⟨r, M, hr, hM, he, hs, hp, ?_⟩
  rw [hs, Ideal.log_coe, if_neg (not_le.mpr hp)]

/-- Subtracting the log-sum-exp is subtracting the greatest and then the logarithm. -/
theorem sub_lse {n : ℕ} (g : Fin n → EReal) (a : Fin n) (hg : ∀ k, IsReal (g k)) : g a - lse g = logp g a := by
  obtain ⟨r, M, hr, hM, -, -, -, hL⟩ := row_reals g a hg
  unfold lse logp
  rw [hL, hM, hr a, ← EReal.coe_add, ← EReal.coe_sub, ← EReal.coe_sub, ← EReal.coe_sub]
  exact congrArg _ (by ring)

/-- The log-sum-exp less the mean logit is minus the mean log-probability. -/
theorem lse_sub_mean {n : ℕ} (g : Fin n → EReal) (a : Fin n) (hg : ∀ k, IsReal (g k)) :
    lse g - Ideal.div (∑ k, Ideal.exp (g k - rowMax g) * g k) (expSum g) = -(∑ k, Ideal.exp (logp g k) * logp g k) := by
  obtain ⟨r, M, hr, hM, he, hs, hp, hL⟩ := row_reals g a hg
  generalize hS : ∑ k, Real.exp (r k - M) = s at *
  have hl : ∀ k, logp g k = ((r k - M - Real.log s : ℝ) : EReal) := fun k => by
    unfold logp; rw [hL, hM, hr k, ← EReal.coe_sub, ← EReal.coe_sub]
  have h1 : ∑ k, Ideal.exp (g k - rowMax g) * g k = ((∑ k, Real.exp (r k - M) * r k : ℝ) : EReal) := by
    rw [← coe_sum]; exact Finset.sum_congr rfl fun k _ => by rw [he k, hr k, ← EReal.coe_mul]
  have h2 : ∑ k, Ideal.exp (logp g k) * logp g k = ((∑ k, Real.exp (r k - M - Real.log s) * (r k - M - Real.log s) : ℝ) : EReal) := by
    rw [← coe_sum]; exact Finset.sum_congr rfl fun k _ => by rw [hl k, Ideal.exp_coe, ← EReal.coe_mul]
  rw [h1, h2, hs, Ideal.div_coe hp.ne', ← EReal.coe_mul]
  unfold lse
  rw [hL, hM, ← EReal.coe_add, ← EReal.coe_sub, ← EReal.coe_neg]
  refine congrArg _ ?_
  have e : ∀ k, Real.exp (r k - M - Real.log s) * (r k - M - Real.log s)
      = (Real.exp (r k - M) * r k) * (1 / s) - Real.exp (r k - M) * ((M + Real.log s) * (1 / s)) := fun k => by
    rw [Real.exp_sub, Real.exp_log hp]; ring
  rw [Finset.sum_congr rfl fun k _ => e k, Finset.sum_sub_distrib, ← Finset.sum_mul, ← Finset.sum_mul, hS]
  field_simp
  ring

/-! ## The per-batch means -/

/-- The value, at column `j`, of the sum of the rows of `h` whose batch word is `b`. -/
def segSum {N K : ℕ} (h : Fin N → Fin K → EReal) (batch : Fin N → BitVec 32) (b : Fin 16) (j : Fin K) : EReal :=
  ∑ n, if batch n = BitVec.ofNat 32 b.val then h n j else 0
/-- How many batch words are `b`. -/
def segCount {N : ℕ} (batch : Fin N → BitVec 32) (b : Fin 16) : EReal := ∑ n, if batch n = BitVec.ofNat 32 b.val then 1 else 0

end Cert.Proof.Val
-- ==== Proof.Ops.lean ====
/-
  The operations of the two programs read at one element, at the extended reals: products, the two accumulating scatters,
  the gathers, the broadcasts and the reductions along a row.
-/
module

public import proofs.«01_k».proof.Proof.Model
public import Idealize.ShloMosaic.Lib.StableHlo.Predicate
public import Idealize.ShloMosaic.Lib.Routing.OpsSet
public import Idealize.ShloMosaic.Lib.Pipeline.Value

@[expose] public section

noncomputable section

namespace Cert.Proof.Val

open Idealize.ShloMosaic Idealize.ShloMosaic.ValueIdx
open scoped BigOperators

/-! ## Products -/

/-- A product onto the zero array, at (r, c): row r times the right operand, at c. -/
theorem matmul_at {M K N : ℕ} {φ₁ φ₂ : FTy} (d : DotDims ⟨2, ![M, K]⟩ ⟨2, ![K, N]⟩ ⟨2, ![M, N]⟩) (hd : d = DotDims.plain M K N) (prec : Option ContractPrecision)
    (l : FVec Ideal ⟨2, ![M, K]⟩ φ₁) (w : FVec Ideal ⟨2, ![K, N]⟩ φ₂) (r : Fin M) (c : Fin N) :
    FloatOps.matmul d prec l w (constant (⟨2, ![M, N]⟩ : Shape) .f32 0x00000000#32) (ix2 r c) = vmul (row l r) w c := by
  subst hd
  rw [Ideal.matmul_plain_apply]
  show Ideal.ofBits .f32 0x00000000#32 + _ = _
  rw [Ideal.ofBits_zero_f32, zero_add]
  rfl
/-- The host's product at (r, c): the same. -/
theorem dot_at {M K N : ℕ} {φ₁ φ₂ : FTy} (d : DotDims ⟨2, ![M, K]⟩ ⟨2, ![K, N]⟩ ⟨2, ![M, N]⟩) (hd : d = DotDims.plain M K N) (prec : Option ContractPrecision)
    (l : FVec Ideal ⟨2, ![M, K]⟩ φ₁) (w : FVec Ideal ⟨2, ![K, N]⟩ φ₂) (r : Fin M) (c : Fin N) :
    Host.dotGeneral d prec l w (ix2 r c) = vmul (row l r) w c := by
  rw [← matmul_at d hd prec l w r c, Ideal.matmul_constant_zero_apply]
  exact Ideal.dotGeneral_apply d prec .single l w (ix2 r c)

/-! ## The two accumulating scatters -/

/-- The dimension numbers of a scatter of N rows of K entries into B rows, one row index each. -/
abbrev rowScatter (B N K : ℕ) (wf : ScatterDims.WF ⟨2, ![B, K]⟩ ⟨2, ![N, 1]⟩ ⟨2, ![N, K]⟩ [1] [0] [0] 1) :
    ScatterDims ⟨2, ![B, K]⟩ ⟨2, ![N, 1]⟩ ⟨2, ![N, K]⟩ where
  updateWindowDims := [1]
  insertedWindowDims := [0]
  scatterDimsToOperandDims := [0]
  indexVectorDim := 1
  wf := wf
/-- The dimension numbers of a scatter of N scalars into B entries, one index each. -/
abbrev oneScatter (B N : ℕ) (wf : ScatterDims.WF ⟨1, ![B]⟩ ⟨2, ![N, 1]⟩ ⟨1, ![N]⟩ [] [0] [0] 1) :
    ScatterDims ⟨1, ![B]⟩ ⟨2, ![N, 1]⟩ ⟨1, ![N]⟩ where
  updateWindowDims := []
  insertedWindowDims := [0]
  scatterDimsToOperandDims := [0]
  indexVectorDim := 1
  wf := wf

/-- A word read signed is a small number exactly when it is that number's word. -/
theorem toInt_eq_iff (w : BitVec 32) (b : ℕ) (hb : b < 2 ^ 31) : w.toInt = (b : ℤ) ↔ w = BitVec.ofNat 32 b :=
  ⟨fun h => BitVec.eq_of_toInt_eq (by rw [h, StableHlo.Predicate.toInt_ofNat_small b hb]), fun h => by rw [h, StableHlo.Predicate.toInt_ofNat_small b hb]⟩

/-- Entry (n, k) of the rows scattered lands at (b, j) exactly when row n's index is b and k is j. -/
theorem rowScatter_lands {B N K : ℕ} (wf : ScatterDims.WF ⟨2, ![B, K]⟩ ⟨2, ![N, 1]⟩ ⟨2, ![N, K]⟩ [1] [0] [0] 1) (hB : B ≤ 2 ^ 31)
    (idx : IVec ⟨2, ![N, 1]⟩ 32) (n : Fin N) (k : Fin K) (b : Fin B) (j : Fin K) :
    (rowScatter B N K wf).resultIdx? (ix2 n k) idx = some (ix2 b j) ↔ idx (ix2 n (0 : Fin 1)) = BitVec.ofNat 32 b.val ∧ k = j := by
  have s0 : (rowScatter B N K wf).start (ix2 n k) idx 0 = (idx (ix2 n (0 : Fin 1))).toInt := by
    unfold ScatterDims.start
    rw [dif_pos (List.mem_singleton.mpr rfl)]
    refine congrArg BitVec.toInt (congrArg idx (funext fun x => Fin.ext ?_))
    match x with
    | ⟨0, _⟩ => rfl
    | ⟨1, _⟩ => rfl
  have s1 : (rowScatter B N K wf).start (ix2 n k) idx 1 = 0 := by
    unfold ScatterDims.start
    exact dif_neg (by simp)
  have w0 : (rowScatter B N K wf).window (ix2 n k) 0 = 0 := rfl
  have w1 : (rowScatter B N K wf).window (ix2 n k) 1 = k.val := rfl
  rw [← toInt_eq_iff _ _ (lt_of_lt_of_le b.isLt hB)]
  unfold ScatterDims.resultIdx?
  split
  · next h =>
    rw [Option.some_inj]
    constructor
    · intro e
      have e0 : ((rowScatter B N K wf).start (ix2 n k) idx 0 + ((rowScatter B N K wf).window (ix2 n k) 0 : ℕ)).toNat = b.val := congrArg (fun i => (i 0).val) e
      have e1 : ((rowScatter B N K wf).start (ix2 n k) idx 1 + ((rowScatter B N K wf).window (ix2 n k) 1 : ℕ)).toNat = j.val := congrArg (fun i => (i 1).val) e
      have h0 := (h 0).1
      rw [s0, w0] at e0 h0
      rw [s1, w1] at e1
      exact ⟨by omega, Fin.ext (by omega)⟩
    · rintro ⟨e0, rfl⟩
      funext a
      match a with
      | ⟨0, _⟩ => exact Fin.ext (by show (_ + _ : ℤ).toNat = b.val; rw [show (⟨0, _⟩ : Fin 2) = 0 from rfl, s0, w0]; omega)
      | ⟨1, _⟩ => exact Fin.ext (by
        show ((rowScatter B N K wf).start (ix2 n k) idx 1 + ((rowScatter B N K wf).window (ix2 n k) 1 : ℕ)).toNat = k.val
        rw [s1, w1]; omega)
  · next h =>
    refine ⟨fun e => by simp at e, fun e => absurd (fun a => ?_) h⟩
    match a with
    | ⟨0, _⟩ =>
      show 0 ≤ (rowScatter B N K wf).start (ix2 n k) idx 0 + ((rowScatter B N K wf).window (ix2 n k) 0 : ℕ)
        ∧ (rowScatter B N K wf).start (ix2 n k) idx 0 + ((rowScatter B N K wf).window (ix2 n k) 0 : ℕ) < (B : ℤ)
      rw [s0, w0]; have := b.isLt; omega
    | ⟨1, _⟩ =>
      show 0 ≤ (rowScatter B N K wf).start (ix2 n k) idx 1 + ((rowScatter B N K wf).window (ix2 n k) 1 : ℕ)
        ∧ (rowScatter B N K wf).start (ix2 n k) idx 1 + ((rowScatter B N K wf).window (ix2 n k) 1 : ℕ) < (K : ℤ)
      rw [s1, w1]; have := k.isLt; omega

/-- Scalar n scattered lands at b exactly when its index is b. -/
theorem oneScatter_lands {B N : ℕ} (wf : ScatterDims.WF ⟨1, ![B]⟩ ⟨2, ![N, 1]⟩ ⟨1, ![N]⟩ [] [0] [0] 1) (hB : B ≤ 2 ^ 31)
    (idx : IVec ⟨2, ![N, 1]⟩ 32) (n : Fin N) (b : Fin B) :
    (oneScatter B N wf).resultIdx? (ix1 n) idx = some (ix1 b) ↔ idx (ix2 n (0 : Fin 1)) = BitVec.ofNat 32 b.val := by
  have s0 : (oneScatter B N wf).start (ix1 n) idx 0 = (idx (ix2 n (0 : Fin 1))).toInt := by
    unfold ScatterDims.start
    rw [dif_pos (List.mem_singleton.mpr rfl)]
    refine congrArg BitVec.toInt (congrArg idx (funext fun x => Fin.ext ?_))
    match x with
    | ⟨0, _⟩ => rfl
    | ⟨1, _⟩ => rfl
  have w0 : (oneScatter B N wf).window (ix1 n) 0 = 0 := rfl
  rw [← toInt_eq_iff _ _ (lt_of_lt_of_le b.isLt hB)]
  unfold ScatterDims.resultIdx?
  split
  · next h =>
    rw [Option.some_inj]
    constructor
    · intro e
      have e0 : ((oneScatter B N wf).start (ix1 n) idx 0 + ((oneScatter B N wf).window (ix1 n) 0 : ℕ)).toNat = b.val := congrArg (fun i => (i 0).val) e
      have h0 := (h 0).1
      rw [s0, w0] at e0 h0
      omega
    · intro e0
      funext a
      match a with
      | ⟨0, _⟩ => exact Fin.ext (by show (_ + _ : ℤ).toNat = b.val; rw [show (⟨0, _⟩ : Fin 1) = 0 from rfl, s0, w0]; omega)
  · next h =>
    refine ⟨fun e => by simp at e, fun e => absurd (fun a => ?_) h⟩
    match a with
    | ⟨0, _⟩ =>
      show 0 ≤ (oneScatter B N wf).start (ix1 n) idx 0 + ((oneScatter B N wf).window (ix1 n) 0 : ℕ)
        ∧ (oneScatter B N wf).start (ix1 n) idx 0 + ((oneScatter B N wf).window (ix1 n) 0 : ℕ) < (B : ℤ)
      rw [s0, w0]; have := b.isLt; omega

/-- Rows added into zeroed segments: entry (b, j) is the segment's sum. -/
theorem scatterRows_at {N K : ℕ} (wf : ScatterDims.WF ⟨2, ![16, K]⟩ ⟨2, ![N, 1]⟩ ⟨2, ![N, K]⟩ [1] [0] [0] 1)
    (x : FVec Ideal ⟨2, ![16, K]⟩ .f32) (hx : ∀ i, x i = (0 : EReal)) (idx : IVec ⟨2, ![N, 1]⟩ 32) (upd : FVec Ideal ⟨2, ![N, K]⟩ .f32) (b : Fin 16) (j : Fin K) :
    Host.scatterAdd (rowScatter 16 N K wf) x idx upd (ix2 b j) = segSum (row upd) (fun n => idx (ix2 n (0 : Fin 1))) b j := by
  classical
  show x (ix2 b j) + ∑ i ∈ Finset.univ.filter (fun i => (rowScatter 16 N K wf).resultIdx? i idx = some (ix2 b j)), upd i = _
  rw [hx, zero_add, Finset.sum_filter, sum_idx2]
  unfold segSum
  refine Finset.sum_congr rfl fun n _ => ?_
  have e : ∀ k : Fin K, (if (rowScatter 16 N K wf).resultIdx? (ix2 n k) idx = some (ix2 b j) then upd (ix2 n k) else 0)
      = if k = j then (if idx (ix2 n (0 : Fin 1)) = BitVec.ofNat 32 b.val then upd (ix2 n k) else (0 : EReal)) else 0 := fun k => by
    simp only [rowScatter_lands wf (by norm_num) idx n k b j]
    by_cases h1 : idx (ix2 n (0 : Fin 1)) = BitVec.ofNat 32 b.val <;> by_cases h2 : k = j <;> simp [h1, h2]
  rw [Finset.sum_congr rfl fun k _ => e k, Finset.sum_ite_eq' Finset.univ j, if_pos (Finset.mem_univ _)]
  rfl
/-- Ones added into zeroed counters: entry b is the segment's count. -/
theorem scatterOnes_at {N : ℕ} (wf : ScatterDims.WF ⟨1, ![16]⟩ ⟨2, ![N, 1]⟩ ⟨1, ![N]⟩ [] [0] [0] 1)
    (x : FVec Ideal ⟨1, ![16]⟩ .f32) (hx : ∀ i, x i = (0 : EReal)) (idx : IVec ⟨2, ![N, 1]⟩ 32) (upd : FVec Ideal ⟨1, ![N]⟩ .f32)
    (hu : ∀ i, upd i = (1 : EReal)) (b : Fin 16) :
    Host.scatterAdd (oneScatter 16 N wf) x idx upd (ix1 b) = segCount (fun n : Fin N => idx (ix2 n (0 : Fin 1))) b := by
  classical
  show x (ix1 b) + ∑ i ∈ Finset.univ.filter (fun i => (oneScatter 16 N wf).resultIdx? i idx = some (ix1 b)), upd i = _
  rw [hx, zero_add, Finset.sum_filter]
  unfold segCount
  refine Fintype.sum_equiv ⟨fun i => (i 0 : Fin N), fun n => ix1 n, fun i => (eq_ix1 i).symm, fun n => rfl⟩ _ _ fun i => ?_
  obtain ⟨n, rfl⟩ : ∃ n : Fin N, i = ix1 n := ⟨i 0, eq_ix1 i⟩
  exact if_congr (oneScatter_lands wf (by norm_num) idx n b) (hu _) rfl

/-! ## Broadcasts and reductions along a row -/

/-- A vector laid along the columns of every row. -/
theorem bcastRow_at {α : Type} {n m : ℕ} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → α) (p : Fin n) (q : Fin m) :
    broadcastInDim ⟨2, ![n, m]⟩ ![0, 1] h₂ (broadcastInDim ⟨2, ![1, m]⟩ ![1] h₁ v) (ix2 p q) = v (ix1 q) := by
  have := StableHlo.Predicate.bcast_cols h₁ h₂ v p q
  refine Eq.trans ?_ (this.trans (congrArg v ?_))
  · exact congrArg _ (funext fun a => by match a with | ⟨0, _⟩ => rfl | ⟨1, _⟩ => rfl)
  · exact funext fun a => by match a with | ⟨0, _⟩ => rfl
/-- A vector laid along the rows of every column. -/
theorem bcastCol_at {α : Type} {n m : ℕ} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α) (p : Fin n) (q : Fin m) :
    broadcastInDim ⟨2, ![n, m]⟩ ![0, 1] h₂ (broadcastInDim ⟨2, ![n, 1]⟩ ![0] h₁ v) (ix2 p q) = v (ix1 p) := by
  have := StableHlo.Predicate.bcast_rows h₁ h₂ v p q
  refine Eq.trans ?_ (this.trans (congrArg v ?_))
  · exact congrArg _ (funext fun a => by match a with | ⟨0, _⟩ => rfl | ⟨1, _⟩ => rfl)
  · exact funext fun a => by match a with | ⟨0, _⟩ => rfl
/-- A vector as a column. -/
theorem bcastOne_at {α : Type} {n : ℕ} (h : (⟨1, ![n]⟩ : Shape).BroadcastsInDim ⟨2, ![n, 1]⟩ ![0]) (v : (⟨1, ![n]⟩ : Shape).Idx → α) (p : Fin n) :
    broadcastInDim ⟨2, ![n, 1]⟩ ![0] h v (ix2 p (0 : Fin 1)) = v (ix1 p) := by
  have := StableHlo.Predicate.bcast_col1 h v p
  refine Eq.trans ?_ (this.trans (congrArg v ?_))
  · exact congrArg _ (funext fun a => by match a with | ⟨0, _⟩ => rfl | ⟨1, _⟩ => rfl)
  · exact funext fun a => by match a with | ⟨0, _⟩ => rfl
/-- A column laid along every column. -/
theorem bcastWide_at {α : Type} {n m : ℕ} (h₂ : (⟨2, ![n, 1]⟩ : Shape).BroadcastsInDim ⟨2, ![n, m]⟩ ![0, 1]) (v : (⟨2, ![n, 1]⟩ : Shape).Idx → α) (p : Fin n) (q : Fin m) :
    broadcastInDim ⟨2, ![n, m]⟩ ![0, 1] h₂ v (ix2 p q) = v (ix2 p (0 : Fin 1)) := by
  refine broadcastInDim_apply _ h₂ v _ _ fun a => ?_
  match a with
  | ⟨0, _⟩ =>
    show p.val = if n = 1 then 0 else p.val
    split
    · next h => subst h; omega
    · rfl
  | ⟨1, _⟩ => rfl

/-- Inserting a column number into a row number. -/
theorem lift_row {n m : ℕ} (h : (⟨2, ![n, m]⟩ : Shape).Reduces [1] ⟨1, ![n]⟩) (p : Fin n) (k : Fin m) : h.lift (ix1 p) k = ix2 p k := by
  funext a
  match a with
  | ⟨0, _⟩ => exact Fin.ext rfl
  | ⟨1, _⟩ => exact Fin.ext rfl

theorem bot_f32 : Ideal.ofBits .f32 0xFF800000#32 = ⊥ := by simp [Ideal.ofBits, Ideal.ieee]

/-- A kernel's row sums. -/
theorem sumRow_at {n m : ℕ} (h : (⟨2, ![n, m]⟩ : Shape).Reduces [1] ⟨1, ![n]⟩) (x : FVec Ideal ⟨2, ![n, m]⟩ .f32) (hφ : FKind.Formats .f32)
    (hacc : (0x00000000#32 : BitVec 32) = FKind.add.neutral .f32 hφ) (p : Fin n) :
    multiReduction .add [1] ⟨1, ![n]⟩ x 0x00000000#32 h hφ hacc (ix1 p) = ∑ k, row x p k := by
  rw [Ideal.multiReduction_add_single]
  exact Finset.sum_congr rfl fun k _ => congrArg x (lift_row h p k)
/-- A kernel's row maxima. -/
theorem maxRow_at {n m : ℕ} (h : (⟨2, ![n, m]⟩ : Shape).Reduces [1] ⟨1, ![n]⟩) (x : FVec Ideal ⟨2, ![n, m]⟩ .f32) (hφ : FKind.Formats .f32)
    (hacc : (0xFF800000#32 : BitVec 32) = FKind.maximumf.neutral .f32 hφ) (p : Fin n) :
    multiReduction .maximumf [1] ⟨1, ![n]⟩ x 0xFF800000#32 h hφ hacc (ix1 p) = rowMax (row x p) := by
  rw [Ideal.multiReduction_maximumf_single]
  unfold rowMax
  rw [show (FloatOps.ofBits .f32 0xFF800000#32 : Ideal .f32) = (⊥ : EReal) from bot_f32]
  exact congrArg (Finset.fold max (⊥ : EReal) · Finset.univ) (funext fun k => congrArg x (lift_row h p k))
/-- The host's row sums, from zero. -/
theorem hostSumRow_at {n m : ℕ} (h' : (⟨2, ![n, m]⟩ : Shape).ReducesTo [1] ⟨1, ![n]⟩) (h : (⟨2, ![n, m]⟩ : Shape).Reduces [1] ⟨1, ![n]⟩) (x : FVec Ideal ⟨2, ![n, m]⟩ .f32)
    {u : Shape} (hu : 0 < u.numel) (p : Fin n) :
    Host.reduceAdd x (constant u .f32 0x00000000#32 : FVec Ideal u .f32) h' hu (ix1 p) = ∑ k, row x p k := by
  rw [hostReduceAdd_apply, Ideal.hostReduceAdd_single h' h]
  rw [show (constant u .f32 0x00000000#32 : FVec Ideal u .f32) (Shape.Idx.first hu) = (0 : EReal) from Ideal.ofBits_zero_f32, zero_add]
  exact Finset.sum_congr rfl fun k _ => congrArg x (lift_row h p k)
/-- The host's row maxima, from minus infinity. -/
theorem hostMaxRow_at {n m : ℕ} (h' : (⟨2, ![n, m]⟩ : Shape).ReducesTo [1] ⟨1, ![n]⟩) (h : (⟨2, ![n, m]⟩ : Shape).Reduces [1] ⟨1, ![n]⟩) (x : FVec Ideal ⟨2, ![n, m]⟩ .f32)
    {u : Shape} (hu : 0 < u.numel) (p : Fin n) :
    Host.reduce FloatOps.maximumf x (constant u .f32 0xFF800000#32 : FVec Ideal u .f32) h' hu (ix1 p) = rowMax (row x p) := by
  rw [Host.reduce_eq_fold_single _ x _ h' h hu]
  unfold rowMax
  rw [show (constant u .f32 0xFF800000#32 : FVec Ideal u .f32) (Shape.Idx.first hu) = (⊥ : EReal) from bot_f32]
  exact congrArg (Finset.fold max (⊥ : EReal) · Finset.univ) (funext fun k => congrArg x (lift_row h p k))

end Cert.Proof.Val
-- ==== Proof.RefDefs.lean ====
/-
  The reference's results as compositions of a few named arrays: entity features, gathered logits, log-probabilities, the
  picked log-probabilities, the entropies and the per-batch head.
-/
module

public import proofs.«01_k».proof.Proof.Gen.ReferenceIdeal.Run
public import proofs.«01_k».proof.Proof.Ops

@[expose] public section

noncomputable section

namespace Cert.Proof.Ref

open Cert.ReferenceIdeal Cert.ReferenceIdeal.Gen Idealize.ShloMosaic Idealize.ShloMosaic.TcCoe Idealize.SL.Sem Idealize.ShloMosaic.StableHlo

/-- The embeddings. -/
def emb (a0 : FVec Ideal S16384x256 .f32) (a1 : FVec Ideal S256x512 .f32) (a2 : FVec Ideal S512 .f32) : FVec Ideal S16384x512 .f32 :=
  addf (Host.dotGeneral dot_S16384x256_S256x512_S16384x512_1_0_0_1_n_n none a0 a1)
    (broadcastInDim S16384x512 ![0, 1] bcast_S1x512_S16384x512_0_1 (broadcastInDim S1x512 ![1] bcast_S512_S1x512_1 a2))
/-- The hidden layer of embeddings `e`. -/
def hid (e : FVec Ideal S16384x512 .f32) (a3 : FVec Ideal S512x2048 .f32) (a4 : FVec Ideal S2048 .f32) : FVec Ideal S16384x2048 .f32 :=
  maximumf (addf (Host.dotGeneral dot_S16384x512_S512x2048_S16384x2048_1_0_0_1_n_n none e a3)
    (broadcastInDim S16384x2048 ![0, 1] bcast_S1x2048_S16384x2048_0_1 (broadcastInDim S1x2048 ![1] bcast_S2048_S1x2048_1 a4)))
    (broadcastInDim S16384x2048 ![] bcast_S_S16384x2048 (constant S_ .f32 0x00000000#32))
/-- The features of embeddings `e`. -/
def feats (e : FVec Ideal S16384x512 .f32) (a3 : FVec Ideal S512x2048 .f32) (a4 : FVec Ideal S2048 .f32) (a5 : FVec Ideal S2048x512 .f32) (a6 : FVec Ideal S512 .f32) :
    FVec Ideal S16384x512 .f32 :=
  addf e (addf (Host.dotGeneral dot_S16384x2048_S2048x512_S16384x512_1_0_0_1_n_n none (hid e a3 a4) a5)
    (broadcastInDim S16384x512 ![0, 1] bcast_S1x512_S16384x512_0_1 (broadcastInDim S1x512 ![1] bcast_S512_S1x512_1 a6)))
/-- A list of indices, 16384 added to the negative ones. -/
def wrap (v : IVec S8192 32) : IVec S8192 32 :=
  select (cmpi .slt v (broadcastInDim S8192 ![] bcast_S_S8192 (constantI S_ 32 0#32))) (addi v (broadcastInDim S8192 ![] bcast_S_S8192 (constantI S_ 32 16384#32))) v
/-- The entity of each actor: the index map at the actors. -/
def entity (a12 : IVec S16384 32) (a13 : IVec S8192 32) : IVec S8192 32 :=
  Host.gather gather_S16384_S8192x1_S8192_n_0_n_n_0_1_1 a12 (broadcastInDim S8192x1 ![0] bcast_S8192_S8192x1_0 (wrap a13))
/-- The logits of the actors `v`, of features `x`. -/
def logits (x : FVec Ideal S16384x512 .f32) (v : IVec S8192 32) (a7 : FVec Ideal S512x64 .f32) (a8 : FVec Ideal S64 .f32) : FVec Ideal S8192x64 .f32 :=
  addf (Host.dotGeneral dot_S8192x512_S512x64_S8192x64_1_0_0_1_n_n none
      (Host.gather gather_S16384x512_S8192x1_S8192x512_1_0_n_n_0_1_1512 x (broadcastInDim S8192x1 ![0] bcast_S8192_S8192x1_0 (wrap v))) a7)
    (broadcastInDim S8192x64 ![0, 1] bcast_S1x64_S8192x64_0_1 (broadcastInDim S1x64 ![1] bcast_S64_S1x64_1 a8))
/-- Logits less their row's greatest. -/
def shifted (g : FVec Ideal S8192x64 .f32) : FVec Ideal S8192x64 .f32 :=
  subf g (broadcastInDim S8192x64 ![0, 1] bcast_S8192x1_S8192x64_0_1 (broadcastInDim S8192x1 ![0] bcast_S8192_S8192x1_0
    (maximumf (broadcastInDim S8192 ![] bcast_S_S8192 (constant S_ .f32 0xFF800000#32))
      (Host.reduce FloatOps.maximumf g (constant S_ .f32 0xFF800000#32) reducesTo_S8192x64_S8192_d1 h_S_))))
/-- The log-probabilities of shifted logits. -/
def logps (s : FVec Ideal S8192x64 .f32) : FVec Ideal S8192x64 .f32 :=
  subf s (broadcastInDim S8192x64 ![0, 1] bcast_S8192x1_S8192x64_0_1 (Host.log (broadcastInDim S8192x1 ![0] bcast_S8192_S8192x1_0
    (Host.reduceAdd (Host.exp s) (constant S_ .f32 0x00000000#32) reducesTo_S8192x64_S8192_d1 h_S_))))
/-- The entropies. -/
def entropy (l : FVec Ideal S8192x64 .f32) : FVec Ideal S8192 .f32 :=
  Host.negf (Host.reduceAdd (mulf (Host.exp l) l) (constant S_ .f32 0x00000000#32) reducesTo_S8192x64_S8192_d1 h_S_)
/-- The actions as start indices, 64 added to the negative ones. -/
def actions (a14 : IVec S8192 32) : IVec S8192x1x1 32 :=
  shapeCast _ (select (cmpi .slt (broadcastInDim S8192x1 ![0] bcast_S8192_S8192x1_0 a14) (broadcastInDim S8192x1 ![] bcast_S_S8192x1 (constantI S_ 32 0#32)))
    (addi (broadcastInDim S8192x1 ![0] bcast_S8192_S8192x1_0 a14) (broadcastInDim S8192x1 ![] bcast_S_S8192x1 (constantI S_ 32 64#32)))
    (broadcastInDim S8192x1 ![0] bcast_S8192_S8192x1_0 a14)) shapeCasts_S8192x1_S8192x1x1
/-- Which start indices are in range. -/
def inRange (v : IVec S8192x1x1 32) : IVec S8192x1 1 :=
  Host.reduce IntOp.andi (andi (cmpi .sge v (broadcastInDim S8192x1x1 ![] bcast_S_S8192x1x1 (constantI S_ 32 0#32)))
    (cmpi .sle v (broadcastInDim S8192x1x1 ![0, 1, 2] bcast_S1x1x1_S8192x1x1_0_1_2 (broadcastInDim S1x1x1 ![2] bcast_S1_S1x1x1_2 (constantI S1 32 63#32)))))
    (constantI S_ 1 1#1) reducesTo_S8192x1x1_S8192x1_d2 h_S_
/-- The log-probability each action picks. -/
def picked (l : FVec Ideal S8192x64 .f32) (v : IVec S8192x1x1 32) : FVec Ideal S8192 .f32 :=
  shapeCast _ (select (inRange v) (Host.gather gather_S8192x64_S8192x1x1_S8192x1_n_1_0_0_1_2_11 l v)
    (broadcastInDim S8192x1 ![] bcast_S_S8192x1 (constant S_ .f32 0x7FC00000#32))) shapeCasts_S8192x1_S8192
/-- The number of entities of each batch, at least one. -/
def counts (a11 : IVec S16384 32) : FVec Ideal S16 .f32 :=
  maximumf (broadcastInDim S16 ![] bcast_S_S16 (id (constant S_ .f32 0x3F800000#32)))
    (Host.scatterAdd scatter_S16_S16384x1_S16384_n_0_0_1 (broadcastInDim S16 ![] bcast_S_S16 (constant S_ .f32 0x00000000#32))
      (broadcastInDim S16384x1 ![0] bcast_S16384_S16384x1_0 a11) (broadcastInDim S16384 ![] bcast_S_S16384 (constant S_ .f32 0x3F800000#32)))
/-- The head of each batch's mean feature. -/
def head (x : FVec Ideal S16384x512 .f32) (a9 : FVec Ideal S512x1 .f32) (a10 : FVec Ideal S1 .f32) (a11 : IVec S16384 32) : FVec Ideal S16x1 .f32 :=
  addf (Host.dotGeneral dot_S16x512_S512x1_S16x1_1_0_0_1_n_n none
      (Host.divf (Host.scatterAdd scatter_S16x512_S16384x1_S16384x512_1_0_0_1 (broadcastInDim S16x512 ![] bcast_S_S16x512 (constant S_ .f32 0x00000000#32))
          (broadcastInDim S16384x1 ![0] bcast_S16384_S16384x1_0 a11) x)
        (broadcastInDim S16x512 ![0, 1] bcast_S16x1_S16x512_0_1 (broadcastInDim S16x1 ![0] bcast_S16_S16x1_0 (counts a11)))) a9)
    (broadcastInDim S16x1 ![0, 1] bcast_S1x1_S16x1_0_1 (broadcastInDim S1x1 ![1] bcast_S1_S1x1_1 a10))

variable (m : (ℓ : Loc nD τ sig) → Buf (Elt Ideal) ℓ) (c : Dev nD)

/-- The features the reference computes from memory `m`. -/
def featsOf : FVec Ideal S16384x512 .f32 :=
  feats (emb (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5)) (m ((c.tc : Thread nD τ).loc main_arg6))
/-- The logits the reference computes from memory `m`. -/
def logitsOf : FVec Ideal S8192x64 .f32 :=
  logits (featsOf m c) (entity (m ((c.tc : Thread nD τ).loc main_arg12)) (m ((c.tc : Thread nD τ).loc main_arg13)))
    (m ((c.tc : Thread nD τ).loc main_arg7)) (m ((c.tc : Thread nD τ).loc main_arg8))

/-- The reference's first result is the picked log-probabilities. -/
theorem res0 : Cert.ReferenceIdeal.Value.res_main_v35 m c = picked (logps (shifted (logitsOf m c))) (actions (m ((c.tc : Thread nD τ).loc main_arg14))) := rfl
/-- Its second is the entropies. -/
theorem res1 : Cert.ReferenceIdeal.Value.res_main_v39 m c = entropy (logps (shifted (logitsOf m c))) := rfl

/-- The reference run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v35) = picked (logps (shifted (logitsOf m c))) (actions (m ((c.tc : Thread nD τ).loc main_arg14)))
      ∧ r.2.mem ((c.tc : Thread nD τ).loc main_v39) = entropy (logps (shifted (logitsOf m c)))
      ∧ r.2.mem ((c.tc : Thread nD τ).loc main_v54)
        = head (featsOf m c) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run (defs (F := Ideal)) _ _).mono (fun r h c => ?_) (Cert.ReferenceIdeal.Value.run m ρ)
  obtain ⟨h0, h1, h2, ha⟩ := h c
  exact ⟨h0.trans (res0 m c), h1.trans (res1 m c), h2, ha⟩

end Cert.Proof.Ref
-- ==== Proof.RefAt.lean ====
/-
  The reference's arrays read at one element: features, logits, log-probabilities, picked entries, entropies and the
  per-batch head.
-/
module

public import proofs.«01_k».proof.Proof.RefDefs

@[expose] public section

noncomputable section

namespace Cert.Proof.Ref

open Cert.ReferenceIdeal Cert.ReferenceIdeal.Gen Idealize.ShloMosaic Idealize.ShloMosaic.ValueIdx Cert.Proof.Val
open scoped BigOperators

/-! ## Features -/

section Features
variable (a0 : FVec Ideal S16384x256 .f32) (a1 : FVec Ideal S256x512 .f32) (a2 : FVec Ideal S512 .f32) (a3 : FVec Ideal S512x2048 .f32)
  (a4 : FVec Ideal S2048 .f32) (a5 : FVec Ideal S2048x512 .f32) (a6 : FVec Ideal S512 .f32)

theorem emb_row (h2 : ∀ i, a2 i = (0 : EReal)) (n : Fin 16384) : row (emb a0 a1 a2) n = vmul (row a0 n) a1 := funext fun j => by
  show (_ + _ : EReal) = _
  rw [dot_at dot_S16384x256_S256x512_S16384x512_1_0_0_1_n_n rfl, bcastRow_at, h2, add_zero]
theorem hid_row (e : FVec Ideal S16384x512 .f32) (h4 : ∀ i, a4 i = (0 : EReal)) (n : Fin 16384) : row (hid e a3 a4) n = fun k => max (vmul (row e n) a3 k) 0 := funext fun j => by
  show max (_ + _ : EReal) _ = _
  rw [dot_at dot_S16384x512_S512x2048_S16384x2048_1_0_0_1_n_n rfl, bcastRow_at, h4, add_zero, broadcastInDim_scalar_apply]
  exact congrArg _ Ideal.ofBits_zero_f32
/-- With zero biases, the features of entity n are the features of row n. -/
theorem feats_row (h2 : ∀ i, a2 i = (0 : EReal)) (h4 : ∀ i, a4 i = (0 : EReal)) (h6 : ∀ i, a6 i = (0 : EReal)) (n : Fin 16384) :
    row (feats (emb a0 a1 a2) a3 a4 a5 a6) n = feat (row a0 n) a1 a3 a5 := funext fun j => by
  show (_ + (_ + _) : EReal) = _
  rw [dot_at dot_S16384x2048_S2048x512_S16384x512_1_0_0_1_n_n rfl, bcastRow_at, h6, add_zero, hid_row a3 a4 _ h4]
  show row (emb a0 a1 a2) n j + _ = _
  rw [emb_row a0 a1 a2 h2]
  rfl
end Features

/-! ## Indices and logits -/

theorem word_lt {w : BitVec 32} {n : ℕ} (hn : n < 2 ^ 31) (hw : w = BitVec.ofNat 32 n) : w.toNat = n := by
  subst hw; rw [BitVec.toNat_ofNat]; omega

/-- A small number is not negative. -/
theorem slt_zero {w : BitVec 32} (hw : w.toNat < 2 ^ 31) : IntOp.cmpi .slt w 0#32 = 0#1 :=
  eq_zero_of_ne_one fun h => absurd ((StableHlo.Predicate.slt_iff_toNat hw (by decide)).1 h) (by simp)

/-- An index in range is not moved. -/
theorem wrap_at (v : IVec S8192 32) (r : Fin 8192) (hv : (v (ix1 r)).toNat < 2 ^ 31) : wrap v (ix1 r) = v (ix1 r) := by
  show Scalar.select (IntOp.cmpi .slt (v (ix1 r)) (broadcastInDim S8192 ![] bcast_S_S8192 (constantI S_ 32 0#32) (ix1 r))) _ _ = _
  rw [broadcastInDim_scalar_apply]
  show Scalar.select (IntOp.cmpi .slt (v (ix1 r)) 0#32) _ _ = _
  rw [slt_zero hv, select_zero]
/-- Where actor r is q, its entity is the index map at q. -/
theorem entity_at (a12 : IVec S16384 32) (a13 : IVec S8192 32) (r : Fin 8192) (q : Fin 16384) (hq : a13 (ix1 r) = BitVec.ofNat 32 q.val) :
    entity a12 a13 (ix1 r) = a12 (ix1 q) := by
  have hq' := word_lt (by have := q.isLt; omega) hq
  refine Routing.gather_take1 gather_S16384_S8192x1_S8192_n_0_n_n_0_1_1 rfl rfl rfl rfl a12 _ r q ?_ (by norm_num)
  rw [bcastOne_at, wrap_at _ _ (by have := q.isLt; omega), hq]
/-- With a zero bias, the logits of an actor whose entity is p are row p of the features times the weights. -/
theorem logits_row (x : FVec Ideal S16384x512 .f32) (v : IVec S8192 32) (a7 : FVec Ideal S512x64 .f32) (a8 : FVec Ideal S64 .f32) (h8 : ∀ i, a8 i = (0 : EReal))
    (r : Fin 8192) (p : Fin 16384) (hp : v (ix1 r) = BitVec.ofNat 32 p.val) : row (logits x v a7 a8) r = vmul (row x p) a7 := funext fun j => by
  have hp' := word_lt (by have := p.isLt; omega) hp
  show (_ + _ : EReal) = _
  rw [dot_at dot_S8192x512_S512x64_S8192x64_1_0_0_1_n_n rfl, bcastRow_at, h8, add_zero]
  refine congrArg (fun y => vmul y a7 j) (funext fun k => ?_)
  refine Routing.gather_row gather_S16384x512_S8192x1_S8192x512_1_0_n_n_0_1_1512 rfl rfl rfl rfl rfl x _ r k p ?_ (by norm_num)
  rw [bcastOne_at, wrap_at _ _ (by have := p.isLt; omega), hp]

/-! ## The head -/

theorem shifted_row (g : FVec Ideal S8192x64 .f32) (r : Fin 8192) : row (shifted g) r = fun k => row g r k - rowMax (row g r) := funext fun k => by
  show (_ - _ : EReal) = _
  rw [bcastCol_at]
  show (_ - max _ _ : EReal) = _
  rw [broadcastInDim_scalar_apply, hostMaxRow_at reducesTo_S8192x64_S8192_d1 (by decide)]
  rw [show (constant S_ .f32 0xFF800000#32 : FVec Ideal S_ .f32) ix0 = (⊥ : EReal) from bot_f32, max_eq_right bot_le]
  rfl
theorem hostLog_at {s : Shape} (x : FVec Ideal s .f32) (i : s.Idx) : Host.log x i = Ideal.log (x i) := rfl
theorem hostDiv_at {s : Shape} (x y : FVec Ideal s .f32) (i : s.Idx) : Host.divf x y i = Ideal.div (x i) (y i) := rfl
theorem logps_row (g : FVec Ideal S8192x64 .f32) (r : Fin 8192) : row (logps (shifted g)) r = logp (row g r) := funext fun k => by
  show (_ - _ : EReal) = _
  rw [bcastWide_at]
  refine (congrArg (fun y => row (shifted g) r k - y) (hostLog_at _ _)).trans ?_
  rw [bcastOne_at, hostSumRow_at reducesTo_S8192x64_S8192_d1 (by decide)]
  have e := shifted_row g r
  show row (shifted g) r k - Ideal.log (∑ k, Ideal.exp (row (shifted g) r k)) = _
  rw [e]
  rfl
theorem entropy_at (l : FVec Ideal S8192x64 .f32) (r : Fin 8192) : entropy l (ix1 r) = -(∑ k, Ideal.exp (row l r k) * row l r k) := by
  show (-_ : EReal) = _
  rw [hostSumRow_at reducesTo_S8192x64_S8192_d1 (by decide)]
  rfl

/-! ## The picked entries -/

theorem cast3_at {α : Type} (x : S8192x1.Idx → α) (r : Fin 8192) : shapeCast S8192x1x1 x shapeCasts_S8192x1_S8192x1x1 (ix3 r (0 : Fin 1) (0 : Fin 1)) = x (ix2 r (0 : Fin 1)) := by
  refine shapeCast_apply x _ _ _ ?_
  rw [Shape.rowMajor_val_two, Shape.rowMajor_val_three]
  show (r.val * 1 + 0 : ℕ) = (r.val * 1 + 0) * 1 + 0
  omega
theorem cast1_at {α : Type} (x : S8192x1.Idx → α) (r : Fin 8192) : shapeCast S8192 x shapeCasts_S8192x1_S8192 (ix1 r) = x (ix2 r (0 : Fin 1)) := by
  refine shapeCast_apply x _ _ _ ?_
  rw [Shape.rowMajor_val_one, Shape.rowMajor_val_two]
  simp

theorem actions_at (a14 : IVec S8192 32) (r : Fin 8192) (ha : (a14 (ix1 r)).toNat < 2 ^ 31) : actions a14 (ix3 r (0 : Fin 1) (0 : Fin 1)) = a14 (ix1 r) := by
  unfold actions
  rw [cast3_at]
  show Scalar.select (IntOp.cmpi .slt (broadcastInDim S8192x1 ![0] bcast_S8192_S8192x1_0 a14 (ix2 r (0 : Fin 1))) (broadcastInDim S8192x1 ![] bcast_S_S8192x1 (constantI S_ 32 0#32) (ix2 r (0 : Fin 1)))) _
    (broadcastInDim S8192x1 ![0] bcast_S8192_S8192x1_0 a14 (ix2 r (0 : Fin 1))) = _
  rw [bcastOne_at, broadcastInDim_scalar_apply]
  show Scalar.select (IntOp.cmpi .slt (a14 (ix1 r)) 0#32) _ _ = _
  rw [slt_zero ha, select_zero]

theorem one_andi : IntOp.andi (1#1) (1#1) = 1#1 := by decide

theorem lift3 (h : S8192x1x1.Reduces [2] S8192x1) (r : Fin 8192) (k : Fin 1) : h.lift (ix2 r (0 : Fin 1)) k = ix3 r (0 : Fin 1) (0 : Fin 1) := by
  funext a
  match a with
  | ⟨0, _⟩ => exact Fin.ext rfl
  | ⟨1, _⟩ => exact Fin.ext rfl
  | ⟨2, _⟩ => exact Fin.ext (by have : k.val = 0 := by omega
                                exact this)

theorem inRange_at (v : IVec S8192x1x1 32) (r : Fin 8192) (hv : (v (ix3 r (0 : Fin 1) (0 : Fin 1))).toNat < 64) : inRange v (ix2 r (0 : Fin 1)) = 1#1 := by
  have h : S8192x1x1.Reduces [2] S8192x1 := by decide
  unfold inRange
  rw [Host.reduce_eq_fold_single IntOp.andi _ _ reducesTo_S8192x1x1_S8192x1_d2 h h_S_]
  have e : ∀ k : Fin 1, (andi (cmpi .sge v (broadcastInDim S8192x1x1 ![] bcast_S_S8192x1x1 (constantI S_ 32 0#32)))
      (cmpi .sle v (broadcastInDim S8192x1x1 ![0, 1, 2] bcast_S1x1x1_S8192x1x1_0_1_2 (broadcastInDim S1x1x1 ![2] bcast_S1_S1x1x1_2 (constantI S1 32 63#32))))) (h.lift (ix2 r (0 : Fin 1)) k) = 1#1 := fun k => by
    rw [lift3]
    show IntOp.andi (IntOp.cmpi .sge (v (ix3 r (0 : Fin 1) (0 : Fin 1))) 0#32) (IntOp.cmpi .sle (v (ix3 r (0 : Fin 1) (0 : Fin 1))) 63#32) = 1#1
    rw [(StableHlo.Predicate.sge_iff_toNat (by omega) (by decide)).2 (by simp), (StableHlo.Predicate.sle_iff_toNat (by omega) (by decide)).2 (by
      show _ ≤ 63; omega)]
    exact one_andi
  rw [show ((andi (cmpi .sge v (broadcastInDim S8192x1x1 ![] bcast_S_S8192x1x1 (constantI S_ 32 0#32)))
      (cmpi .sle v (broadcastInDim S8192x1x1 ![0, 1, 2] bcast_S1x1x1_S8192x1x1_0_1_2 (broadcastInDim S1x1x1 ![2] bcast_S1_S1x1x1_2 (constantI S1 32 63#32))))) ∘ h.lift (ix2 r (0 : Fin 1)))
      = fun _ : Fin 1 => 1#1 from funext e]
  rfl

/-- A gather of one entry of each row, its column named by that row's start index: entry (r, 0) is the operand at row r
    and the column named. -/
theorem gatherAlong_at {α : Type} {n m : ℕ} (wf : GatherDims.WF ⟨2, ![n, m]⟩ ⟨3, ![n, 1, 1]⟩ ⟨2, ![n, 1]⟩ [] [1] [0] [1] [0] 2 ![1, 1]) (x : (⟨2, ![n, m]⟩ : Shape).Idx → α)
    (idx : IVec ⟨3, ![n, 1, 1]⟩ 32) (r : Fin n) (b : Fin m) (hb : idx (ix3 r (0 : Fin 1) (0 : Fin 1)) = BitVec.ofNat 32 b.val) (hm : m < 2 ^ 31)
    (d : GatherDims ⟨2, ![n, m]⟩ ⟨3, ![n, 1, 1]⟩ ⟨2, ![n, 1]⟩)
    (hd : d = { offsetDims := [], collapsedSliceDims := [1], operandBatchingDims := [0], startIndicesBatchingDims := [0], startIndexMap := [1], indexVectorDim := 2, sliceSizes := ![1, 1], wf := wf }) :
    Host.gather d x idx (ix2 r (0 : Fin 1)) = x (ix2 r b) := by
  subst hd
  unfold Host.gather
  refine congrArg x (funext fun a => Fin.ext ?_)
  generalize hD : (GatherDims.mk (s := ⟨2, ![n, m]⟩) (si := ⟨3, ![n, 1, 1]⟩) (t := ⟨2, ![n, 1]⟩) [] [1] [0] [0] [1] 2 ![1, 1] wf) = D
  match a with
  | ⟨0, _⟩ =>
    show D.start (ix2 r (0 : Fin 1)) idx 0 + D.batchCoord (ix2 r (0 : Fin 1)) 0 + D.offCoord (ix2 r (0 : Fin 1)) 0 = r.val
    subst hD
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show D.start (ix2 r (0 : Fin 1)) idx 1 + D.batchCoord (ix2 r (0 : Fin 1)) 1 + D.offCoord (ix2 r (0 : Fin 1)) 1 = b.val
    subst hD
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine Eq.trans (b := min (idx (ix3 r (0 : Fin 1) (0 : Fin 1))).toInt.toNat (m - 1)) ?_ ?_
    · refine congrArg (fun w : BitVec 32 => min w.toInt.toNat (m - 1)) (congrArg idx (funext fun x => Fin.ext ?_))
      match x with
      | ⟨0, _⟩ => rfl
      | ⟨1, _⟩ => rfl
      | ⟨2, _⟩ => rfl
    · rw [hb, StableHlo.Predicate.toInt_ofNat_small _ (by have := b.isLt; omega)]
      have := b.isLt
      omega

/-- An action in range picks its entry of the row. -/
theorem picked_at (l : FVec Ideal S8192x64 .f32) (a14 : IVec S8192 32) (r : Fin 8192) (b : Fin 64) (hb : a14 (ix1 r) = BitVec.ofNat 32 b.val) :
    picked l (actions a14) (ix1 r) = row l r b := by
  have hb' := word_lt (by have := b.isLt; omega) hb
  have ha := actions_at a14 r (by have := b.isLt; omega)
  unfold picked
  rw [cast1_at]
  show Scalar.select (inRange (actions a14) (ix2 r (0 : Fin 1))) _ _ = _
  rw [inRange_at _ _ (by rw [ha]; have := b.isLt; omega), select_one]
  exact gatherAlong_at Facts₀.gather_S8192x64_S8192x1x1_S8192x1_n_1_0_0_1_2_11_wf l _ r b (by rw [ha, hb]) (by norm_num) _ rfl

/-! ## The per-batch head -/

theorem counts_at (a11 : IVec S16384 32) (b : Fin 16) : counts a11 (ix1 b) = max 1 (segCount (fun n : Fin 16384 => a11 (ix1 n)) b) := by
  show max _ _ = _
  rw [broadcastInDim_scalar_apply]
  refine congrArg₂ max (Ideal.ofBits_one_f32) ?_
  refine (scatterOnes_at Facts₀.scatter_S16_S16384x1_S16384_n_0_0_1_wf _ (fun i => ?_) _ _ (fun i => ?_) b).trans ?_
  · rw [broadcastInDim_scalar_apply]; exact Ideal.ofBits_zero_f32
  · rw [broadcastInDim_scalar_apply]; exact Ideal.ofBits_one_f32
  · exact congrArg (fun w => segCount w b) (funext fun n => bcastOne_at _ _ n)
theorem sums_at (x : FVec Ideal S16384x512 .f32) (a11 : IVec S16384 32) (b : Fin 16) (j : Fin 512) :
    Host.scatterAdd scatter_S16x512_S16384x1_S16384x512_1_0_0_1 (broadcastInDim S16x512 ![] bcast_S_S16x512 (constant S_ .f32 0x00000000#32))
      (broadcastInDim S16384x1 ![0] bcast_S16384_S16384x1_0 a11) x (ix2 b j) = segSum (row x) (fun n => a11 (ix1 n)) b j := by
  refine (scatterRows_at Facts₀.scatter_S16x512_S16384x1_S16384x512_1_0_0_1_wf _ (fun i => ?_) _ _ b j).trans ?_
  · rw [broadcastInDim_scalar_apply]; exact Ideal.ofBits_zero_f32
  · exact congrArg (fun w => segSum (row x) w b j) (funext fun n => bcastOne_at _ _ n)
/-- With a zero bias, batch b's head is its segment sums over its count (at least one), times the weights. -/
theorem head_at (x : FVec Ideal S16384x512 .f32) (a9 : FVec Ideal S512x1 .f32) (a10 : FVec Ideal S1 .f32) (h10 : ∀ i, a10 i = (0 : EReal)) (a11 : IVec S16384 32) (b : Fin 16) :
    head x a9 a10 a11 (ix2 b (0 : Fin 1)) = vmul (fun j => Ideal.div (segSum (row x) (fun n => a11 (ix1 n)) b j) (max 1 (segCount (fun n : Fin 16384 => a11 (ix1 n)) b))) a9 0 := by
  show (_ + _ : EReal) = _
  rw [dot_at dot_S16x512_S512x1_S16x1_1_0_0_1_n_n rfl, bcastRow_at, h10, add_zero]
  refine congrArg (fun y => vmul y a9 0) (funext fun j => ?_)
  refine (hostDiv_at _ _ _).trans ?_
  rw [bcastCol_at, counts_at, sums_at]

end Cert.Proof.Ref
-- ==== Proof.KerPay.lean ====
/-
  What the two TensorCore kernels compute from the blocks they read, at one element: logits, segment sums and counts,
  the per-batch head, log-probabilities and entropies.
-/
module

public import proofs.«01_k».proof.Proof.Ops
public import proofs.«01_k».proof.Proof.Vals

@[expose] public section

noncomputable section

namespace Cert.Proof.KI

open Cert.KernelIdeal Cert.KernelIdeal.Gen Idealize.ShloMosaic Idealize.ShloMosaic.ValueIdx Cert.Proof.Val
open scoped BigOperators

/-! ## The first kernel -/

section Main
variable (x : FVec Ideal S2048x256 .f32) (we : FVec Ideal S256x512 .f32) (w1 : FVec Ideal S512x2048 .f32) (w2 : FVec Ideal S2048x512 .f32)
  (wa : FVec Ideal S512x64 .f32) (bt : IVec S2048 32)

theorem hid_row (e : FVec Ideal S2048x512 .f32) (n : Fin 2048) :
    row (maximumf (matmul dot_S2048x512_S512x2048_S2048x2048_1_0_0_1_n_n none e w1 (constant S2048x2048 .f32 0x00000000#32)) (broadcast S2048x2048 (Scalar.ofBits .f32 0x00000000#32 : Ideal .f32))) n
      = fun k => max (vmul (row e n) w1 k) 0 := funext fun k => by
  show max _ (Ideal.ofBits .f32 0x00000000#32) = _
  rw [Ideal.ofBits_zero_f32]
  exact congrArg (fun y => max y 0) (matmul_at _ rfl _ _ _ _ _)
/-- Row n of a block's features are the features of its entity n. -/
theorem pay4_row (n : Fin 2048) : row (k0_pay4 (F := Ideal) x we w1 w2) n = feat (row x n) we w1 w2 := funext fun j => by
  have e : row (matmul dot_S2048x256_S256x512_S2048x512_1_0_0_1_n_n none x we (constant S2048x512 .f32 0x00000000#32)) n = vmul (row x n) we :=
    funext fun k => matmul_at _ rfl _ _ _ _ _
  unfold k0_pay4 feat
  refine congrArg₂ (fun y z : EReal => y + z) (congrFun e j) ?_
  refine (matmul_at _ rfl _ _ _ _ _).trans ?_
  rw [hid_row, e]
/-- Its logits are the features times the action weights. -/
theorem pay5_at (n : Fin 2048) (k : Fin 64) : k0_pay5 (F := Ideal) x we w1 w2 wa (ix2 n (⟨k.val, by have := k.isLt; omega⟩ : Fin 128)) = vmul (feat (row x n) we w1 w2) wa k := by
  unfold k0_pay5
  refine (concatenate_pair_apply_left (t := S2048x128) (s₁ := S2048x64) (s₂ := S2048x64) (1 : Fin 2) _ _ concatenates_S2048x64_S2048x64_S2048x128_d1 _ rfl (ix2 n k) (fun b => ?_)).trans ?_
  · match b with
    | ⟨0, _⟩ => rfl
    | ⟨1, _⟩ => rfl
  · refine (matmul_at _ rfl _ _ _ _ _).trans ?_
    rw [pay4_row]

theorem bit_float (w : BitVec 1) : (((w.setWidth 32).toInt : ℝ) : EReal) = if w = 1#1 then 1 else 0 := by
  rcases (show w = 0#1 ∨ w = 1#1 by revert w; decide) with rfl | rfl
  · rw [if_neg (by decide), show ((0#1).setWidth 32).toInt = 0 by decide]; simp
  · rw [if_pos rfl, show ((1#1).setWidth 32).toInt = 1 by decide]; simp
/-- Which entities are in a batch, as ones and zeros. -/
theorem pay6_at (b : Fin 16) (n : Fin 2048) : k0_pay6 (F := Ideal) bt (ix2 b n) = if bt (ix1 n) = BitVec.ofNat 32 b.val then (1 : EReal) else 0 := by
  have e1 : broadcastTo S16x2048 (shapeCast S1x2048 bt shapeCasts_S2048_S1x2048) broadcasts_S1x2048_S16x2048 (ix2 b n) = bt (ix1 n) := by
    refine (broadcastTo_apply _ _ _ (ix2 (0 : Fin 1) n) (fun a => ?_)).trans (shapeCast_apply _ _ _ _ ?_)
    · match a with
      | ⟨0, _⟩ => rfl
      | ⟨1, _⟩ => rfl
    · rw [Shape.rowMajor_val_one, Shape.rowMajor_val_two]
      show n.val = 0 * 2048 + n.val
      omega
  have e2 : broadcastTo S16x2048 (iota .tc S16x1 32 [0] iota_S16x1_d0_w32) broadcasts_S16x1_S16x2048 (ix2 b n) = BitVec.ofNat 32 b.val := by
    refine (broadcastTo_apply _ _ _ (ix2 b (0 : Fin 1)) (fun a => ?_)).trans (iota_single_apply _ _ _ _ _ _)
    match a with
    | ⟨0, _⟩ => rfl
    | ⟨1, _⟩ => rfl
  unfold k0_pay6
  refine (bit_float (IntOp.cmpi .eq (broadcastTo S16x2048 (shapeCast S1x2048 bt shapeCasts_S2048_S1x2048) broadcasts_S1x2048_S16x2048 (ix2 b n))
    (broadcastTo S16x2048 (iota .tc S16x1 32 [0] iota_S16x1_d0_w32) broadcasts_S16x1_S16x2048 (ix2 b n)))).trans ?_
  rw [e1, e2]
  exact if_congr StableHlo.Predicate.cmpi_eq_iff rfl rfl
/-- A block's segment sums. -/
theorem pay7_at (b : Fin 16) (j : Fin 512) : k0_pay7 (F := Ideal) x we w1 w2 bt (ix2 b j) = segSum (fun n => feat (row x n) we w1 w2) (fun n : Fin 2048 => bt (ix1 n)) b j := by
  unfold k0_pay7
  refine (matmul_at _ rfl _ _ _ _ _).trans (Finset.sum_congr rfl fun n _ => ?_)
  refine (congrArg (fun y => y * _) (pay6_at bt b n)).trans ?_
  have e : k0_pay4 (F := Ideal) x we w1 w2 (ix2 n j) = feat (row x n) we w1 w2 j := congrFun (pay4_row x we w1 w2 n) j
  rw [e]
  split
  · exact one_mul _
  · exact zero_mul _
/-- A block's segment counts. -/
theorem pay8_at (b : Fin 16) : k0_pay8 (F := Ideal) bt (ix2 b (0 : Fin 1)) = segCount (fun n : Fin 2048 => bt (ix1 n)) b := by
  unfold k0_pay8
  refine (matmul_at _ rfl _ _ _ _ _).trans (Finset.sum_congr rfl fun n _ => ?_)
  refine (congrArg (fun y => y * Ideal.ofBits .f32 0x3F800000#32) (pay6_at bt b n)).trans ?_
  rw [Ideal.ofBits_one_f32, mul_one]
theorem pay9_at (i : S16x512.Idx) : k0_pay9 (F := Ideal) x we w1 w2 bt i = k0_pay7 x we w1 w2 bt i := by
  unfold k0_pay9; exact congrFun (shapeCast_self _ _) i
theorem pay10_at (i : S16x1.Idx) : k0_pay10 (F := Ideal) bt i = k0_pay8 bt i := by
  unfold k0_pay10; exact congrFun (shapeCast_self _ _) i
end Main

theorem pay1_at (p s : FVec Ideal S16x512 .f32) (i : S16x512.Idx) : k0_pay1 (F := Ideal) p s i = (s i + p i : EReal) := by
  unfold k0_pay1; exact congrFun (shapeCast_self _ _) i
theorem pay2_at (p s : FVec Ideal S16x1 .f32) (i : S16x1.Idx) : k0_pay2 (F := Ideal) p s i = (s i + p i : EReal) := by
  unfold k0_pay2; exact congrFun (shapeCast_self _ _) i
/-- The per-batch head of segment sums s and counts k. -/
theorem pay3_at (s : FVec Ideal S16x512 .f32) (k : FVec Ideal S16x1 .f32) (w : FVec Ideal S512x1 .f32) (b : Fin 16) :
    k0_pay3 (F := Ideal) s k w (ix2 b (0 : Fin 1)) = vmul (fun j => Ideal.div (s (ix2 b j)) (max (k (ix2 b (0 : Fin 1))) 1)) w 0 := by
  unfold k0_pay3
  refine (matmul_at _ rfl _ _ _ _ _).trans (congrArg (fun y => vmul y w 0) (funext fun j => ?_))
  refine congrArg (Ideal.div (s (ix2 b j))) ?_
  refine (broadcastTo_apply _ _ _ (ix2 b (0 : Fin 1)) (fun a => ?_)).trans ?_
  · match a with
    | ⟨0, _⟩ => rfl
    | ⟨1, _⟩ => rfl
  · exact congrArg (max (k (ix2 b (0 : Fin 1)))) Ideal.ofBits_one_f32

/-! ## The second kernel -/

section Head
variable (x : FVec Ideal S1024x128 .f32)

/-- The logits of a gathered row: its first 64 lanes. -/
def lg (r : Fin 1024) : Fin 64 → EReal := fun k => x (ix2 r (⟨k.val, by have := k.isLt; omega⟩ : Fin 128))

theorem p1_at (i : S1024x128.Idx) : k2_pay1 (F := Ideal) x i = x i := by
  unfold k2_pay1; exact congrFun (shapeCast_self _ _) i
theorem p2_row (r : Fin 1024) : row (k2_pay2 (F := Ideal) x) r = lg x r := funext fun k => by
  unfold k2_pay2
  refine (extractStridedSlice_apply _ (k2_pay1 (F := Ideal) x) slices_S1024x128_o0_0_S1024x64 (ix2 r k) (ix2 r (⟨k.val, by have := k.isLt; omega⟩ : Fin 128)) (fun a => ?_)).trans (p1_at x _)
  match a with
  | ⟨0, _⟩ => show r.val = 0 + r.val; omega
  | ⟨1, _⟩ => show k.val = 0 + k.val; omega
theorem col_at {α : Type} (v : S1024.Idx → α) (r : Fin 1024) : shapeCast S1024x1 v shapeCasts_S1024_S1024x1 (ix2 r (0 : Fin 1)) = v (ix1 r) := by
  refine shapeCast_apply v _ _ _ ?_
  rw [Shape.rowMajor_val_one, Shape.rowMajor_val_two]
  show r.val = r.val * 1 + 0
  omega
theorem flat_at {α : Type} (v : S1024x1.Idx → α) (r : Fin 1024) : shapeCast S1024 v shapeCasts_S1024x1_S1024 (ix1 r) = v (ix2 r (0 : Fin 1)) := by
  refine shapeCast_apply v _ _ _ ?_
  rw [Shape.rowMajor_val_one, Shape.rowMajor_val_two]
  show r.val * 1 + 0 = r.val
  omega
theorem p3_at (r : Fin 1024) : k2_pay3 (F := Ideal) x (ix2 r (0 : Fin 1)) = rowMax (lg x r) := by
  unfold k2_pay3
  refine (col_at _ r).trans ((maxRow_at _ _ _ _ r).trans ?_)
  rw [p2_row]
theorem p4_row (r : Fin 1024) : row (k2_pay4 (F := Ideal) x) r = fun k => Ideal.exp (lg x r k - rowMax (lg x r)) := funext fun k => by
  unfold k2_pay4
  refine congrArg Ideal.exp (congrArg₂ (fun y z : EReal => y - z) (congrFun (p2_row x r) k) ?_)
  refine (broadcastTo_apply _ _ _ (ix2 r (0 : Fin 1)) (fun a => ?_)).trans (p3_at x r)
  match a with
  | ⟨0, _⟩ => rfl
  | ⟨1, _⟩ => rfl
theorem p5_at (r : Fin 1024) : k2_pay5 (F := Ideal) x (ix2 r (0 : Fin 1)) = expSum (lg x r) := by
  unfold k2_pay5
  refine (col_at _ r).trans ((sumRow_at _ _ _ _ r).trans ?_)
  rw [p4_row]
  rfl
theorem p6_at (r : Fin 1024) : k2_pay6 (F := Ideal) x (ix2 r (0 : Fin 1)) = lse (lg x r) := by
  unfold k2_pay6 lse
  exact congrArg₂ (fun y z : EReal => y + z) (p3_at x r) (congrArg Ideal.log (p5_at x r))
/-- The first result of a row: lane 64 less the log-sum-exp of the logits. -/
theorem p7_at (r : Fin 1024) : k2_pay7 (F := Ideal) x (ix1 r) = (x (ix2 r (64 : Fin 128)) - lse (lg x r) : EReal) := by
  unfold k2_pay7
  refine (flat_at _ r).trans (congrArg₂ (fun y z : EReal => y - z) ?_ (p6_at x r))
  refine (extractStridedSlice_apply _ _ _ _ (ix2 r (64 : Fin 128)) (fun a => ?_)).trans (p1_at x _)
  match a with
  | ⟨0, _⟩ => show r.val = 0 + r.val; omega
  | ⟨1, _⟩ => rfl
/-- The second: the log-sum-exp less the mean logit. -/
theorem p8_at (r : Fin 1024) : k2_pay8 (F := Ideal) x (ix1 r)
    = lse (lg x r) - Ideal.div (∑ k, Ideal.exp (lg x r k - rowMax (lg x r)) * lg x r k) (expSum (lg x r)) := by
  unfold k2_pay8
  refine (flat_at _ r).trans (congrArg₂ (fun y z : EReal => y - z) (p6_at x r) ?_)
  refine congrArg₂ Ideal.div ?_ (p5_at x r)
  refine (col_at _ r).trans ((sumRow_at _ _ _ _ r).trans (Finset.sum_congr rfl fun k _ => ?_))
  exact congrArg₂ (fun y z : EReal => y * z) (congrFun (p4_row x r) k) (congrFun (p2_row x r) k)
end Head

end Cert.Proof.KI
-- ==== Proof.KerVal.lean ====
/-
  The kernel's arrays read at one element: the first region's logits, the gathered rows, and the three results as
  functions of the arguments.
-/
module

public import proofs.«01_k».proof.Proof.KerPay
public import Idealize.ShloMosaic.Lib.Pipeline.ValueKit.Geometry

@[expose] public section

noncomputable section

namespace Cert.Proof.KI

open Cert.KernelIdeal Cert.KernelIdeal.Gen Idealize.ShloMosaic Idealize.ShloMosaic.ValueIdx Cert.Proof.Val
open scoped BigOperators

/-! ## The blocks, as parts of their arrays -/

/-- A block at index zero on every axis sits at its own coordinates. -/
theorem emb_zero {G : Pipeline.Grid} (w : Pipeline.Window sig G) (t : Fin G.N) (h : ∀ a, w.index t a = 0) (y : (w.xblock (G.coords t)).Idx) (i : w.shape.Idx)
    (hi : ∀ a, (i a : ℕ) = y a) : (w.rect t).emb y = i :=
  funext fun a => Fin.ext ((w.rect_emb_val_of_index_zero t a (h a) y).trans (hi a).symm)

theorem idx0_0 : ∀ t : Fin grid0.N, win0_0.index t 0 = t.val ∧ win0_0.index t 1 = 0 := by decide
theorem idx0_1 : ∀ t : Fin grid0.N, win0_1.index t 0 = t.val := by decide
theorem idx0_2 : ∀ (t : Fin grid0.N) (a : Fin 2), win0_2.index t a = 0 := by decide
theorem idx0_3 : ∀ (t : Fin grid0.N) (a : Fin 2), win0_3.index t a = 0 := by decide
theorem idx0_4 : ∀ (t : Fin grid0.N) (a : Fin 2), win0_4.index t a = 0 := by decide
theorem idx0_5 : ∀ (t : Fin grid0.N) (a : Fin 2), win0_5.index t a = 0 := by decide
theorem idx0_6 : ∀ (t : Fin grid0.N) (a : Fin 2), win0_6.index t a = 0 := by decide
theorem idx0_7 : ∀ t : Fin grid0.N, win0_7.index t 0 = t.val ∧ win0_7.index t 1 = 0 := by decide
theorem idx2_0 : ∀ t : Fin grid2.N, win2_0.index t 0 = t.val ∧ win2_0.index t 1 = 0 := by decide
theorem idx2_1 : ∀ t : Fin grid2.N, win2_1.index t 0 = t.val := by decide
theorem idx2_2 : ∀ t : Fin grid2.N, win2_2.index t 0 = t.val := by decide

/-- Entity number i of block t. -/
def ent (t : Fin 8) (i : Fin 2048) : Fin 16384 := ⟨t.val * 2048 + i.val, by have := t.isLt; have := i.isLt; omega⟩
/-- Actor number i of block t. -/
def act (t : Fin 8) (i : Fin 1024) : Fin 8192 := ⟨t.val * 1024 + i.val, by have := t.isLt; have := i.isLt; omega⟩

theorem lt0 (t : Fin cfg0.N) : t.val < 8 := lt_of_lt_of_eq t.isLt N_0
theorem lt2 (t : Fin cfg2.N) : t.val < 8 := lt_of_lt_of_eq t.isLt N_2

section Blocks
variable (V : Vals Ideal) (c : Dev nD) (t : Fin cfg0.N)

theorem in0_0_row (n : Fin 2048) : row (N := 2048) (K := 256) (in0_0 V c t) n = row (N := 16384) (K := 256) (V c main_arg0) (ent ⟨t.val, lt0 t⟩ n) := funext fun k => by
  show V c main_arg0 ((win0_0.rect t).emb (ix2 n k)) = V c main_arg0 _
  refine congrArg _ (funext fun a => Fin.ext ?_)
  refine (Pipeline.Window.rect_emb_val win0_0 t (ix2 n k) a).trans ?_
  match a with
  | ⟨0, _⟩ => exact congrArg (fun x => x * 2048 + n.val) (idx0_0 t).1
  | ⟨1, _⟩ => exact (congrArg (fun x => x * 256 + k.val) (idx0_0 t).2).trans (show 0 * 256 + k.val = k.val by omega)
theorem in0_1_at (n : Fin 2048) : in0_1 V c t (ix1 n) = V c main_arg11 (ix1 (ent ⟨t.val, lt0 t⟩ n)) := by
  show V c main_arg11 ((win0_1.rect t).emb (ix1 n)) = V c main_arg11 _
  refine congrArg _ (funext fun a => Fin.ext ?_)
  refine (Pipeline.Window.rect_emb_val win0_1 t (ix1 n) a).trans ?_
  match a with
  | ⟨0, _⟩ => exact congrArg (fun x => x * 2048 + n.val) (idx0_1 t)
theorem in0_2_eq : in0_2 V c t = V c main_arg1 := funext fun i => congrArg (V c main_arg1) (emb_zero win0_2 t (idx0_2 t) i i fun _ => rfl)
theorem in0_3_eq : in0_3 V c t = V c main_arg3 := funext fun i => congrArg (V c main_arg3) (emb_zero win0_3 t (idx0_3 t) i i fun _ => rfl)
theorem in0_4_eq : in0_4 V c t = V c main_arg5 := funext fun i => congrArg (V c main_arg5) (emb_zero win0_4 t (idx0_4 t) i i fun _ => rfl)
theorem in0_5_eq : in0_5 V c t = V c main_arg7 := funext fun i => congrArg (V c main_arg7) (emb_zero win0_5 t (idx0_5 t) i i fun _ => rfl)
theorem in0_6_eq : in0_6 V c t = V c main_arg9 := funext fun i => congrArg (V c main_arg9) (emb_zero win0_6 t (idx0_6 t) i i fun _ => rfl)
end Blocks

/-! ## The first region -/

section First
variable (V : Vals Ideal) (c : Dev nD)

/-- The features of entity n. -/
def fe (n : Fin 16384) : Fin 512 → EReal :=
  feat (row (N := 16384) (K := 256) (V c main_arg0) n) (A := 256) (B := 512) (C := 2048) (V c main_arg1) (V c main_arg3) (V c main_arg5)
/-- Its logits. -/
def lo (n : Fin 16384) : Fin 64 → EReal := vmul (K := 512) (N := 64) (fe V c n) (V c main_arg7)
/-- Its batch word. -/
def ba (n : Fin 16384) : BitVec 32 := V c main_arg11 (ix1 n)

/-- A block's logits. -/
theorem pay5_block (t : Fin cfg0.N) (n : Fin 2048) (k : Fin 64) :
    k0_pay5 (in0_0 V c t) (in0_2 V c t) (in0_3 V c t) (in0_4 V c t) (in0_5 V c t) (ix2 n (⟨k.val, by have := k.isLt; omega⟩ : Fin 128)) = lo V c (ent ⟨t.val, lt0 t⟩ n) k := by
  refine (pay5_at _ _ _ _ _ n k).trans ?_
  rw [in0_0_row, in0_2_eq, in0_3_eq, in0_4_eq, in0_5_eq]
  rfl
/-- The first region leaves each entity's logits in its row's first 64 lanes. -/
theorem z_at (n : Fin 16384) (k : Fin 64) : (dat0 V c).arrAt 7 cfg0.N (ix2 n (⟨k.val, by have := k.isLt; omega⟩ : Fin 128)) = lo V c n k := by
  have H := Pipeline.Dat.arrAt_forall_of_covers (dat0 V c) 7
    (fun (i : S16384x128.Idx) (v : EReal) => ∀ k : Fin 64, (i 1).val = k.val → v = lo V c (i 0) k) (by decide +kernel) (fun t _ y k hk => ?_)
    (ix2 n (⟨k.val, by have := k.isLt; omega⟩ : Fin 128)) (Memref.isWhole_whole _)
  · exact H k rfl
  · have h0 := Pipeline.Window.rect_emb_val win0_7 t y 0
    have h1 := Pipeline.Window.rect_emb_val win0_7 t y 1
    rw [(idx0_7 t).1] at h0
    rw [(idx0_7 t).2] at h1
    have hk' : ((win0_7.rect t).emb y 1).val = k.val := hk
    have hy : y = ix2 (y 0 : Fin 2048) (⟨k.val, by have := k.isLt; omega⟩ : Fin 128) := by
      funext a
      match a with
      | ⟨0, _⟩ => rfl
      | ⟨1, _⟩ => exact Fin.ext (by show (y 1).val = k.val; omega)
    have he : ((win0_7.rect t).emb y 0 : Fin 16384) = ent ⟨t.val, lt0 t⟩ (y 0) := Fin.ext h0
    show k0_pay5 (in0_0 V c t) (in0_2 V c t) (in0_3 V c t) (in0_4 V c t) (in0_5 V c t) y = lo V c ((win0_7.rect t).emb y 0) k
    rw [he, hy]
    exact pay5_block V c t (y 0) k

/-- A block's segment sums. -/
theorem pay7_block (t : Fin cfg0.N) (b : Fin 16) (j : Fin 512) :
    k0_pay7 (in0_0 V c t) (in0_2 V c t) (in0_3 V c t) (in0_4 V c t) (in0_1 V c t) (ix2 b j)
      = ∑ i : Fin 2048, if ba V c (ent ⟨t.val, lt0 t⟩ i) = BitVec.ofNat 32 b.val then fe V c (ent ⟨t.val, lt0 t⟩ i) j else 0 := by
  refine (pay7_at _ _ _ _ _ b j).trans (Finset.sum_congr rfl fun i _ => ?_)
  beta_reduce
  rw [in0_0_row, in0_1_at, in0_2_eq, in0_3_eq, in0_4_eq]
  rfl
theorem pay8_block (t : Fin cfg0.N) (b : Fin 16) :
    k0_pay8 (F := Ideal) (in0_1 V c t) (ix2 b (0 : Fin 1)) = ∑ i : Fin 2048, if ba V c (ent ⟨t.val, lt0 t⟩ i) = BitVec.ofNat 32 b.val then 1 else 0 := by
  refine (pay8_at _ b).trans (Finset.sum_congr rfl fun i _ => ?_)
  beta_reduce
  rw [in0_1_at]
  rfl

/-- After point n the accumulator holds the first n + 1 blocks' sums. -/
theorem segAt_at (b : Fin 16) (j : Fin 512) : ∀ n : ℕ, segAt V c n (ix2 b j)
      = ∑ t ∈ Finset.range (n + 1), ∑ i : Fin 2048, if ba V c (ent ⟨(pt0 t).val, lt0 _⟩ i) = BitVec.ofNat 32 b.val then fe V c (ent ⟨(pt0 t).val, lt0 _⟩ i) j else 0
  | 0 => by
    rw [Finset.sum_range_one]
    exact (pay9_at _ _ _ _ _ _).trans (pay7_block V c (pt0 0) b j)
  | n + 1 => by
    rw [Finset.sum_range_succ, ← segAt_at b j n, ← pay7_block]
    exact pay1_at _ _ _
theorem cntAt_at (b : Fin 16) : ∀ n : ℕ, cntAt V c n (ix2 b (0 : Fin 1))
      = ∑ t ∈ Finset.range (n + 1), ∑ i : Fin 2048, if ba V c (ent ⟨(pt0 t).val, lt0 _⟩ i) = BitVec.ofNat 32 b.val then (1 : EReal) else 0
  | 0 => by
    rw [Finset.sum_range_one]
    exact (pay10_at _ _).trans (pay8_block V c (pt0 0) b)
  | n + 1 => by
    rw [Finset.sum_range_succ, ← cntAt_at b n, ← pay8_block]
    exact pay2_at _ _ _

/-- A sum over all the entities is the sum of the eight blocks' sums. -/
theorem sum_blocks (f : Fin 16384 → EReal) : ∑ t ∈ Finset.range (7 + 1), ∑ i : Fin 2048, f (ent ⟨(pt0 t).val, lt0 _⟩ i) = ∑ n, f n := by
  rw [Finset.sum_range]
  have e : ∑ n, f n = ∑ p : Fin 8 × Fin 2048, f (ent p.1 p.2) := by
    refine (Fintype.sum_equiv (finProdFinEquiv (m := 8) (n := 2048)) _ _ fun p => congrArg f (Fin.ext ?_)).symm
    show p.1.val * 2048 + p.2.val = p.2.val + 2048 * p.1.val
    omega
  rw [e, Fintype.sum_prod_type]
  refine Finset.sum_congr rfl fun t _ => Finset.sum_congr rfl fun i _ => congrArg (fun t => f (ent t i)) (Fin.ext ?_)
  exact Nat.mod_eq_of_lt t.isLt

/-- The first region's second result. -/
theorem aux_at (b : Fin 16) : (dat0 V c).arrAt 8 cfg0.N (ix2 b (0 : Fin 1))
    = vmul (K := 512) (N := 1) (fun j => Ideal.div (segSum (fe V c) (ba V c) b j) (max (segCount (ba V c) b) 1)) (V c main_arg9) 0 := by
  refine (Pipeline.Dat.arrAt_emb_eq_after_last (dat0 V c) 8 (pt0 7) (by decide +kernel) (ix2 b (0 : Fin 1))).trans ?_
  show k0_pay3 (segAt V c 7) (cntAt V c 7) (in0_6 V c (pt0 7)) (ix2 b (0 : Fin 1)) = _
  rw [in0_6_eq]
  refine (pay3_at _ _ _ b).trans (congrArg (fun y => vmul y _ 0) (funext fun j => ?_))
  rw [segAt_at, cntAt_at]
  rw [sum_blocks fun n => if ba V c n = BitVec.ofNat 32 b.val then fe V c n j else 0, sum_blocks fun n => if ba V c n = BitVec.ofNat 32 b.val then 1 else 0]
  rfl
end First

/-! ## The second region -/

section Second
variable (V : Vals Ideal) (c : Dev nD)

/-- The gathered rows. -/
def gr : S8192x128.Idx → EReal := V c main_v1
/-- The logits in gathered row r. -/
def gl (r : Fin 8192) : Fin 64 → EReal := fun k => gr V c (ix2 r (⟨k.val, by have := k.isLt; omega⟩ : Fin 128))

theorem rows2_at (t : Fin cfg2.N) (n : Fin 1024) (k : Fin 128) : rows2 V c t (ix2 n k) = gr V c (ix2 (act ⟨t.val, lt2 t⟩ n) k) := by
  show gr V c ((win2_0.rect t).emb (ix2 n k)) = gr V c _
  refine congrArg _ (funext fun a => Fin.ext ?_)
  refine (Pipeline.Window.rect_emb_val win2_0 t (ix2 n k) a).trans ?_
  match a with
  | ⟨0, _⟩ => exact congrArg (fun x => x * 1024 + n.val) (idx2_0 t).1
  | ⟨1, _⟩ => exact (congrArg (fun x => x * 128 + k.val) (idx2_0 t).2).trans (show 0 * 128 + k.val = k.val by omega)
theorem lg_block (t : Fin cfg2.N) (n : Fin 1024) : lg (rows2 V c t) n = gl V c (act ⟨t.val, lt2 t⟩ n) := funext fun k => rows2_at V c t n _

theorem p7_block (t : Fin cfg2.N) (n : Fin 1024) : k2_pay7 (rows2 V c t) (ix1 n)
    = (gr V c (ix2 (act ⟨t.val, lt2 t⟩ n) (64 : Fin 128)) - lse (gl V c (act ⟨t.val, lt2 t⟩ n)) : EReal) := by
  refine (p7_at _ n).trans ?_
  rw [rows2_at, lg_block]
theorem p8_block (t : Fin cfg2.N) (n : Fin 1024) : k2_pay8 (rows2 V c t) (ix1 n)
    = lse (gl V c (act ⟨t.val, lt2 t⟩ n)) - Ideal.div (∑ k, Ideal.exp (gl V c (act ⟨t.val, lt2 t⟩ n) k - rowMax (gl V c (act ⟨t.val, lt2 t⟩ n))) * gl V c (act ⟨t.val, lt2 t⟩ n) k)
        (expSum (gl V c (act ⟨t.val, lt2 t⟩ n))) := by
  refine (p8_at _ n).trans ?_
  rw [lg_block]

/-- The second region's first result: lane 64 less the log-sum-exp of the row's logits. -/
theorem lp_at (r : Fin 8192) : (dat2 V c).arrAt 1 cfg2.N (ix1 r) = (gr V c (ix2 r (64 : Fin 128)) - lse (gl V c r) : EReal) := by
  refine Pipeline.Dat.arrAt_forall_of_covers (dat2 V c) 1
    (fun (i : S8192.Idx) (v : EReal) => v = (gr V c (ix2 (i 0) (64 : Fin 128)) - lse (gl V c (i 0)) : EReal)) (by decide +kernel) (fun t _ y => ?_)
    (ix1 r) (Memref.isWhole_whole _)
  have h0 := Pipeline.Window.rect_emb_val win2_1 t y 0
  rw [idx2_1 t] at h0
  have hy : y = ix1 (y 0 : Fin 1024) := by
    funext a
    match a with
    | ⟨0, _⟩ => rfl
  have he : ((win2_1.rect t).emb y 0 : Fin 8192) = act ⟨t.val, lt2 t⟩ (y 0) := Fin.ext h0
  show k2_pay7 (rows2 V c t) y = (gr V c (ix2 ((win2_1.rect t).emb y 0) (64 : Fin 128)) - lse (gl V c ((win2_1.rect t).emb y 0)) : EReal)
  rw [he, hy]
  exact p7_block V c t (y 0)
/-- Its second: the log-sum-exp less the mean logit. -/
theorem en_at (r : Fin 8192) : (dat2 V c).arrAt 2 cfg2.N (ix1 r)
    = lse (gl V c r) - Ideal.div (∑ k, Ideal.exp (gl V c r k - rowMax (gl V c r)) * gl V c r k) (expSum (gl V c r)) := by
  refine Pipeline.Dat.arrAt_forall_of_covers (dat2 V c) 2
    (fun (i : S8192.Idx) (v : EReal) => v = lse (gl V c (i 0)) - Ideal.div (∑ k, Ideal.exp (gl V c (i 0) k - rowMax (gl V c (i 0))) * gl V c (i 0) k) (expSum (gl V c (i 0))))
    (by decide +kernel) (fun t _ y => ?_) (ix1 r) (Memref.isWhole_whole _)
  have h0 := Pipeline.Window.rect_emb_val win2_2 t y 0
  rw [idx2_2 t] at h0
  have hy : y = ix1 (y 0 : Fin 1024) := by
    funext a
    match a with
    | ⟨0, _⟩ => rfl
  have he : ((win2_2.rect t).emb y 0 : Fin 8192) = act ⟨t.val, lt2 t⟩ (y 0) := Fin.ext h0
  show k2_pay8 (rows2 V c t) y = lse (gl V c ((win2_2.rect t).emb y 0)) - Ideal.div (∑ k, Ideal.exp (gl V c ((win2_2.rect t).emb y 0) k - rowMax (gl V c ((win2_2.rect t).emb y 0))) * gl V c ((win2_2.rect t).emb y 0) k) (expSum (gl V c ((win2_2.rect t).emb y 0)))
  rw [he, hy]
  exact p8_block V c t (y 0)
end Second

/-! ## The gathered rows and the results -/

section Whole
variable (m : (ℓ : Loc nD τ sig) → Buf (Elt Ideal) ℓ) (c : Dev nD)

theorem toNat_of_eq {w : BitVec 32} {n : ℕ} (hn : n < 2 ^ 32) (h : w = BitVec.ofNat 32 n) : w.toNat = n := by
  rw [h, BitVec.toNat_ofNat]; exact Nat.mod_eq_of_lt hn

/-- Where actor r is q and the index map sends q to p, the gathered row r is row p, its lane 64 the lane its action
    names. -/
theorem out_at (zf : S16384x128.Idx → EReal) (r : Fin 8192) (q p : Fin 16384) (a : Fin 128) (hq : acOf m c (ix1 r) = BitVec.ofNat 32 q.val)
    (hp : imOf m c (ix1 q) = BitVec.ofNat 32 p.val) (ha : atOf m c (ix1 r) = BitVec.ofNat 32 a.val) (l : Fin 128) :
    outV (F := Ideal) zf (imOf m c) (acOf m c) (atOf m c) (ix2 r l) = zf (ix2 p (if l.val = 64 then a else l)) := by
  have eq := toNat_of_eq (by have := q.isLt; omega) hq
  have ep := toNat_of_eq (by have := p.isLt; omega) hp
  have ea := toNat_of_eq (by have := a.isLt; omega) ha
  have e1 : at1 (imOf m c) (acOf m c (ix1 r)).toNat = imOf m c (ix1 q) := at1_of_lt _ (ix1 q) eq.symm
  show rowOf (F := Ideal) zf (at1 (imOf m c) (acOf m c (ix1 r)).toNat) (atOf m c (ix1 r)) l = _
  rw [e1]
  unfold rowOf
  have f1 : (if h : (imOf m c (ix1 q)).toNat < 16384 then (⟨_, h⟩ : Fin 16384) else ⟨0, by omega⟩) = p := by
    rw [dif_pos (by rw [ep]; exact p.isLt)]; exact Fin.ext ep
  have f2 : (if h : (atOf m c (ix1 r)).toNat < 128 then (⟨_, h⟩ : Fin 128) else ⟨0, by omega⟩) = a := by
    rw [dif_pos (by rw [ea]; exact a.isLt)]; exact Fin.ext ea
  rw [f1, f2]

variable (r : Fin 8192) (q p : Fin 16384) (a : Fin 64) (hq : acOf m c (ix1 r) = BitVec.ofNat 32 q.val)
  (hp : imOf m c (ix1 q) = BitVec.ofNat 32 p.val) (ha : atOf m c (ix1 r) = BitVec.ofNat 32 a.val)
include hq hp ha

/-- The logits gathered for actor r are its entity's. -/
theorem gl_eq : gl (V2 m) c r = lo (V0 m) c p := funext fun k => by
  show V2 m c main_v1 _ = _
  rw [V2_out]
  refine (out_at m c (zOf m c) r q p ⟨a.val, by have := a.isLt; omega⟩ hq hp ha _).trans ?_
  rw [if_neg (by show ¬ k.val = 64; have := k.isLt; omega)]
  exact z_at (V0 m) c p k
/-- And lane 64 is the logit its action names. -/
theorem lane64 : gr (V2 m) c (ix2 r (64 : Fin 128)) = lo (V0 m) c p a := by
  show V2 m c main_v1 _ = _
  rw [V2_out]
  refine (out_at m c (zOf m c) r q p ⟨a.val, by have := a.isLt; omega⟩ hq hp ha _).trans ?_
  rw [if_pos (show ((64 : Fin 128)).val = 64 from rfl)]
  exact z_at (V0 m) c p a

/-- The kernel's first result at actor r: the log-probability of its action. -/
theorem ker_lp (hg : ∀ k, IsReal (lo (V0 m) c p k)) : V3 m c main_v2_0 (ix1 r) = logp (lo (V0 m) c p) a := by
  rw [V3_lp]
  refine (lp_at (V2 m) c r).trans ?_
  rw [gl_eq m c r q p a hq hp ha, lane64 m c r q p a hq hp ha]
  exact sub_lse _ a hg
/-- Its second: the entropy. -/
theorem ker_en (hg : ∀ k, IsReal (lo (V0 m) c p k)) : V3 m c main_v2_1 (ix1 r) = -(∑ k, Ideal.exp (logp (lo (V0 m) c p) k) * logp (lo (V0 m) c p) k) := by
  rw [V3_en]
  refine (en_at (V2 m) c r).trans ?_
  rw [gl_eq m c r q p a hq hp ha]
  exact lse_sub_mean _ a hg
end Whole

/-- The kernel's third result: the per-batch head. -/
theorem ker_aux (m : (ℓ : Loc nD τ sig) → Buf (Elt Ideal) ℓ) (c : Dev nD) (b : Fin 16) : V3 m c main_v0_1 (ix2 b (0 : Fin 1))
    = vmul (K := 512) (N := 1) (fun j => Ideal.div (segSum (fe (V0 m) c) (ba (V0 m) c) b j) (max (segCount (ba (V0 m) c) b) 1)) (V0 m c main_arg9) 0 := by
  rw [V3_ne m c main_v0_1 (by decide) (by decide), V2_ne m c main_v0_1 (by decide), V1_aux]
  exact aux_at (V0 m) c b

end Cert.Proof.KI
-- ==== Proof.Algebraic.lean ====
/-
  The value claim: under the index ranges, zero biases and finite operands, the kernel's three results are the
  reference's, element by element.
-/
module

public import proofs.«01_k».proof.Proof.PreInputs
public import proofs.«01_k».proof.Proof.RefAt
public import proofs.«01_k».proof.Proof.KerVal

@[expose] public section

noncomputable section

namespace Cert.Proof.KI

open Cert.KernelIdeal Cert.KernelIdeal.Gen Idealize.ShloMosaic Idealize.ShloMosaic.ValueIdx Idealize.SL.Sem Cert.Proof.Val
open scoped BigOperators

theorem word_eq (w : BitVec 32) : w = BitVec.ofNat 32 w.toNat := by simp

variable (m : (ℓ : Loc nD τ sig) → Buf (Elt Ideal) ℓ) (h : Cert.Pre_KernelIdeal_inputs_ok m) (c : Dev nD)

/-- The reference's features of the kernel's arguments. -/
def rf : FVec Ideal Cert.ReferenceIdeal.S16384x512 .f32 :=
  Ref.feats (Ref.emb (V0 m c main_arg0) (V0 m c main_arg1) (V0 m c main_arg2)) (V0 m c main_arg3) (V0 m c main_arg4) (V0 m c main_arg5) (V0 m c main_arg6)
/-- Its logits. -/
def rl : FVec Ideal Cert.ReferenceIdeal.S8192x64 .f32 := Ref.logits (rf m c) (Ref.entity (V0 m c main_arg12) (V0 m c main_arg13)) (V0 m c main_arg7) (V0 m c main_arg8)

include h

theorem rf_row (n : Fin 16384) : row (N := 16384) (K := 512) (rf m c) n = fe (V0 m) c n := by
  have H := pre_inputs m h c
  exact Ref.feats_row _ _ _ _ _ _ _ H.z2 H.z4 H.z6 n

/-- The logits are real numbers. -/
theorem lo_real (n : Fin 16384) (k : Fin 64) : IsReal (lo (V0 m) c n k) := by
  have H := pre_inputs m h c
  exact IsReal.vmul (IsReal.feat (fun _ => H.f0 _) H.f1 H.f3 H.f5) H.f7 k

/-- Each actor has an entity and an action; both programs read the same logits for it. -/
theorem actor (r : Fin 8192) : ∃ (q p : Fin 16384) (a : Fin 64), acOf m c (ix1 r) = BitVec.ofNat 32 q.val ∧ imOf m c (ix1 q) = BitVec.ofNat 32 p.val
    ∧ atOf m c (ix1 r) = BitVec.ofNat 32 a.val ∧ row (N := 8192) (K := 64) (rl m c) r = lo (V0 m) c p := by
  have H := pre_inputs m h c
  let q : Fin 16384 := ⟨(acOf m c (ix1 r)).toNat, H.ac _⟩
  let p : Fin 16384 := ⟨(imOf m c (ix1 q)).toNat, H.im _⟩
  have hq : acOf m c (ix1 r) = BitVec.ofNat 32 q.val := word_eq _
  have hp : imOf m c (ix1 q) = BitVec.ofNat 32 p.val := word_eq _
  refine ⟨q, p, ⟨(atOf m c (ix1 r)).toNat, H.at' _⟩, hq, hp, word_eq _, ?_⟩
  refine (Ref.logits_row (rf m c) _ (V0 m c main_arg7) (V0 m c main_arg8) H.z8 r p ((Ref.entity_at _ _ r q hq).trans hp)).trans ?_
  exact congrArg (fun y => vmul (K := 512) (N := 64) y (V0 m c main_arg7)) (rf_row m h c p)

/-- The first result. -/
theorem lp_eq : Ref.picked (Ref.logps (Ref.shifted (rl m c))) (Ref.actions (V0 m c main_arg14)) = V3 m c main_v2_0 := by
  funext i
  obtain ⟨r, rfl⟩ : ∃ r : Fin 8192, i = ix1 r := ⟨i 0, eq_ix1 i⟩
  obtain ⟨q, p, a, hq, hp, ha, hl⟩ := actor m h c r
  refine (Ref.picked_at _ _ r a ha).trans (Eq.trans ?_ (ker_lp m c r q p a hq hp ha (lo_real m h c p)).symm)
  rw [Ref.logps_row]
  exact congrArg (fun g => logp g a) hl
/-- The second. -/
theorem en_eq : Ref.entropy (Ref.logps (Ref.shifted (rl m c))) = V3 m c main_v2_1 := by
  funext i
  obtain ⟨r, rfl⟩ : ∃ r : Fin 8192, i = ix1 r := ⟨i 0, eq_ix1 i⟩
  obtain ⟨q, p, a, hq, hp, ha, hl⟩ := actor m h c r
  refine (Ref.entropy_at _ r).trans (Eq.trans ?_ (ker_en m c r q p a hq hp ha (lo_real m h c p)).symm)
  rw [Ref.logps_row]
  exact congrArg (fun g : Fin 64 → EReal => -(∑ k, Ideal.exp (logp g k) * logp g k)) hl
/-- The third. -/
theorem aux_eq : Ref.head (rf m c) (V0 m c main_arg9) (V0 m c main_arg10) (V0 m c main_arg11) = V3 m c main_v0_1 := by
  funext i
  obtain ⟨b, rfl⟩ : ∃ b : Fin 16, i = ix2 b (0 : Fin 1) := ⟨i 0, (eq_ix2 i).trans (congrArg (ix2 (i 0 : Fin 16)) (Subsingleton.elim (α := Fin 1) _ _))⟩
  refine (Ref.head_at _ _ _ (pre_inputs m h c).z10 _ b).trans (Eq.trans ?_ (ker_aux m c b).symm)
  refine congrArg (fun y => vmul (K := 512) (N := 1) y (V0 m c main_arg9) 0) (funext fun j => ?_)
  rw [max_comm]
  exact congrArg (fun x => Ideal.div (segSum x (ba (V0 m) c) b j) (max (segCount (ba (V0 m) c) b) 1)) (funext fun n => rf_row m h c n)

omit h in
/-- THE VALUE CLAIM. -/
theorem algebraic : Cert.algebraic_KernelIdeal_ReferenceIdeal_pre_inputs_ok := by
  intro m g m' g' h hargs
  refine ⟨fun c => V3 m c main_v2_0, fun c => V3 m c main_v2_1, fun c => V3 m c main_v0_1, ?_, ?_⟩
  · refine (θ_run (Cert.KernelIdeal.defs (F := Ideal)) _ _).mono (fun r q c => ?_) (run_main m g (pre_inputs_indices m h))
    exact ⟨q.1 c main_v2_0 rfl, q.1 c main_v2_1 rfl, q.1 c main_v0_1 rfl, args_kept m q c⟩
  · refine (θ_run (Cert.ReferenceIdeal.defs (F := Ideal)) _ _).mono (fun r q c => ?_) (Ref.run m' g')
    obtain ⟨q0, q1, q2, qa⟩ := q c
    obtain ⟨e0, e1, e2, e3, e4, e5, e6, e7, e8, e9, e10, e11, e12, e13, e14⟩ := hargs c
    have ef : Ref.featsOf m' c = rf m c := by
      unfold Ref.featsOf
      rw [e0, e1, e2, e3, e4, e5, e6]
      rfl
    have el : Ref.logitsOf m' c = rl m c := by
      unfold Ref.logitsOf
      rw [ef, e7, e8, e12, e13]
      rfl
    refine ⟨q0.trans ?_, q1.trans ?_, q2.trans ?_, qa⟩
    · rw [el, e14]; exact lp_eq m h c
    · rw [el]; exact en_eq m h c
    · rw [ef, e9, e10, e11]; exact aux_eq m h c

end Cert.Proof.KI
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_indices_ok
public import proofs.«01_k».proof.Proof.Gen.Pre_inputs_ok

public import proofs.«01_k».proof.Proof.Frames
public import proofs.«01_k».proof.Proof.PreInputs
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_indices_ok.Gen.facts,
  Cert.Pre_inputs_ok.Gen.facts, KI.frame_kernel, KI.frame_ideal, KI.frame_ideal_inputs, KI.frame_ref, KI.frame_ref_inputs, trivial, KI.algebraic⟩

end Cert.Proof

end
